-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DA1E89B#32 (((Real.sqrt 160)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S2048x16x32 : Shape := ⟨3, ![2048, 16, 32]⟩
abbrev S_ : Shape := ⟨0, ![]⟩
abbrev S2048x16x128 : Shape := ⟨3, ![2048, 16, 128]⟩
abbrev S1024x2048 : Shape := ⟨2, ![1024, 2048]⟩
abbrev S1024x128 : Shape := ⟨2, ![1024, 128]⟩
abbrev S256x2048 : Shape := ⟨2, ![256, 2048]⟩
abbrev S3 : Shape := ⟨1, ![3]⟩
abbrev S1 : Shape := ⟨1, ![1]⟩
abbrev S2048x256 : Shape := ⟨2, ![2048, 256]⟩
abbrev S256x256 : Shape := ⟨2, ![256, 256]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x256x2048 : Shape := ⟨3, ![1, 256, 2048]⟩

abbrev nBuf : Space → Nat
  | .hbm => 24
  | .vmem => 40
  | .smem => 0
  | _ => 0

abbrev bufTy : (tb : Table) → Fin (tcTables nBuf tb) → BufTy
  | .hbm, ⟨0, _⟩ => ⟨S1x1024x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S2048x16x32, .bf16⟩
  | .hbm, ⟨9, _⟩ => ⟨S_, .i32⟩
  | .hbm, ⟨10, _⟩ => ⟨S_, .bf16⟩
  | .hbm, ⟨11, _⟩ => ⟨S2048x16x128, .bf16⟩
  | .hbm, ⟨12, _⟩ => ⟨S2048x2048, .bf16⟩
  | .hbm, ⟨13, _⟩ => ⟨S_, .i32⟩
  | .hbm, ⟨14, _⟩ => ⟨S_, .bf16⟩
  | .hbm, ⟨15, _⟩ => ⟨S2048x128, .bf16⟩
  | .hbm, ⟨16, _⟩ => ⟨S1024x2048, .bf16⟩
  | .hbm, ⟨17, _⟩ => ⟨S1024x2048, .bf16⟩
  | .hbm, ⟨18, _⟩ => ⟨S1024x128, .bf16⟩
  | .hbm, ⟨19, _⟩ => ⟨S256x2048, .bf16⟩
  | .hbm, ⟨20, _⟩ => ⟨S256x2048, .bf16⟩
  | .hbm, ⟨21, _⟩ => ⟨S256x2048, .bf16⟩
  | .hbm, ⟨22, _⟩ => ⟨S256x2048, .f32⟩
  | .hbm, ⟨23, _⟩ => ⟨S1x1024x2048, .f32⟩
  | .local _ .vmem, ⟨0, _⟩ => ⟨S1x1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x128, .bf16⟩
  | .local _ .vmem, ⟨5, _⟩ => ⟨S2048x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .bf16⟩
  | .local _ .vmem, ⟨9, _⟩ => ⟨S256x2048, .bf16⟩
  | .local _ .vmem, ⟨10, _⟩ => ⟨S256x2048, .bf16⟩
  | .local _ .vmem, ⟨11, _⟩ => ⟨S2048x128, .bf16⟩
  | .local _ .vmem, ⟨12, _⟩ => ⟨S128x2048, .bf16⟩
  | .local _ .vmem, ⟨13, _⟩ => ⟨S128x2048, .bf16⟩
  | .local _ .vmem, ⟨14, _⟩ => ⟨S2048x128, .bf16⟩
  | .local _ .vmem, ⟨15, _⟩ => ⟨S128x2048, .bf16⟩
  | .local _ .vmem, ⟨16, _⟩ => ⟨S128x2048, .bf16⟩
  | .local _ .vmem, ⟨17, _⟩ => ⟨S256x2048, .bf16⟩
  | .local _ .vmem, ⟨18, _⟩ => ⟨S2048x256, .bf16⟩
  | .local _ .vmem, ⟨19, _⟩ => ⟨S2048x256, .bf16⟩
  | .local _ .vmem, ⟨20, _⟩ => ⟨S256x256, .bf16⟩
  | .local _ .vmem, ⟨21, _⟩ => ⟨S256x256, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S1024x128, .bf16⟩
  | .local _ .vmem, ⟨27, _⟩ => ⟨S1024x128, .bf16⟩
  | .local _ .vmem, ⟨28, _⟩ => ⟨S1024x128, .bf16⟩
  | .local _ .vmem, ⟨29, _⟩ => ⟨S1024x128, .bf16⟩
  | .local _ .vmem, ⟨30, _⟩ => ⟨S1024x128, .bf16⟩
  | .local _ .vmem, ⟨31, _⟩ => ⟨S128x2048, .bf16⟩
  | .local _ .vmem, ⟨32, _⟩ => ⟨S128x2048, .bf16⟩
  | .local _ .vmem, ⟨33, _⟩ => ⟨S256x2048, .f32⟩
  | .local _ .vmem, ⟨34, _⟩ => ⟨S256x2048, .f32⟩
  | .local _ .vmem, ⟨35, _⟩ => ⟨S1x1024x2048, .f32⟩
  | .local _ .vmem, ⟨36, _⟩ => ⟨S256x2048, .bf16⟩
  | .local _ .vmem, ⟨37, _⟩ => ⟨S256x2048, .bf16⟩
  | .local _ .vmem, ⟨38, _⟩ => ⟨S256x2048, .bf16⟩
  | .local _ .vmem, ⟨39, _⟩ => ⟨S256x2048, .bf16⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 2 → Bool
  | ⟨0, _⟩ => false
  | ⟨1, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc3_stg0_0 : Ref sig .tc := ⟨.vmem, 34, rfl⟩
abbrev cc3_stg1_0 : Ref sig .tc := ⟨.vmem, 35, rfl⟩
abbrev cc3_scratch0 : Ref sig .tc := ⟨.vmem, 36, rfl⟩
abbrev cc3_scratch1 : Ref sig .tc := ⟨.vmem, 37, rfl⟩
abbrev cc3_scratch2 : Ref sig .tc := ⟨.vmem, 38, rfl⟩
abbrev cc3_scratch3 : Ref sig .tc := ⟨.vmem, 39, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc3_sem0_0 : DmaSem sig := 34
abbrev cc3_sem1_0 : DmaSem sig := 35
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_21 : BitVec 32 := 2#32
  let v29 : BitVec 32 := Scalar.muli v6 c2_i32_21
  let v30 : BitVec 32 := Scalar.addi c0_i32_22 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v31 : BitVec 32 := Scalar.muli v5 c1_i32_23
  let v32 : BitVec 32 := Scalar.addi v30 v31
  v32.toNat
def k0_dev3 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v37 : BitVec 32 := Scalar.muli v6 c2_i32_26
  let v38 : BitVec 32 := Scalar.addi c0_i32_27 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v39 : BitVec 32 := Scalar.muli v5 c1_i32_28
  let v40 : BitVec 32 := Scalar.addi v38 v39
  v40.toNat
def k0_dev4 (d0 : Dev nD) : Nat :=
  let c0_i32_32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_31 : BitVec 32 := 2#32
  let v45 : BitVec 32 := Scalar.muli v6 c2_i32_31
  let v46 : BitVec 32 := Scalar.addi c0_i32_32 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v47 : BitVec 32 := Scalar.muli v5 c1_i32_33
  let v48 : BitVec 32 := Scalar.addi v46 v47
  v48.toNat
abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def k2_cond1 (i : grid2.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_17 : BitVec 32 := 0#32
  let v32 : BitVec 1 := Scalar.cmpi .ne v31 c0_i32_17
  v32

def k2_cond2 (i : grid2.Coords) : BitVec 1 :=
  let arg0 : BitVec 32 := BitVec.ofNat 32 (i 0).val
  let c0_i32_18 : BitVec 32 := 0#32
  let v33 : BitVec 1 := Scalar.cmpi .ne arg0 c0_i32_18
  let v34 : BitVec 32 := Scalar.extui v33
  let c0_i32_19 : BitVec 32 := 0#32
  let v35 : BitVec 1 := Scalar.cmpi .ne v34 c0_i32_19
  v35

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S256x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := .none

def k3_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v23 : BitVec 32 := Scalar.muli v6 c2_i32_15
  let v24 : BitVec 32 := Scalar.addi c0_i32 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v25 : BitVec 32 := Scalar.muli v5 c1_i32_16
  let v26 : BitVec 32 := Scalar.addi v24 v25
  v26.toNat
def k3_dev2 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v27 : BitVec 32 := Scalar.muli v2 c2_i32_18
  let v28 : BitVec 32 := Scalar.addi c0_i32_19 v27
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_20 : BitVec 32 := 1#32
  let v29 : BitVec 32 := Scalar.muli v7 c1_i32_20
  let v30 : BitVec 32 := Scalar.addi v28 v29
  v30.toNat
def k3_dev3 (d0 : Dev nD) : Nat :=
  let c0_i32_23 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_22 : BitVec 32 := 2#32
  let v31 : BitVec 32 := Scalar.muli v8 c2_i32_22
  let v32 : BitVec 32 := Scalar.addi c0_i32_23 v31
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_24 : BitVec 32 := 1#32
  let v33 : BitVec 32 := Scalar.muli v9 c1_i32_24
  let v34 : BitVec 32 := Scalar.addi v32 v33
  v34.toNat
def k3_dev4 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v41 : BitVec 32 := Scalar.muli v6 c2_i32_30
  let v42 : BitVec 32 := Scalar.addi c0_i32_31 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v43 : BitVec 32 := Scalar.muli v5 c1_i32_32
  let v44 : BitVec 32 := Scalar.addi v42 v43
  v44.toNat
def k3_dev5 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v49 : BitVec 32 := Scalar.muli v2 c2_i32_35
  let v50 : BitVec 32 := Scalar.addi c0_i32_36 v49
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_37 : BitVec 32 := 1#32
  let v51 : BitVec 32 := Scalar.muli v7 c1_i32_37
  let v52 : BitVec 32 := Scalar.addi v50 v51
  v52.toNat
def k3_dev6 (d0 : Dev nD) : Nat :=
  let c0_i32_41 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_40 : BitVec 32 := 2#32
  let v57 : BitVec 32 := Scalar.muli v8 c2_i32_40
  let v58 : BitVec 32 := Scalar.addi c0_i32_41 v57
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_42 : BitVec 32 := 1#32
  let v59 : BitVec 32 := Scalar.muli v9 c1_i32_42
  let v60 : BitVec 32 := Scalar.addi v58 v59
  v60.toNat
abbrev stage3_0 : Fin 1 → Memref sig .tc .vmem S256x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x1024x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 160)⁻¹ : ℝ) : EReal)
  | _ => none
-- ==== ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S1x1024x256 : Shape := ⟨3, ![1, 1024, 256]⟩
abbrev S1x1024x16x128 : Shape := ⟨4, ![1, 1024, 16, 128]⟩
abbrev S1x1024x512 : Shape := ⟨3, ![1, 1024, 512]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S_ : Shape := ⟨0, ![]⟩
abbrev S1x16x1024x1024 : Shape := ⟨4, ![1, 16, 1024, 1024]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1x1024x2048, .bf16⟩
  | .hbm, ⟨1, _⟩ => ⟨S2048x256, .bf16⟩
  | .hbm, ⟨2, _⟩ => ⟨S256x2048, .bf16⟩
  | .hbm, ⟨3, _⟩ => ⟨S256x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S1x1024x2048, .f32⟩
  | .hbm, ⟨9, _⟩ => ⟨S2048x256, .f32⟩
  | .hbm, ⟨10, _⟩ => ⟨S256x2048, .f32⟩
  | .hbm, ⟨11, _⟩ => ⟨S256x2048, .f32⟩
  | .hbm, ⟨12, _⟩ => ⟨S2048x2048, .f32⟩
  | .hbm, ⟨13, _⟩ => ⟨S2048x512, .f32⟩
  | .hbm, ⟨14, _⟩ => ⟨S2048x32, .f32⟩
  | .hbm, ⟨15, _⟩ => ⟨S2048x2048, .f32⟩
  | .hbm, ⟨16, _⟩ => ⟨S1x1024x256, .f32⟩
  | .hbm, ⟨17, _⟩ => ⟨S1x1024x2048, .f32⟩
  | .hbm, ⟨18, _⟩ => ⟨S1x1024x16x128, .f32⟩
  | .hbm, ⟨19, _⟩ => ⟨S1x1024x2048, .f32⟩
  | .hbm, ⟨20, _⟩ => ⟨S1x1024x16x128, .f32⟩
  | .hbm, ⟨21, _⟩ => ⟨S1x1024x2048, .f32⟩
  | .hbm, ⟨22, _⟩ => ⟨S1x1024x16x128, .f32⟩
  | .hbm, ⟨23, _⟩ => ⟨S1x1024x512, .f32⟩
  | .hbm, ⟨24, _⟩ => ⟨S1x1024x16x32, .f32⟩
  | .hbm, ⟨25, _⟩ => ⟨S1x1024x32, .f32⟩
  | .hbm, ⟨26, _⟩ => ⟨S1x1024x1x32, .f32⟩
  | .hbm, ⟨27, _⟩ => ⟨S_, .f32⟩
  | .hbm, ⟨28, _⟩ => ⟨S_, .f32⟩
  | .hbm, ⟨29, _⟩ => ⟨S1x16x1024x1024, .f32⟩
  | .hbm, ⟨30, _⟩ => ⟨S1x1024x16x32, .f32⟩
  | .hbm, ⟨31, _⟩ => ⟨S1x16x1024x1024, .f32⟩
  | .hbm, ⟨32, _⟩ => ⟨S1x16x1024x1024, .f32⟩
  | .hbm, ⟨33, _⟩ => ⟨S1x16x1024x1024, .f32⟩
  | .hbm, ⟨34, _⟩ => ⟨S1x16x1024x1024, .f32⟩
  | .hbm, ⟨35, _⟩ => ⟨S_, .f32⟩
  | .hbm, ⟨36, _⟩ => ⟨S1x16x1024, .f32⟩
  | .hbm, ⟨37, _⟩ => ⟨S1x16x1024x1, .f32⟩
  | .hbm, ⟨38, _⟩ => ⟨S1x16x1024x1024, .f32⟩
  | .hbm, ⟨39, _⟩ => ⟨S1x16x1024x1024, .f32⟩
  | .hbm, ⟨40, _⟩ => ⟨S1x16x1024x1024, .f32⟩
  | .hbm, ⟨41, _⟩ => ⟨S_, .f32⟩
  | .hbm, ⟨42, _⟩ => ⟨S1x16x1024, .f32⟩
  | .hbm, ⟨43, _⟩ => ⟨S1x16x1024x1, .f32⟩
  | .hbm, ⟨44, _⟩ => ⟨S1x16x1024x1024, .f32⟩
  | .hbm, ⟨45, _⟩ => ⟨S1x16x1024x1024, .f32⟩
  | .hbm, ⟨46, _⟩ => ⟨S1x16x128x1024, .f32⟩
  | .hbm, ⟨47, _⟩ => ⟨S1x1024x16x128, .f32⟩
  | .hbm, ⟨48, _⟩ => ⟨S1x1024x2048, .f32⟩
  | .hbm, ⟨49, _⟩ => ⟨S1x1024x2048, .f32⟩
  | _, _ => ⟨S1x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.KernelIdeal.Protocol.lean ====
/-
  The protocol of the two kernels that talk across the 2×2 mesh: who waits on which semaphore, who pays it, how much, and
  what is handed over with the payment.

  First kernel (weights exchange), on device `c` with partner `p = mate c` (the device across the first mesh axis):
  * barrier cell A of `c`: one unit, signalled by `p`, which hands over its three landing buffers;
  * send cell `i` of `c`: paid by `c`'s own copy `i` when its source may be reused, which gives back the lent share;
  * receive cell `i` of `c`: paid by `p`'s copy `i`, which gives back `c`'s landing buffer `i` holding `p`'s operand `i`.

  Last kernel (gather), on device `c` with peers `peer 0 c`, `peer 1 c`, `peer 2 c` (across the first axis, the second, both):
  * barrier cell B of `c`: three units, duty `d` signalled by `peer d c`, which hands over its landing buffer `d`;
  * send cell `i` and receive cell `i` of `c` as before, the copy `i` of `c` going to `peer i c`.
-/
module

public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import Idealize.ShloMosaic.Lib.Rounds
public import Idealize.ShloMosaic.Lib.Pipeline.Regions
public import Idealize.ShloMosaic.Lib.Pipeline.RegionArrays
public import Idealize.ShloMosaic.Lib.Pipeline.RegionTalk
public import Idealize.ShloMosaic.Lib.Tactic
public import Idealize.ShloMosaic.Lib.Ring.Trips

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

/-- The resources: the pipeline library's own rounds, and the rounds of the two talking kernels, whose duties are named 0, 1, 2. -/
abbrev UT : Type := Rounds.URounds (GSem nD τ sig) (Fin 3)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## The devices -/

/-- The device across the first mesh axis. -/
def mate (c : Dev nD) : Dev nD := ⟨(c.val + 2) % 4, Nat.mod_lt _ (by decide)⟩
/-- The three other devices: across the first mesh axis, across the second, across both. -/
def peer (d : Fin 3) (c : Dev nD) : Dev nD :=
  match d with
  | 0 => mate c
  | 1 => ⟨2 * (c.val / 2) + (1 - c.val % 2), by have : c.val < 4 := c.isLt; show _ < 4; omega⟩
  | 2 => ⟨3 - c.val, by show _ < 4; omega⟩

theorem mate_mate (c : Dev nD) : mate (mate c) = c := by revert c; decide
theorem peer_peer (d : Fin 3) (c : Dev nD) : peer d (peer d c) = c := by revert d c; decide

/-! ## The cells -/

abbrev barA : Sem sig := barrier0
abbrev barB : Sem sig := barrier1
/-- The send and receive semaphores of the first kernel's three copies, and of the last kernel's. -/
def sndA (i : Fin 3) : DmaSem sig := ⟨11 + i.val, by have := i.isLt; show _ < 42; omega⟩
def rcvA (i : Fin 3) : DmaSem sig := ⟨14 + i.val, by have := i.isLt; show _ < 42; omega⟩
def sndB (i : Fin 3) : DmaSem sig := ⟨36 + i.val, by have := i.isLt; show _ < 42; omega⟩
def rcvB (i : Fin 3) : DmaSem sig := ⟨39 + i.val, by have := i.isLt; show _ < 42; omega⟩

/-- What a semaphore serves as. -/
inductive Role where
  | barA | barB | sndA (i : Fin 3) | rcvA (i : Fin 3) | sndB (i : Fin 3) | rcvB (i : Fin 3) | other
  deriving DecidableEq

def roleDma (n : ℕ) : Role :=
  if h : 11 ≤ n ∧ n < 14 then .sndA ⟨n - 11, by omega⟩
  else if h : 14 ≤ n ∧ n < 17 then .rcvA ⟨n - 14, by omega⟩
  else if h : 36 ≤ n ∧ n < 39 then .sndB ⟨n - 36, by omega⟩
  else if h : 39 ≤ n ∧ n < 42 then .rcvB ⟨n - 39, by omega⟩
  else .other

def role : SemLoc sig → Role
  | .reg q => if q.val = 0 then .barA else if q.val = 1 then .barB else .other
  | .dma q => roleDma q.val

theorem role_barA : role (.reg barA) = .barA := rfl
theorem role_barB : role (.reg barB) = .barB := rfl
theorem role_sndA (i : Fin 3) : role (.dma (sndA i)) = .sndA i := by fin_cases i <;> rfl
theorem role_rcvA (i : Fin 3) : role (.dma (rcvA i)) = .rcvA i := by fin_cases i <;> rfl
theorem role_sndB (i : Fin 3) : role (.dma (sndB i)) = .sndB i := by fin_cases i <;> rfl
theorem role_rcvB (i : Fin 3) : role (.dma (rcvB i)) = .rcvB i := by fin_cases i <;> rfl

/-- A semaphore of a device's TensorCore. -/
abbrev cell (c : Dev nD) (sm : SemLoc sig) : GSem nD τ sig := ((c : Thread nD τ), sm)

/-! ## The contents exchanged -/

/-- What the devices exchange: the three operands each sends in the first kernel, and the block each sends in the last. -/
structure Msgs (F : FTy → Type) [FloatOps F] where
  s0 : Dev nD → Vec F S2048x128 .bf16
  s1 : Dev nD → Vec F S128x2048 .bf16
  s2 : Dev nD → Vec F S128x2048 .bf16
  g : Dev nD → Vec F S256x2048 .bf16

/-- A whole buffer at contents `f`, at share `q`. -/
abbrev pt (c : Dev nD) (b : Ref sig .tc) (q : PosShare TreeShare) (f : Buf (Elt F) ((c : Thread nD τ).loc b)) : sProp 𝕄 :=
  ((Memref.whole b).view.loc (c : Thread nD τ)) ↦{q} f
/-- A whole buffer at some contents. -/
abbrev ptAny (c : Dev nD) (b : Ref sig .tc) : sProp 𝕄 := iprop(∃ f : Buf (Elt F) ((c : Thread nD τ).loc b), pt c b fullShare f)

/-- What a copy of the first kernel credits, and one of the last. -/
def credA (i : Fin 3) : ℕ :=
  match i with
  | 0 => (Memref.whole cc0_scratch3 : Memref sig .tc .vmem S2048x128 .bf16).view.dmaCredit
  | 1 => (Memref.whole cc0_scratch4 : Memref sig .tc .vmem S128x2048 .bf16).view.dmaCredit
  | 2 => (Memref.whole cc0_scratch5 : Memref sig .tc .vmem S128x2048 .bf16).view.dmaCredit
def credB (_ : Fin 3) : ℕ := (Memref.whole cc3_scratch1 : Memref sig .tc .vmem S256x2048 .bf16).view.dmaCredit

theorem credA_pos (i : Fin 3) : 0 < credA i := by
  fin_cases i <;> exact View.dmaCredit_pos _ (by decide)
theorem credB_pos (i : Fin 3) : 0 < credB i := View.dmaCredit_pos _ (by decide)

/-! ## What is handed over -/

/-- The partner's three landing buffers, at any contents, and that the partner's receive cells are open. -/
def payBarA (c : Dev nD) : sProp 𝕄 :=
  iprop(ptAny (mate c) cc0_scratch3 ∗ ptAny (mate c) cc0_scratch4 ∗ ptAny (mate c) cc0_scratch5
    ∗ reached ER (cell (mate c) (.dma (rcvA 0))) 0 ∗ reached ER (cell (mate c) (.dma (rcvA 1))) 0 ∗ reached ER (cell (mate c) (.dma (rcvA 2))) 0)
/-- The lent half of a sent operand. -/
def paySndA (T : Msgs F) (c : Dev nD) (i : Fin 3) : sProp 𝕄 :=
  match i with
  | 0 => pt c cc0_scratch0 fullShare.right (T.s0 c)
  | 1 => pt c cc0_scratch1 fullShare.right (T.s1 c)
  | 2 => pt c cc0_scratch2 fullShare.right (T.s2 c)
/-- A landing buffer holding the partner's operand. -/
def payRcvA (T : Msgs F) (c : Dev nD) (i : Fin 3) : sProp 𝕄 :=
  match i with
  | 0 => pt c cc0_scratch3 fullShare (T.s0 (mate c))
  | 1 => pt c cc0_scratch4 fullShare (T.s1 (mate c))
  | 2 => pt c cc0_scratch5 fullShare (T.s2 (mate c))
/-- Peer `d`'s landing buffer `d`, at any contents, and that its receive cell `d` is open. -/
def payBarB (c : Dev nD) (d : Fin 3) : sProp 𝕄 :=
  match d with
  | 0 => iprop(ptAny (peer 0 c) cc3_scratch1 ∗ reached ER (cell (peer 0 c) (.dma (rcvB 0))) 0)
  | 1 => iprop(ptAny (peer 1 c) cc3_scratch2 ∗ reached ER (cell (peer 1 c) (.dma (rcvB 1))) 0)
  | 2 => iprop(ptAny (peer 2 c) cc3_scratch3 ∗ reached ER (cell (peer 2 c) (.dma (rcvB 2))) 0)
/-- The share of the sent block lent to copy `i`. -/
def paySndB (T : Msgs F) (c : Dev nD) (i : Fin 3) : sProp 𝕄 := pt c cc3_scratch0 (shares3 fullShare i) (T.g c)
/-- A landing buffer holding the peer's block. -/
def payRcvB (T : Msgs F) (c : Dev nD) (i : Fin 3) : sProp 𝕄 :=
  match i with
  | 0 => pt c cc3_scratch1 fullShare (T.g (peer 0 c))
  | 1 => pt c cc3_scratch2 fullShare (T.g (peer 1 c))
  | 2 => pt c cc3_scratch3 fullShare (T.g (peer 2 c))

/-! ## The schedule -/

def dutiesOf : Role → Finset (Fin 3)
  | .barB => Finset.univ
  | .other => ∅
  | _ => {0}
def amountOf : Role → ℕ
  | .sndA i => credA i
  | .rcvA i => credA i
  | .sndB i => credB i
  | .rcvB i => credB i
  | _ => 1
def payOf (T : Msgs F) (c : Dev nD) : Role → Fin 3 → sProp 𝕄
  | .barA, _ => payBarA c
  | .barB, d => payBarB c d
  | .sndA i, _ => paySndA T c i
  | .rcvA i, _ => payRcvA T c i
  | .sndB i, _ => paySndB T c i
  | .rcvB i, _ => payRcvB T c i
  | .other, _ => iprop(emp)

theorem amountOf_pos (ro : Role) : 0 < amountOf ro := by
  cases ro <;> first | exact Nat.one_pos | exact credA_pos _ | exact credB_pos 0

/-- Each cell takes one round. -/
def rd (T : Msgs F) : Rounds.Schedule (GSem nD τ sig) (Fin 3) 𝕄 where
  duties g r := if r = 0 ∧ g.1.2 = .tc then dutiesOf (role g.2) else ∅
  unitless _ := False
  amount g _ _ := amountOf (role g.2)
  payload g _ d := payOf T g.1.1 (role g.2) d
  amount_pos _ _ _ _ := amountOf_pos _

instance payOf_storable (T : Msgs F) (c : Dev nD) (ro : Role) (d : Fin 3) : BI.Storable (upEmb : UEmb _ 𝕄) (payOf T c ro d) := by
  cases ro with
  | barA => show BI.Storable _ (payBarA c); unfold payBarA; infer_instance
  | barB => show BI.Storable _ (payBarB c d); fin_cases d <;> (unfold payBarB; infer_instance)
  | sndA i => show BI.Storable _ (paySndA T c i); fin_cases i <;> (unfold paySndA; infer_instance)
  | rcvA i => show BI.Storable _ (payRcvA T c i); fin_cases i <;> (unfold payRcvA; infer_instance)
  | sndB i => show BI.Storable _ (paySndB T c i); unfold paySndB; infer_instance
  | rcvB i => show BI.Storable _ (payRcvB T c i); fin_cases i <;> (unfold payRcvB; infer_instance)
  | other => show BI.Storable _ (iprop(emp) : sProp 𝕄); infer_instance

instance rd_storable (T : Msgs F) (g : GSem nD τ sig) (r : ℕ) (d : Fin 3) : BI.Storable (upEmb : UEmb _ 𝕄) ((rd T).payload g r d) :=
  payOf_storable T g.1.1 (role g.2) d

theorem rd_duties (T : Msgs F) (c : Dev nD) (sm : SemLoc sig) : (rd T).duties (cell c sm) 0 = dutiesOf (role sm) := by
  dsimp only [rd]; exact if_pos ⟨rfl, rfl⟩
theorem rd_later (T : Msgs F) (g : GSem nD τ sig) : ∀ r, 0 + 1 ≤ r → (rd T).duties g r = ∅ := fun r hr => by
  dsimp only [rd]; exact if_neg fun h => by have := h.1; omega
theorem rd_amount (T : Msgs F) (c : Dev nD) (sm : SemLoc sig) (r : ℕ) (d : Fin 3) : (rd T).amount (cell c sm) r d = amountOf (role sm) := rfl
theorem rd_payload (T : Msgs F) (c : Dev nD) (sm : SemLoc sig) (r : ℕ) (d : Fin 3) : (rd T).payload (cell c sm) r d = payOf T c (role sm) d := rfl

/-- A cell with one duty expects that duty's amount, and its payload is that duty's. -/
theorem rd_expect (T : Msgs F) (c : Dev nD) (sm : SemLoc sig) (h : dutiesOf (role sm) = {0}) : (rd T).expect (cell c sm) 0 = amountOf (role sm) := by
  unfold Schedule.expect Schedule.amountOf; rw [rd_duties, h, Finset.sum_singleton]; rfl
theorem rd_rest (T : Msgs F) (c : Dev nD) (sm : SemLoc sig) (h : dutiesOf (role sm) = {0}) :
    bigSep ((rd T).duties (cell c sm) 0 \ ∅) (fun d => (rd T).payload (cell c sm) 0 d) = payOf T c (role sm) 0 := by
  rw [Finset.sdiff_empty, rd_duties, h, bigSep_singleton]; rfl
theorem rd_expect_barB (T : Msgs F) (c : Dev nD) : (rd T).expect (cell c (.reg barB)) 0 = 3 := by
  unfold Schedule.expect Schedule.amountOf; rw [rd_duties, role_barB]; rfl
theorem bigSep_three (Φ : Fin 3 → sProp 𝕄) : bigSep Finset.univ Φ = iprop(Φ 0 ∗ Φ 1 ∗ Φ 2) :=
  bigSep_univ_eq_bigSepL [0, 1, 2] (by decide) (by decide) Φ
theorem rd_rest_barB (T : Msgs F) (c : Dev nD) :
    bigSep ((rd T).duties (cell c (.reg barB)) 0 \ ∅) (fun d => (rd T).payload (cell c (.reg barB)) 0 d)
      = iprop(payBarB c 0 ∗ payBarB c 1 ∗ payBarB c 2) := by
  rw [Finset.sdiff_empty, rd_duties, role_barB]
  exact bigSep_three _

/-! ## What is owed; the levels -/

/-- What a device owes for the first kernel: its partner's three receive credits and its partner's barrier unit. -/
def dueA (c : Dev nD) : CellTallies nD τ sig Unit :=
  tallyAt (cell (mate c) (.dma (rcvA 2))) () (credA 2) + tallyAt (cell (mate c) (.dma (rcvA 1))) () (credA 1)
    + tallyAt (cell (mate c) (.dma (rcvA 0))) () (credA 0) + tallyAt (cell (mate c) (.reg barA)) () 1
/-- What a device owes for the last kernel: each peer's receive credit and barrier unit. -/
def dueB (c : Dev nD) : CellTallies nD τ sig Unit :=
  tallyAt (cell (peer 2 c) (.dma (rcvB 2))) () (credB 2) + tallyAt (cell (peer 1 c) (.dma (rcvB 1))) () (credB 1)
    + tallyAt (cell (peer 0 c) (.dma (rcvB 0))) () (credB 0)
    + tallyAt (cell (peer 2 c) (.reg barB)) () 1 + tallyAt (cell (peer 1 c) (.reg barB)) () 1 + tallyAt (cell (peer 0 c) (.reg barB)) () 1

def L (g : GSem nD τ sig) : Finset Unit := if g.1.2 = .tc then {()} else ∅
/-- Staging and send cells lowest; then the first kernel's barrier and receive cells; then the last kernel's. -/
def lvOf : Role → ℕ
  | .barA => 1
  | .rcvA _ => 2
  | .barB => 3
  | .rcvB _ => 4
  | _ => 0
def lv (g : GSem nD τ sig) (_ : Unit) : ℕ := lvOf (role g.2)

theorem L_tc (c : Dev nD) (sm : SemLoc sig) : L (cell c sm) = {()} := if_pos rfl
theorem L_of_ne (g : GSem nD τ sig) (h : g.1.2 ≠ .tc) : L g = ∅ := if_neg h

/-- A tally all of whose cells are TensorCore cells above level `b`. -/
def Above (b : ℕ) (O : CellTallies nD τ sig Unit) : Prop := ∀ (g : GSem nD τ sig) (i : Unit), 0 < O g i → i ∈ L g ∧ b < lv g i

theorem Above.zero (b : ℕ) : Above b 0 := fun _ _ h => absurd h (Nat.lt_irrefl 0)
theorem Above.add {b : ℕ} {O O' : CellTallies nD τ sig Unit} (h : Above b O) (h' : Above b O') : Above b (O + O') := fun g i hg => by
  rw [Pi.add_apply, Finsupp.add_apply] at hg
  rcases Nat.add_pos_iff_pos_or_pos.mp hg with hg | hg
  · exact h g i hg
  · exact h' g i hg
theorem Above.at {b : ℕ} (c : Dev nD) (sm : SemLoc sig) (n : ℕ) (h : b < lvOf (role sm)) : Above b (tallyAt (cell c sm) () n) := fun g i hg => by
  rw [tallyAt_apply] at hg
  by_cases h' : g = cell c sm ∧ i = ()
  · rw [h'.1, L_tc]; exact ⟨Finset.mem_singleton_self _, h⟩
  · rw [if_neg h'] at hg; exact absurd hg (Nat.lt_irrefl 0)
theorem Above.mono {b b' : ℕ} {O : CellTallies nD τ sig Unit} (h : Above b' O) (hb : b ≤ b') : Above b O := fun g i hg =>
  ⟨(h g i hg).1, Nat.lt_of_le_of_lt hb (h g i hg).2⟩

theorem Above.mayWait {b : ℕ} {O : CellTallies nD τ sig Unit} (h : Above b O) (c : Dev nD) (sm : SemLoc sig) (hs : lvOf (role sm) ≤ b) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (h g u hg).1) (fun p hp => by rw [Finset.mem_singleton.mp hp]; exact hs) (fun g u hg => (h g u hg).2)

theorem dueA_above (c : Dev nD) : Above 0 (dueA c) := by
  unfold dueA
  refine .add (.add (.add (.at _ _ _ ?_) (.at _ _ _ ?_)) (.at _ _ _ ?_)) (.at _ _ _ ?_) <;> decide
theorem dueB_above (c : Dev nD) : Above 2 (dueB c) := by
  unfold dueB
  refine .add (.add (.add (.add (.add (.at _ _ _ ?_) (.at _ _ _ ?_)) (.at _ _ _ ?_)) (.at _ _ _ ?_)) (.at _ _ _ ?_)) (.at _ _ _ ?_) <;> decide

/-! ## The records: every cell's invariant, and that round 0 of every barrier cell is reached -/

def barCells : Finset (GSem nD τ sig) := Finset.univ.biUnion fun c : Dev nD => {cell c (.reg barA), cell c (.reg barB)}
/-- The scoped cells of the two talking kernels. -/
def ownSem : Fin 6 → SemLoc sig
  | 0 => .dma (sndA 0) | 1 => .dma (sndA 1) | 2 => .dma (sndA 2) | 3 => .dma (rcvA 0) | 4 => .dma (rcvA 1) | 5 => .dma (rcvA 2)
def ownSemB : Fin 6 → SemLoc sig
  | 0 => .dma (sndB 0) | 1 => .dma (sndB 1) | 2 => .dma (sndB 2) | 3 => .dma (rcvB 0) | 4 => .dma (rcvB 1) | 5 => .dma (rcvB 2)

/-- The one cell invariant and reached fact a device consults at a time: a map of names under which every cell of the
    protocol has its invariant, and every barrier cell has round 0 reached. -/
def records (T : Msgs F) (κ : GSem nD τ sig → ℕ) : sProp 𝕄 :=
  iprop((bigSep Finset.univ fun c : Dev nD => bigSep Finset.univ fun k : Fin 2 => cellInv ER (rd T) (κ (cell c (.reg (![barA, barB] k)))) (cell c (.reg (![barA, barB] k))))
    ∗ (bigSep Finset.univ fun c : Dev nD => bigSep Finset.univ fun k : Fin 6 => cellInv ER (rd T) (κ (cell c (ownSem k))) (cell c (ownSem k)))
    ∗ (bigSep Finset.univ fun c : Dev nD => bigSep Finset.univ fun k : Fin 6 => cellInv ER (rd T) (κ (cell c (ownSemB k))) (cell c (ownSemB k)))
    ∗ (bigSep Finset.univ fun c : Dev nD => bigSep Finset.univ fun k : Fin 2 => reached ER (cell c (.reg (![barA, barB] k))) 0))

instance records_persistent (T : Msgs F) (κ : GSem nD τ sig → ℕ) : BI.Persistent (records T κ) := by unfold records; infer_instance

theorem bigSep_two_at (Φ : Dev nD → Fin 2 → sProp 𝕄) (c : Dev nD) (k : Fin 2) :
    (bigSep Finset.univ fun c : Dev nD => bigSep Finset.univ fun k : Fin 2 => Φ c k) ⊢ Φ c k :=
  (bigSep_elim (Finset.mem_univ c)).trans (bigSep_elim (Finset.mem_univ k))
theorem bigSep_six_at (Φ : Dev nD → Fin 6 → sProp 𝕄) (c : Dev nD) (k : Fin 6) :
    (bigSep Finset.univ fun c : Dev nD => bigSep Finset.univ fun k : Fin 6 => Φ c k) ⊢ Φ c k :=
  (bigSep_elim (Finset.mem_univ c)).trans (bigSep_elim (Finset.mem_univ k))

section Records
variable (T : Msgs F) (κ : GSem nD τ sig → ℕ) (c : Dev nD)

theorem inv_bar (k : Fin 2) : records T κ ⊢ cellInv ER (rd T) (κ (cell c (.reg (![barA, barB] k)))) (cell c (.reg (![barA, barB] k))) := by
  unfold records; iintro ⟨H, -, -, -⟩; iapply (bigSep_two_at (fun c k => cellInv ER (rd T) (κ (cell c (.reg (![barA, barB] k)))) (cell c (.reg (![barA, barB] k)))) c k); iexact H
theorem inv_barA : records T κ ⊢ cellInv ER (rd T) (κ (cell c (.reg barA))) (cell c (.reg barA)) := inv_bar T κ c 0
theorem inv_barB : records T κ ⊢ cellInv ER (rd T) (κ (cell c (.reg barB))) (cell c (.reg barB)) := inv_bar T κ c 1
theorem reach_bar (k : Fin 2) : records T κ ⊢ reached ER (cell c (.reg (![barA, barB] k))) 0 := by
  unfold records; iintro ⟨-, -, -, H⟩; iapply (bigSep_two_at (fun c k => (reached ER (cell c (.reg (![barA, barB] k))) 0 : sProp 𝕄)) c k); iexact H
theorem reach_barA : records T κ ⊢ reached ER (cell c (.reg barA)) 0 := reach_bar T κ c 0
theorem reach_barB : records T κ ⊢ reached ER (cell c (.reg barB)) 0 := reach_bar T κ c 1
theorem inv_own (k : Fin 6) : records T κ ⊢ cellInv ER (rd T) (κ (cell c (ownSem k))) (cell c (ownSem k)) := by
  unfold records; iintro ⟨-, H, -, -⟩; iapply (bigSep_six_at (fun c k => cellInv ER (rd T) (κ (cell c (ownSem k))) (cell c (ownSem k))) c k); iexact H
theorem inv_ownB (k : Fin 6) : records T κ ⊢ cellInv ER (rd T) (κ (cell c (ownSemB k))) (cell c (ownSemB k)) := by
  unfold records; iintro ⟨-, -, H, -⟩; iapply (bigSep_six_at (fun c k => cellInv ER (rd T) (κ (cell c (ownSemB k))) (cell c (ownSemB k))) c k); iexact H
theorem inv_sndA (i : Fin 3) : records T κ ⊢ cellInv ER (rd T) (κ (cell c (.dma (sndA i)))) (cell c (.dma (sndA i))) := by
  fin_cases i
  · exact inv_own T κ c 0
  · exact inv_own T κ c 1
  · exact inv_own T κ c 2
theorem inv_rcvA (i : Fin 3) : records T κ ⊢ cellInv ER (rd T) (κ (cell c (.dma (rcvA i)))) (cell c (.dma (rcvA i))) := by
  fin_cases i
  · exact inv_own T κ c 3
  · exact inv_own T κ c 4
  · exact inv_own T κ c 5
theorem inv_sndB (i : Fin 3) : records T κ ⊢ cellInv ER (rd T) (κ (cell c (.dma (sndB i)))) (cell c (.dma (sndB i))) := by
  fin_cases i
  · exact inv_ownB T κ c 0
  · exact inv_ownB T κ c 1
  · exact inv_ownB T κ c 2
theorem inv_rcvB (i : Fin 3) : records T κ ⊢ cellInv ER (rd T) (κ (cell c (.dma (rcvB i)))) (cell c (.dma (rcvB i))) := by
  fin_cases i
  · exact inv_ownB T κ c 3
  · exact inv_ownB T κ c 4
  · exact inv_ownB T κ c 5

/-- Once its round is over a cell gives its counter back at zero. -/
theorem close_cell (n : ℕ) (g : GSem nD τ sig) : iprop(cellInv ER (rd T) n g ∗ atPos ER g (0 + 1) ∅ 0) ⊢ (|={Set.univ}=> semVal g 0 : sProp 𝕄) :=
  Rounds.cell_close ER (rd T) (Set.mem_univ n) id (rd_later T g)
/-- A dormant cell is opened with its counter at zero. -/
theorem open_cell (n : ℕ) (g : GSem nD τ sig) :
    iprop(cellInv ER (rd T) n g ∗ openTok ER g ∗ semVal g 0) ⊢ (|={Set.univ}=> iprop(atPos ER g 0 ∅ 0 ∗ reached ER g 0) : sProp 𝕄) :=
  Rounds.cell_open ER (rd T) (Set.mem_univ n)
end Records

end Cert.KernelIdeal.Talk
-- ==== Proof.KernelIdeal.Steps.lean ====
/-
  The steps of the two talking kernels over the protocol, each once: a wait on a cell with one duty, the waits on the two
  barrier cells, a remote copy; a conditional store.
-/
module

public import proofs.«01_k».proof.Proof.KernelIdeal.Protocol

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

abbrev 𝒱₀ : Variants := Variants.none

/-- What a device owes, whatever waits it has recorded. -/
def owing (c : Dev nD) (O : CellTallies nD τ sig Unit) : sProp 𝕄 := iprop(∃ W, owes (c : Thread nD τ) O W)

variable (T : Msgs F) (κ : GSem nD τ sig → ℕ) (c : Dev nD)

/-- The weakest precondition of a device's kernel code. -/
abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A wait on a DMA cell with one duty, above whose level nothing is owed but `O`: the duty's payload comes with it. -/
theorem wait_dma {α : Type} {sp sp' : Space} {s s' : Shape} {e e' : EltTy} {b : ℕ} {O : CellTallies nD τ sig Unit} (q : DmaSem sig)
    (hI : records T κ ⊢ cellInv ER (rd T) (κ (cell c (.dma q))) (cell c (.dma q)))
    (hd : dutiesOf (role (.dma q)) = {0}) (N : ℕ) (hk : amountOf (role (.dma q)) = N) (hO : Above b O) (hb : lvOf (role (.dma q)) ≤ b)
    {src : Memref sig .tc sp s e} {dst : Memref sig .tc sp' s' e'} {h₁ h₂}
    (hn : dst.view.dmaCredit = N) {P : sProp 𝕄} (hP : payOf T c (role (.dma q)) 0 ⊢ P)
    {k : PUnit → Prog (TpuEff nD τ sig (Elt F) Λ₀ .tc) α} {Q : α → sProp 𝕄} :
    iprop(records T κ ∗ levAts L lv ∗ cred (tallyAt (cell c (.dma q)) () N) ∗ owing c O ∗ atPos ER (cell c (.dma q)) 0 ∅ 0)
      ⊢ iprop((owing c O ∗ atPos ER (cell c (.dma q)) (0 + 1) ∅ 0 ∗ P -∗ run c (k ⟨⟩) Q)
          -∗ run c (.op (.waitDma2 q src dst h₁ h₂) k) Q) := by
  rw [← hn]
  unfold owing
  iintro ⟨#HR, #HL, Hc, ⟨%W, HO⟩, Ha⟩ Hk
  iapply (Rounds.wp_wait_rest_token 𝒱₀ ER (rd T) (c : Thread nD τ) none (κ := κ (cell c (.dma q)))
      (wpE_waitDma2_eq 𝒱₀ (c : Thread nD τ) none Set.univ) (Set.mem_univ _) () (O := O) (W := W) (R := 0) (m := 0) (T := ∅)
      (by rw [Nat.zero_add, rd_expect T c _ hd, hk, hn])) $$ [Hc HO Ha]
  · isplitr; · iapply hI; iexact HR
    isplitl [Hc]; · iexact Hc
    isplitl [HO]; · iexact HO
    isplitr; · iapply (hO.mayWait c _ hb); iexact HL
    iexact Ha
  iintro ⟨HO, Ha, -, Hpay⟩
  iapply Hk
  isplitl [HO]; · iexists _; iexact HO
  isplitl [Ha]; · iexact Ha
  iapply hP
  iapply (Entails.of_eq (rd_rest T c (.dma q) hd)) $$ Hpay

/-- The wait on the first kernel's barrier cell. -/
theorem wait_barA {α : Type} {b : ℕ} {O : CellTallies nD τ sig Unit} (hO : Above b O) (hb : 1 ≤ b)
    {k : PUnit → Prog (TpuEff nD τ sig (Elt F) Λ₀ .tc) α} {Q : α → sProp 𝕄} :
    iprop(records T κ ∗ levAts L lv ∗ cred (tallyAt (cell c (.reg barA)) () 1) ∗ owing c O ∗ atPos ER (cell c (.reg barA)) 0 ∅ 0)
      ⊢ iprop((owing c O ∗ atPos ER (cell c (.reg barA)) (0 + 1) ∅ 0 ∗ payBarA c -∗ run c (k ⟨⟩) Q)
          -∗ run c (.op (.semWait barA 1) k) Q) := by
  unfold owing
  have hp : bigSep ((rd T).duties (cell c (.reg barA)) 0 \ ∅) (fun d => (rd T).payload (cell c (.reg barA)) 0 d) ⊢ payBarA c :=
    Entails.of_eq (rd_rest T c (.reg barA) rfl)
  iintro ⟨#HR, #HL, Hc, ⟨%W, HO⟩, Ha⟩ Hk
  iapply (Rounds.wp_wait_rest_token 𝒱₀ ER (rd T) (c : Thread nD τ) none (κ := κ (cell c (.reg barA)))
      (wpE_semWait_eq 𝒱₀ (c : Thread nD τ) none Set.univ) (Set.mem_univ _) () (O := O) (W := W) (R := 0) (m := 0) (T := ∅)
      (by rw [Nat.zero_add, rd_expect T c _ rfl]; rfl)) $$ [Hc HO Ha]
  · isplitr; · iapply (inv_barA T κ c); iexact HR
    isplitl [Hc]; · iexact Hc
    isplitl [HO]; · iexact HO
    isplitr; · iapply (hO.mayWait c (.reg barA) hb); iexact HL
    iexact Ha
  iintro ⟨HO, Ha, -, Hpay⟩
  iapply Hk
  isplitl [HO]; · iexists _; iexact HO
  isplitl [Ha]; · iexact Ha
  iapply hp; iexact Hpay

/-- The wait on the last kernel's barrier cell, for all three units. -/
theorem wait_barB {α : Type} {b : ℕ} {O : CellTallies nD τ sig Unit} (hO : Above b O) (hb : 3 ≤ b)
    {k : PUnit → Prog (TpuEff nD τ sig (Elt F) Λ₀ .tc) α} {Q : α → sProp 𝕄} :
    iprop(records T κ ∗ levAts L lv ∗ cred (tallyAt (cell c (.reg barB)) () 3) ∗ owing c O ∗ atPos ER (cell c (.reg barB)) 0 ∅ 0)
      ⊢ iprop((owing c O ∗ atPos ER (cell c (.reg barB)) (0 + 1) ∅ 0 ∗ (payBarB c 0 ∗ payBarB c 1 ∗ payBarB c 2) -∗ run c (k ⟨⟩) Q)
          -∗ run c (.op (.semWait barB 3) k) Q) := by
  unfold owing
  iintro ⟨#HR, #HL, Hc, ⟨%W, HO⟩, Ha⟩ Hk
  iapply (Rounds.wp_wait_rest_token 𝒱₀ ER (rd T) (c : Thread nD τ) none (κ := κ (cell c (.reg barB)))
      (wpE_semWait_eq 𝒱₀ (c : Thread nD τ) none Set.univ) (Set.mem_univ _) () (O := O) (W := W) (R := 0) (m := 0) (T := ∅)
      (by rw [Nat.zero_add, rd_expect_barB])) $$ [Hc HO Ha]
  · isplitr; · iapply (inv_barB T κ c); iexact HR
    isplitl [Hc]; · iexact Hc
    isplitl [HO]; · iexact HO
    isplitr; · iapply (hO.mayWait c (.reg barB) hb); iexact HL
    iexact Ha
  iintro ⟨HO, Ha, -, Hpay⟩
  iapply Hk
  isplitl [HO]; · iexists _; iexact HO
  isplitl [Ha]; · iexact Ha
  iapply (Entails.of_eq (rd_rest_barB T c)) $$ Hpay

/-- A barrier signal to device `n`, paying duty `d` of its barrier cell `q`. -/
theorem signal_bar {α : Type} {O₀ : CellTallies nD τ sig Unit} (O : CellTallies nD τ sig Unit) (n c' : Dev nD) (hn : n = c') (q : Sem sig) (d : Fin 3)
    (hI : records T κ ⊢ cellInv ER (rd T) (κ (cell c' (.reg q))) (cell c' (.reg q))) (hR : records T κ ⊢ reached ER (cell c' (.reg q)) 0)
    (hd : d ∈ dutiesOf (role (.reg q))) (hk : amountOf (role (.reg q)) = 1) (hO : O₀ = O + tallyAt (cell c' (.reg q)) () 1)
    {P : sProp 𝕄} (hP : P ⊢ payOf T c' (role (.reg q)) d)
    {k : PUnit → Prog (TpuEff nD τ sig (Elt F) Λ₀ .tc) α} {Q : α → sProp 𝕄} :
    iprop(records T κ ∗ owing c O₀ ∗ dutyTok ER (cell c' (.reg q)) 0 d ∗ P)
      ⊢ iprop((owing c O -∗ run c (k ⟨⟩) Q) -∗ run c (.op (.semSignal (Dev.tc n) q 1) k) Q) := by
  subst hn
  unfold owing
  iintro ⟨#HR, ⟨%W, HO⟩, Ht, Hp⟩ Hk
  iapply (Rounds.wp_signal 𝒱₀ ER (rd T) (c : Thread nD τ) none (dst := (n : Thread nD τ)) (sem := q) (r := 0) (d := d) (κ := κ (cell n (.reg q)))
      (by rw [rd_duties]; exact hd) hk () O hO (W := W)) $$ [HO Ht Hp]
  · isplitr; · iapply hI; iexact HR
    isplitl [HO]; · iexact HO
    isplitl [Ht]; · iexact Ht
    isplitl [Hp]; · iapply (Entails.of_eq (rd_payload T n (.reg q) 0 d).symm); iapply hP; iexact Hp
    iapply hR; iexact HR
  iintro HO
  iapply Hk
  iexists W; iexact HO

/-- A remote copy to device `n`: the lent share of the source goes to the send cell's payload, the target, rewritten, to the
    receive cell's. -/
theorem send_dma {α : Type} {sp sp' : Space} {s : Shape} {e : EltTy} {O₀ : CellTallies nD τ sig Unit} (O : CellTallies nD τ sig Unit) (n c' : Dev nD) (hn : n = c')
    (qs qr : DmaSem sig) {src : Memref sig .tc sp s e} {dst : Memref sig .tc sp' s e} {hsc : dst.view.ref.isScScratch = false}
    {hsrc : src.view.WordExact} {hdst : dst.view.WordExact} {hsem : DmaTarget.Typed sp (.dma qr) (.remote (Dev.tc n) dst (.dma qs) hsc)}
    (hI : records T κ ⊢ cellInv ER (rd T) (κ (cell c (.dma qs))) (cell c (.dma qs)))
    (hI' : records T κ ⊢ cellInv ER (rd T) (κ (cell c' (.dma qr))) (cell c' (.dma qr)))
    (hd : dutiesOf (role (.dma qs)) = {0}) (hd' : dutiesOf (role (.dma qr)) = {0})
    (N : ℕ) (hN : dst.view.amount (.dma qr) = N) (hk : amountOf (role (.dma qs)) = N) (hk' : amountOf (role (.dma qr)) = N)
    (hO : O₀ = O + tallyAt (cell c' (.dma qr)) () N)
    (hset : src.view.set = Finset.univ) (hset' : dst.view.set = Finset.univ)
    {q : PosShare TreeShare} {fs : Buf (Elt F) (src.view.loc (c : Thread nD τ))} {fd : Buf (Elt F) (dst.view.loc (c' : Thread nD τ))}
    (hpay : (src.view.loc (c : Thread nD τ) ↦{q} fs) ⊢ payOf T c (role (.dma qs)) 0)
    (hpay' : (dst.view.loc (c' : Thread nD τ) ↦{fullShare} (dst.view.write (Elt F) fd (src.view.read (Elt F) fs) Finset.univ))
      ⊢ payOf T c' (role (.dma qr)) 0)
    {k : PUnit → Prog (TpuEff nD τ sig (Elt F) Λ₀ .tc) α} {Q : α → sProp 𝕄} :
    iprop(records T κ ∗ (src.view.loc (c : Thread nD τ) ↦{q} fs) ∗ (dst.view.loc (c' : Thread nD τ) ↦{fullShare} fd)
        ∗ owing c O₀ ∗ dutyTok ER (cell c (.dma qs)) 0 0 ∗ reached ER (cell c (.dma qs)) 0
        ∗ dutyTok ER (cell c' (.dma qr)) 0 0 ∗ reached ER (cell c' (.dma qr)) 0)
      ⊢ iprop((cred (tallyAt (cell c (.dma qs)) () N) ∗ owing c O -∗ run c (k ⟨⟩) Q)
          -∗ run c (.op (.enqueueDma src (.remote (Dev.tc n) dst (.dma qs) hsc) (.dma qr) hsrc hdst hsem) k) Q) := by
  subst hn
  unfold owing
  rw [← hset] at hpay
  rw [← hset'] at hpay'
  rw [← hset, ← hset']
  iintro ⟨#HR, Hs, Hd, ⟨%W, HO⟩, Ht, Hr, Ht', Hr'⟩ Hk
  iapply (Rounds.wp_send_pointsTo 𝒱₀ ER (rd T) (c : Thread nD τ) none (c' := (n : Thread nD τ)) (src := src) (dst := dst)
      (sS := .dma qs) (sem := .dma qr) (q := q) (fs := fs) (κ₁ := κ (cell c (.dma qs))) (κ₂ := κ (cell n (.dma qr)))
      (r₁ := 0) (r₂ := 0) (d₁ := 0) (d₂ := 0) (fd := fd)
      (by rw [rd_duties, hd]; exact Finset.mem_singleton_self _) (by rw [rd_duties, hd']; exact Finset.mem_singleton_self _)
      () () N hN hk hk' O hO (W := W) hpay hpay') $$ [Hs Hd HO Ht Hr Ht' Hr']
  · isplitr; · iapply hI; iexact HR
    isplitr; · iapply hI'; iexact HR
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

theorem zero2 : (![0, 0] : Fin 2 → ℕ) = fun _ => 0 := by funext a; fin_cases a <;> rfl
theorem zero3 : (![0, 0, 0] : Fin 3 → ℕ) = fun _ => 0 := by funext a; fin_cases a <;> rfl

/-- A load: what is read is what the contents show through the box. -/
theorem load_pt {α : Type} {cs : CoreSpace} {s : Shape} {e : EltTy} (m : Memref sig .tc cs s e) (q : PosShare TreeShare) (f : Buf (Elt F) (m.view.loc (c : Thread nD τ)))
    {r : LoadRect s} {h : m.view.LoadsAt r} (v : r.shape.Idx → Elt F e) (hv : m.view.readAt (Elt F) r f = v)
    {k : (r.shape.Idx → Elt F e) → Prog (TpuEff nD τ sig (Elt F) Λ₀ .tc) α} {Q : α → sProp 𝕄} :
    (m.view.loc (c : Thread nD τ) ↦{q} f) ⊢ iprop(((m.view.loc (c : Thread nD τ) ↦{q} f) -∗ run c (k v) Q) -∗ run c (.op (.load m r h) k) Q) := by
  subst hv
  iintro H Hk
  unfold run
  sl_exec
  iapply Hk; iexact H

/-- A store of a whole vector: the contents are written through the box. -/
theorem store_pt {α : Type} {cs : CoreSpace} {s : Shape} {e : EltTy} (m : Memref sig .tc cs s e) (f g : Buf (Elt F) (m.view.loc (c : Thread nD τ)))
    {r : Rect s} (w : r.shape.Idx → Elt F e) {h h'} (hg : (m.access r).write (Elt F) f w Finset.univ = g)
    {k : PUnit → Prog (TpuEff nD τ sig (Elt F) Λ₀ .tc) α} {Q : α → sProp 𝕄} :
    (m.view.loc (c : Thread nD τ) ↦{fullShare} f)
      ⊢ iprop(((m.view.loc (c : Thread nD τ) ↦{fullShare} g) -∗ run c (k ⟨⟩) Q) -∗ run c (.op (.store m r w Finset.univ h h') k) Q) := by
  subst hg
  iintro H Hk
  unfold run
  sl_exec
  rw [View.writes_singleton]
  iapply Hk; iexact H

/-- A store made under a condition (after a load it does not use): the contents are written where the condition holds. -/
theorem store_if {α : Type} {cs : CoreSpace} {s : Shape} {e : EltTy} (m : Memref sig .tc cs s e) (f g : Buf (Elt F) (m.view.loc (c : Thread nD τ)))
    {p : Prop} [Decidable p] {r' : LoadRect s} {r : Rect s} (w : r.shape.Idx → Elt F e) {hl h h'} (hg : (m.access r).write (Elt F) f w Finset.univ = g)
    {K : Prog (TpuEff nD τ sig (Elt F) Λ₀ .tc) α} {Q : α → sProp 𝕄} :
    (m.view.loc (c : Thread nD τ) ↦{fullShare} f)
      ⊢ iprop(((m.view.loc (c : Thread nD τ) ↦{fullShare} (if p then g else f)) -∗ run c K Q)
        -∗ run c (if _ : p then .op (.load m r' hl) fun _ => .op (.store m r w Finset.univ h h') fun _ => K else K) Q) := by
  by_cases hp : p
  · rw [dif_pos hp, if_pos hp]
    iintro H Hk
    iapply (load_pt c m fullShare f _ rfl) $$ H; iintro H
    iapply (store_pt c m f g w hg) $$ H; iintro H
    iapply Hk; iexact H
  · rw [dif_neg hp, if_neg hp]
    iintro H Hk
    iapply Hk; iexact H

/-- A copy over a whole target leaves what was read. -/
theorem land_whole (b : Ref sig .tc) (g w : Buf (Elt F) ((c : Thread nD τ).loc b)) :
    ((Memref.whole b).view.loc (c : Thread nD τ) ↦{fullShare} ((Memref.whole b).view.write (Elt F) g w Finset.univ)) ⊢ pt c b fullShare w := by
  rw [show (Memref.whole b).view.write (Elt F) g w Finset.univ = w from View.write_whole_univ _ _ _]

/-- A program is run by running its first part, then the rest on its result. -/
theorem run_bind {α β : Type} (p : Prog (TpuEff nD τ sig (Elt F) Λ₀ .tc) α) (k : α → Prog (TpuEff nD τ sig (Elt F) Λ₀ .tc) β) (Q : β → sProp 𝕄) :
    run c p (fun x => run c (k x) Q) ⊢ run c (p >>= k) Q := by
  unfold run; rw [wp_bind]

end Cert.KernelIdeal.Talk
-- ==== Proof.KernelIdeal.Handshake.lean ====
module

public import proofs.«01_k».proof.Proof.KernelIdeal.Steps

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (T : Msgs F) (κ : GSem nD τ sig → ℕ) (c : Dev nD)

def dueA' (c : Dev nD) : CellTallies nD τ sig Unit :=
  tallyAt (cell (mate c) (.dma (rcvA 2))) () (credA 2) + tallyAt (cell (mate c) (.dma (rcvA 1))) () (credA 1)
    + tallyAt (cell (mate c) (.dma (rcvA 0))) () (credA 0)
theorem dueA_split : dueB c + dueA c = dueB c + dueA' c + tallyAt (cell (mate c) (.reg barA)) () 1 := by
  unfold dueA dueA'; exact (add_assoc _ _ _).symm
theorem above1 : Above 1 (dueB c + dueA' c) := by
  unfold dueA'
  refine .add ((dueB_above c).mono (by omega)) (.add (.add (.at _ _ _ ?_) (.at _ _ _ ?_)) (.at _ _ _ ?_)) <;> decide
theorem k0_dev1_mate (c : Dev nD) : (⟨k0_dev1 c, k0_dev1_lt c⟩ : Dev nD) = mate c := by revert c; decide
/-- The words of a device's place: its second coordinate, its partner's first, and its number. -/
abbrev w5 (c : Dev nD) : BitVec 32 := Scalar.remsi (Scalar.divsi (Dev.word c) 1#32) 2#32
abbrev w2 (c : Dev nD) : BitVec 32 := Scalar.remsi (Scalar.divsi (Dev.word c) 2#32) 2#32
abbrev w6 (c : Dev nD) : BitVec 32 := Scalar.subi 1#32 (w2 c)
abbrev w8 (c : Dev nD) : BitVec 32 := Scalar.addi (Scalar.muli (w2 c) 2#32) (w5 c)
/-- What a device's signal to its partner hands over: its own landing buffers. -/
theorem payBarA_give :
    iprop(ptAny c cc0_scratch3 ∗ ptAny c cc0_scratch4 ∗ ptAny c cc0_scratch5
      ∗ reached ER (cell c (.dma (rcvA 0))) 0 ∗ reached ER (cell c (.dma (rcvA 1))) 0 ∗ reached ER (cell c (.dma (rcvA 2))) 0)
      ⊢ payBarA (F := F) (mate c) := by
  unfold payBarA; rw [mate_mate]
/-- The handshake with the partner and the copying of the operands to be sent. -/
theorem part1 (X1 : Vec F S2048x128 .bf16) (X2 X3 : Vec F S128x2048 .bf16)
  (Q : _ → sProp 𝕄) :
    iprop(records T κ ∗ levAts L lv ∗ owing c (dueB c + dueA c) ∗ pt c cc0_stg1_0 fullShare X1 ∗ pt c cc0_stg2_0 fullShare X2 ∗ pt c cc0_stg3_0 fullShare X3
       ∗ ptAny c cc0_scratch0 ∗ ptAny c cc0_scratch1 ∗ ptAny c cc0_scratch2 ∗ ptAny c cc0_scratch3 ∗ ptAny c cc0_scratch4 ∗ ptAny c cc0_scratch5
       ∗ reached ER (cell c (.dma (rcvA 0))) 0 ∗ reached ER (cell c (.dma (rcvA 1))) 0 ∗ reached ER (cell c (.dma (rcvA 2))) 0
       ∗ dutyTok ER (cell (mate c) (.reg barA)) 0 0 ∗ atPos ER (cell c (.reg barA)) 0 ∅ 0 ∗ cred (tallyAt (cell c (.reg barA)) () 1))
    ⊢ iprop((owing c (dueB c + (dueA' c)) ∗ pt c cc0_stg1_0 fullShare X1 ∗ pt c cc0_stg2_0 fullShare X2 ∗ pt c cc0_stg3_0 fullShare X3
       ∗ pt c cc0_scratch0 fullShare (k0_pay3 X1) ∗ pt c cc0_scratch1 fullShare (k0_pay4 X2) ∗ pt c cc0_scratch2 fullShare (k0_pay5 X3)
       ∗ payBarA c ∗ atPos ER (cell c (.reg barA)) (0+1) ∅ 0 -∗ Q ⟨c, w5 c, w6 c, w8 c⟩) -∗
      run c (k0_part1 (.whole cc0_stg0_0) (Memref.isWhole_whole _) (.whole cc0_stg1_0) (Memref.isWhole_whole _) (.whole cc0_stg2_0) (Memref.isWhole_whole _) (.whole cc0_stg3_0) (Memref.isWhole_whole _) (.whole cc0_stg4_0) (Memref.isWhole_whole _) (.whole cc0_stg5_0) (Memref.isWhole_whole _) (.whole cc0_stg6_0) (Memref.isWhole_whole _) (.whole cc0_stg7_0) (Memref.isWhole_whole _) (.whole cc0_stg8_0) (Memref.isWhole_whole _) (.whole cc0_stg9_0) (Memref.isWhole_whole _) (.whole cc0_stg10_0) (Memref.isWhole_whole _) (.whole cc0_scratch0) (Memref.isWhole_whole _) (.whole cc0_scratch1) (Memref.isWhole_whole _) (.whole cc0_scratch2) (Memref.isWhole_whole _) (.whole cc0_scratch3) (Memref.isWhole_whole _) (.whole cc0_scratch4) (Memref.isWhole_whole _) (.whole cc0_scratch5) (Memref.isWhole_whole _) cc0_scratch6 cc0_scratch7) Q) := by
  simp only [k0_part1_eq_skeleton]; unfold k0_part1_skel
  simp only [semSignalWord, semWaitWord, Prog.lift, Prog.bind_op, Prog.bind_ret, Prog.pure_eq_ret, wp_deviceId]
  iintro ⟨#HR, #HL, HO, H1, H2, H3, ⟨%f0, S0⟩, ⟨%f1, S1⟩, ⟨%f2, S2⟩, R0, R1, R2, #Q0, #Q1, #Q2, Ht, Ha, Hc⟩ Hk
  iapply (signal_bar T κ c (dueB c + dueA' c) _ (mate c) (k0_dev1_mate c) barA 0 (inv_barA T κ (mate c)) (reach_barA T κ (mate c)) (by decide) rfl (dueA_split c) (payBarA_give c)) $$ [HO Ht R0 R1 R2]
  · isplitr; · iexact HR
    isplitl [HO]; · iexact HO
    isplitl [Ht]; · iexact Ht
    isplitl [R0]; · iexact R0
    isplitl [R1]; · iexact R1
    isplitl [R2]; · iexact R2
    isplitr; · iexact Q0
    isplitr; · iexact Q1
    iexact Q2
  iintro HO
  iapply (wait_barA T κ c (b := 1) (above1 c) (le_refl 1)) $$ [HO Hc Ha]
  · isplitr; · iexact HR
    isplitr; · iexact HL
    isplitl [Hc]; · iexact Hc
    isplitl [HO]; · iexact HO
    iexact Ha
  iintro ⟨HO, Ha, Hp⟩
  iapply (load_pt c (.whole cc0_stg1_0) fullShare X1 X1 (Memref.readAt_unit_zero (Elt F) cc0_stg1_0 zero2 _ X1)) $$ H1; iintro H1
  iapply (load_pt c (.whole cc0_scratch0) fullShare f0 f0 (Memref.readAt_unit_zero (Elt F) cc0_scratch0 zero2 _ f0)) $$ S0; iintro S0
  iapply (store_pt c (.whole cc0_scratch0) f0 _ _ (Memref.write_access_unit_zero_univ (Elt F) cc0_scratch0 zero2 _ f0 _)) $$ S0; iintro S0
  iapply (load_pt c (.whole cc0_stg2_0) fullShare X2 X2 (Memref.readAt_unit_zero (Elt F) cc0_stg2_0 zero2 _ X2)) $$ H2; iintro H2
  iapply (load_pt c (.whole cc0_scratch1) fullShare f1 f1 (Memref.readAt_unit_zero (Elt F) cc0_scratch1 zero2 _ f1)) $$ S1; iintro S1
  iapply (store_pt c (.whole cc0_scratch1) f1 _ _ (Memref.write_access_unit_zero_univ (Elt F) cc0_scratch1 zero2 _ f1 _)) $$ S1; iintro S1
  iapply (load_pt c (.whole cc0_stg3_0) fullShare X3 X3 (Memref.readAt_unit_zero (Elt F) cc0_stg3_0 zero2 _ X3)) $$ H3; iintro H3
  iapply (load_pt c (.whole cc0_scratch2) fullShare f2 f2 (Memref.readAt_unit_zero (Elt F) cc0_scratch2 zero2 _ f2)) $$ S2; iintro S2
  iapply (store_pt c (.whole cc0_scratch2) f2 _ _ (Memref.write_access_unit_zero_univ (Elt F) cc0_scratch2 zero2 _ f2 _)) $$ S2; iintro S2
  unfold run; rw [wp_ret]; imodintro
  iapply Hk
  isplitl [HO]; · iexact HO
  isplitl [H1]; · iexact H1
  isplitl [H2]; · iexact H2
  isplitl [H3]; · iexact H3
  isplitl [S0]; · iexact S0
  isplitl [S1]; · iexact S1
  isplitl [S2]; · iexact S2
  isplitl [Hp]; · iexact Hp
  iexact Ha

end Cert.KernelIdeal.Talk
-- ==== Proof.KernelIdeal.Copies.lean ====
module

public import proofs.«01_k».proof.Proof.KernelIdeal.Handshake

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (T : Msgs F) (κ : GSem nD τ sig → ℕ) (c : Dev nD)

/-- What is still owed after the first copies. -/
def due1 (c : Dev nD) : CellTallies nD τ sig Unit :=
  tallyAt (cell (mate c) (.dma (rcvA 2))) () (credA 2) + tallyAt (cell (mate c) (.dma (rcvA 1))) () (credA 1)
def due2 (c : Dev nD) : CellTallies nD τ sig Unit := tallyAt (cell (mate c) (.dma (rcvA 2))) () (credA 2)
theorem dueA_2 : dueB c + dueA' c = dueB c + due1 c + tallyAt (cell (mate c) (.dma (rcvA 0))) () (credA 0) := (add_assoc _ _ _).symm
theorem dueA_1 : dueB c + due1 c = dueB c + due2 c + tallyAt (cell (mate c) (.dma (rcvA 1))) () (credA 1) := (add_assoc _ _ _).symm
theorem dueA_0 : dueB c + due2 c = dueB c + tallyAt (cell (mate c) (.dma (rcvA 2))) () (credA 2) := rfl
theorem k0_dev2_mate (c : Dev nD) : (⟨k0_dev2 c, k0_dev2_lt c⟩ : Dev nD) = mate c := by revert c; decide
theorem k0_dev3_mate (c : Dev nD) : (⟨k0_dev3 c, k0_dev3_lt c⟩ : Dev nD) = mate c := by revert c; decide
theorem k0_dev4_mate (c : Dev nD) : (⟨k0_dev4 c, k0_dev4_lt c⟩ : Dev nD) = mate c := by revert c; decide

theorem lend_A0 : ((Memref.whole cc0_scratch0).view.loc (c : Thread nD τ) ↦{fullShare.right} (T.s0 c))
    ⊢ payOf T c (role (.dma (sndA 0))) 0 := Entails.rfl
theorem land_A0 (g : Buf (Elt F) ((Memref.whole cc0_scratch3).view.loc (mate c : Thread nD τ))) :
    ((Memref.whole cc0_scratch3).view.loc (mate c : Thread nD τ) ↦{fullShare}
      ((Memref.whole cc0_scratch3).view.write (Elt F) g ((Memref.whole cc0_scratch0).view.read (Elt F) (T.s0 c)) Finset.univ))
      ⊢ payOf T (mate c) (role (.dma (rcvA 0))) 0 :=
  (land_whole (mate c) cc0_scratch3 g (T.s0 c)).trans (Entails.of_eq (congrArg (fun d => pt (mate c) cc0_scratch3 fullShare (T.s0 d)) (mate_mate c).symm))

theorem lend_A1 : ((Memref.whole cc0_scratch1).view.loc (c : Thread nD τ) ↦{fullShare.right} (T.s1 c))
    ⊢ payOf T c (role (.dma (sndA 1))) 0 := Entails.rfl
theorem land_A1 (g : Buf (Elt F) ((Memref.whole cc0_scratch4).view.loc (mate c : Thread nD τ))) :
    ((Memref.whole cc0_scratch4).view.loc (mate c : Thread nD τ) ↦{fullShare}
      ((Memref.whole cc0_scratch4).view.write (Elt F) g ((Memref.whole cc0_scratch1).view.read (Elt F) (T.s1 c)) Finset.univ))
      ⊢ payOf T (mate c) (role (.dma (rcvA 1))) 0 :=
  (land_whole (mate c) cc0_scratch4 g (T.s1 c)).trans (Entails.of_eq (congrArg (fun d => pt (mate c) cc0_scratch4 fullShare (T.s1 d)) (mate_mate c).symm))

theorem lend_A2 : ((Memref.whole cc0_scratch2).view.loc (c : Thread nD τ) ↦{fullShare.right} (T.s2 c))
    ⊢ payOf T c (role (.dma (sndA 2))) 0 := Entails.rfl
theorem land_A2 (g : Buf (Elt F) ((Memref.whole cc0_scratch5).view.loc (mate c : Thread nD τ))) :
    ((Memref.whole cc0_scratch5).view.loc (mate c : Thread nD τ) ↦{fullShare}
      ((Memref.whole cc0_scratch5).view.write (Elt F) g ((Memref.whole cc0_scratch2).view.read (Elt F) (T.s2 c)) Finset.univ))
      ⊢ payOf T (mate c) (role (.dma (rcvA 2))) 0 :=
  (land_whole (mate c) cc0_scratch5 g (T.s2 c)).trans (Entails.of_eq (congrArg (fun d => pt (mate c) cc0_scratch5 fullShare (T.s2 d)) (mate_mate c).symm))

/-- The semaphores the kernel names by slices of its arrays. -/
theorem sndA_sem0 : ((cc0_scratch6.slice (Rect.unit (s := S3) ![0] S1.size inb_S3_S1_0)).squeeze S_ squeezes_S1_S_).sem = sndA 0 := rfl
theorem sndA_sem1 : ((cc0_scratch6.slice (Rect.unit (s := S3) ![1] S1.size inb_S3_S1_1)).squeeze S_ squeezes_S1_S_).sem = sndA 1 := rfl
theorem sndA_sem2 : ((cc0_scratch6.slice (Rect.unit (s := S3) ![2] S1.size inb_S3_S1_2)).squeeze S_ squeezes_S1_S_).sem = sndA 2 := rfl
theorem rcvA_sem0 : ((cc0_scratch7.slice (Rect.unit (s := S3) ![0] S1.size inb_S3_S1_0)).squeeze S_ squeezes_S1_S_).sem = rcvA 0 := rfl
theorem rcvA_sem1 : ((cc0_scratch7.slice (Rect.unit (s := S3) ![1] S1.size inb_S3_S1_1)).squeeze S_ squeezes_S1_S_).sem = rcvA 1 := rfl
theorem rcvA_sem2 : ((cc0_scratch7.slice (Rect.unit (s := S3) ![2] S1.size inb_S3_S1_2)).squeeze S_ squeezes_S1_S_).sem = rcvA 2 := rfl

/-- The printed test that the device's number is `k`. -/
abbrev isDev (c : Dev nD) (k : BitVec 32) : Prop := Scalar.cmpi .ne (Scalar.extui (Scalar.cmpi .eq (w8 c) k)) 0#32 = 1#1
theorem isDev_iff (c k : Dev nD) : isDev c (BitVec.ofNat 32 k.val) ↔ c = k := by revert c k; decide

theorem duties_sndA (i : Fin 3) : dutiesOf (role (.dma (sndA i))) = {0} := by rw [role_sndA]; rfl
theorem duties_rcvA (i : Fin 3) : dutiesOf (role (.dma (rcvA i))) = {0} := by rw [role_rcvA]; rfl
theorem amount_sndA (i : Fin 3) : amountOf (role (.dma (sndA i))) = credA i := by rw [role_sndA]; rfl
theorem amount_rcvA (i : Fin 3) : amountOf (role (.dma (rcvA i))) = credA i := by rw [role_rcvA]; rfl
theorem copies_0 : (Memref.whole cc0_scratch3 : Memref sig .tc .vmem S2048x128 .bf16).view.amount (.dma (rcvA 0)) = credA 0 := rfl
theorem copies_1 : (Memref.whole cc0_scratch4 : Memref sig .tc .vmem S128x2048 .bf16).view.amount (.dma (rcvA 1)) = credA 1 := rfl
theorem copies_2 : (Memref.whole cc0_scratch5 : Memref sig .tc .vmem S128x2048 .bf16).view.amount (.dma (rcvA 2)) = credA 2 := rfl

/-- The three copies to the partner; the first two of the four conditional stores of the device's rows. -/
theorem part2 (X0 : Vec F S1x1024x2048 .bf16) (f9 : Vec F S256x2048 .bf16) (Q : _ → sProp 𝕄) :
    iprop(records T κ ∗ owing c (dueB c + dueA' c) ∗ pt c cc0_scratch0 fullShare (T.s0 c) ∗ pt c cc0_scratch1 fullShare (T.s1 c) ∗ pt c cc0_scratch2 fullShare (T.s2 c)
       ∗ payBarA c ∗ reached ER (cell c (.dma (sndA 0))) 0 ∗ reached ER (cell c (.dma (sndA 1))) 0 ∗ reached ER (cell c (.dma (sndA 2))) 0
       ∗ dutyTok ER (cell c (.dma (sndA 0))) 0 0 ∗ dutyTok ER (cell c (.dma (sndA 1))) 0 0 ∗ dutyTok ER (cell c (.dma (sndA 2))) 0 0
       ∗ dutyTok ER (cell (mate c) (.dma (rcvA 0))) 0 0 ∗ dutyTok ER (cell (mate c) (.dma (rcvA 1))) 0 0 ∗ dutyTok ER (cell (mate c) (.dma (rcvA 2))) 0 0
       ∗ pt c cc0_stg0_0 fullShare X0 ∗ pt c cc0_stg9_0 fullShare f9)
    ⊢ iprop((owing c (dueB c) ∗ pt c cc0_scratch0 fullShare.left (T.s0 c) ∗ pt c cc0_scratch1 fullShare.left (T.s1 c) ∗ pt c cc0_scratch2 fullShare.left (T.s2 c)
       ∗ cred (tallyAt (cell c (.dma (sndA 0))) () (credA 0)) ∗ cred (tallyAt (cell c (.dma (sndA 1))) () (credA 1)) ∗ cred (tallyAt (cell c (.dma (sndA 2))) () (credA 2))
       ∗ pt c cc0_stg0_0 fullShare X0
       ∗ pt c cc0_stg9_0 fullShare (if isDev c 1#32 then k0_pay8 X0 else if isDev c 0#32 then k0_pay7 X0 else f9) -∗ Q ⟨k0_pay6 X0, Scalar.cmpi .eq (w8 c) 2#32⟩) -∗
      run c (k0_part2 (.whole cc0_stg0_0) (Memref.isWhole_whole _) (.whole cc0_stg1_0) (Memref.isWhole_whole _) (.whole cc0_stg2_0) (Memref.isWhole_whole _) (.whole cc0_stg3_0) (Memref.isWhole_whole _) (.whole cc0_stg4_0) (Memref.isWhole_whole _) (.whole cc0_stg5_0) (Memref.isWhole_whole _) (.whole cc0_stg6_0) (Memref.isWhole_whole _) (.whole cc0_stg7_0) (Memref.isWhole_whole _) (.whole cc0_stg8_0) (Memref.isWhole_whole _) (.whole cc0_stg9_0) (Memref.isWhole_whole _) (.whole cc0_stg10_0) (Memref.isWhole_whole _) (.whole cc0_scratch0) (Memref.isWhole_whole _) (.whole cc0_scratch1) (Memref.isWhole_whole _) (.whole cc0_scratch2) (Memref.isWhole_whole _) (.whole cc0_scratch3) (Memref.isWhole_whole _) (.whole cc0_scratch4) (Memref.isWhole_whole _) (.whole cc0_scratch5) (Memref.isWhole_whole _) cc0_scratch6 cc0_scratch7 c (w5 c) (w6 c) (w8 c)) Q) := by
  simp only [k0_part2_eq_skeleton]; unfold k0_part2_skel
  simp only [sndA_sem0, sndA_sem1, sndA_sem2, rcvA_sem0, rcvA_sem1, rcvA_sem2]
  simp only [semSignalWord, semWaitWord, Prog.lift, Prog.bind_op, Prog.bind_ret, Prog.pure_eq_ret, wp_deviceId]
  unfold payBarA
  iintro ⟨#HR, HO, S0, S1, S2, ⟨⟨%g0, G0⟩, ⟨%g1, G1⟩, ⟨%g2, G2⟩, #P0, #P1, #P2⟩, #Q0, #Q1, #Q2, Hs0, Hs1, Hs2, Hr0, Hr1, Hr2, H0, H9⟩ Hk
  icases (pointsTo_share (PosShare.mem_left_op_right fullShare)).1 $$ S0 with ⟨S0, R0⟩
  icases (pointsTo_share (PosShare.mem_left_op_right fullShare)).1 $$ S1 with ⟨S1, R1⟩
  icases (pointsTo_share (PosShare.mem_left_op_right fullShare)).1 $$ S2 with ⟨S2, R2⟩
  iapply (send_dma T κ c (dueB c + due1 c) _ (mate c) (k0_dev2_mate c) (src := (Memref.whole cc0_scratch0 : Memref sig .tc .vmem S2048x128 .bf16)) (dst := (Memref.whole cc0_scratch3 : Memref sig .tc .vmem S2048x128 .bf16)) (sndA 0) (rcvA 0) (inv_sndA T κ c 0) (inv_rcvA T κ (mate c) 0) (duties_sndA 0) (duties_rcvA 0)
      (credA 0) copies_0 (amount_sndA 0) (amount_rcvA 0) (dueA_2 c) (Memref.isWhole_whole cc0_scratch0).set_eq_univ (Memref.isWhole_whole cc0_scratch3).set_eq_univ (q := fullShare.right) (fs := T.s0 c) (fd := g0) (lend_A0 T c) (land_A0 T c g0)) $$ [R0 G0 HO Hs0 Hr0]
  · isplitr; · iexact HR
    isplitl [R0]; · iexact R0
    isplitl [G0]; · iexact G0
    isplitl [HO]; · iexact HO
    isplitl [Hs0]; · iexact Hs0
    isplitr; · iexact Q0
    isplitl [Hr0]; · iexact Hr0
    iexact P0
  iintro ⟨C0, HO⟩
  iapply (send_dma T κ c (dueB c + due2 c) _ (mate c) (k0_dev3_mate c) (src := (Memref.whole cc0_scratch1 : Memref sig .tc .vmem S128x2048 .bf16)) (dst := (Memref.whole cc0_scratch4 : Memref sig .tc .vmem S128x2048 .bf16)) (sndA 1) (rcvA 1) (inv_sndA T κ c 1) (inv_rcvA T κ (mate c) 1) (duties_sndA 1) (duties_rcvA 1)
      (credA 1) copies_1 (amount_sndA 1) (amount_rcvA 1) (dueA_1 c) (Memref.isWhole_whole cc0_scratch1).set_eq_univ (Memref.isWhole_whole cc0_scratch4).set_eq_univ (q := fullShare.right) (fs := T.s1 c) (fd := g1) (lend_A1 T c) (land_A1 T c g1)) $$ [R1 G1 HO Hs1 Hr1]
  · isplitr; · iexact HR
    isplitl [R1]; · iexact R1
    isplitl [G1]; · iexact G1
    isplitl [HO]; · iexact HO
    isplitl [Hs1]; · iexact Hs1
    isplitr; · iexact Q1
    isplitl [Hr1]; · iexact Hr1
    iexact P1
  iintro ⟨C1, HO⟩
  iapply (send_dma T κ c (dueB c) _ (mate c) (k0_dev4_mate c) (src := (Memref.whole cc0_scratch2 : Memref sig .tc .vmem S128x2048 .bf16)) (dst := (Memref.whole cc0_scratch5 : Memref sig .tc .vmem S128x2048 .bf16)) (sndA 2) (rcvA 2) (inv_sndA T κ c 2) (inv_rcvA T κ (mate c) 2) (duties_sndA 2) (duties_rcvA 2)
      (credA 2) copies_2 (amount_sndA 2) (amount_rcvA 2) (dueA_0 c) (Memref.isWhole_whole cc0_scratch2).set_eq_univ (Memref.isWhole_whole cc0_scratch5).set_eq_univ (q := fullShare.right) (fs := T.s2 c) (fd := g2) (lend_A2 T c) (land_A2 T c g2)) $$ [R2 G2 HO Hs2 Hr2]
  · isplitr; · iexact HR
    isplitl [R2]; · iexact R2
    isplitl [G2]; · iexact G2
    isplitl [HO]; · iexact HO
    isplitl [Hs2]; · iexact Hs2
    isplitr; · iexact Q2
    isplitl [Hr2]; · iexact Hr2
    iexact P2
  iintro ⟨C2, HO⟩
  iapply (load_pt c (.whole cc0_stg0_0) fullShare X0 X0 (Memref.readAt_unit_zero (Elt F) cc0_stg0_0 zero3 _ X0)) $$ H0; iintro H0
  iapply (store_if c (.whole cc0_stg9_0) f9 _ _ (Memref.write_access_unit_zero_univ (Elt F) cc0_stg9_0 zero2 _ f9 _)) $$ H9; iintro H9
  iapply (store_if c (.whole cc0_stg9_0) _ _ _ (Memref.write_access_unit_zero_univ (Elt F) cc0_stg9_0 zero2 _ _ _)) $$ H9; iintro H9
  unfold run; rw [wp_ret]; imodintro
  iapply Hk
  isplitl [HO]; · iexact HO
  isplitl [S0]; · iexact S0
  isplitl [S1]; · iexact S1
  isplitl [S2]; · iexact S2
  isplitl [C0]; · iexact C0
  isplitl [C1]; · iexact C1
  isplitl [C2]; · iexact C2
  isplitl [H0]; · iexact H0
  iexact H9

end Cert.KernelIdeal.Talk
-- ==== Proof.KernelIdeal.Products.lean ====
module

public import proofs.«01_k».proof.Proof.KernelIdeal.Copies

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (T : Msgs F) (κ : GSem nD τ sig → ℕ) (c : Dev nD)

theorem credits_snd0 : (Memref.whole cc0_scratch0 : Memref sig .tc .vmem S2048x128 .bf16).view.dmaCredit = credA 0 := rfl
theorem credits_rcv0 : (Memref.whole cc0_scratch3 : Memref sig .tc .vmem S2048x128 .bf16).view.dmaCredit = credA 0 := rfl
theorem credits_snd1 : (Memref.whole cc0_scratch1 : Memref sig .tc .vmem S128x2048 .bf16).view.dmaCredit = credA 1 := rfl
theorem credits_rcv1 : (Memref.whole cc0_scratch4 : Memref sig .tc .vmem S128x2048 .bf16).view.dmaCredit = credA 1 := rfl
theorem credits_snd2 : (Memref.whole cc0_scratch2 : Memref sig .tc .vmem S128x2048 .bf16).view.dmaCredit = credA 2 := rfl
theorem credits_rcv2 : (Memref.whole cc0_scratch5 : Memref sig .tc .vmem S128x2048 .bf16).view.dmaCredit = credA 2 := rfl

/-- The last two conditional stores of the device's rows; the products that need no remote operand. -/
theorem part3 (X0 : FVec F S1024x2048 .bf16) (X4 : Vec F S2048x128 .bf16) (X5 : Vec F S2048x2048 .bf16) (f8 : Vec F S1024x128 .bf16) (f9 f10 : Vec F S256x2048 .bf16) (Q : _ → sProp 𝕄) :
    iprop(records T κ ∗ levAts L lv ∗ owing c (dueB c) ∗ pt c cc0_scratch0 fullShare.left (T.s0 c) ∗ pt c cc0_scratch1 fullShare.left (T.s1 c) ∗ pt c cc0_scratch2 fullShare.left (T.s2 c)
       ∗ cred (tallyAt (cell c (.dma (sndA 0))) () (credA 0)) ∗ atPos ER (cell c (.dma (sndA 0))) 0 ∅ 0
       ∗ pt c cc0_stg4_0 fullShare X4 ∗ pt c cc0_stg5_0 fullShare X5 ∗ pt c cc0_stg8_0 fullShare f8 ∗ pt c cc0_stg9_0 fullShare f9 ∗ pt c cc0_stg10_0 fullShare f10)
    ⊢ iprop((owing c (dueB c) ∗ pt c cc0_scratch0 fullShare.left (T.s0 c) ∗ pt c cc0_scratch1 fullShare.left (T.s1 c) ∗ pt c cc0_scratch2 fullShare.left (T.s2 c)
       ∗ atPos ER (cell c (.dma (sndA 0))) (0 + 1) ∅ 0 ∗ pt c cc0_scratch0 fullShare.right (T.s0 c)
       ∗ pt c cc0_stg4_0 fullShare X4 ∗ pt c cc0_stg5_0 fullShare X5 ∗ pt c cc0_stg8_0 fullShare (k0_pay14 X0 X4)
       ∗ pt c cc0_stg9_0 fullShare (if isDev c 3#32 then k0_pay10 X0 else if isDev c 2#32 then k0_pay9 X0 else f9)
       ∗ pt c cc0_stg10_0 fullShare (k0_pay15 (if isDev c 3#32 then k0_pay10 X0 else if isDev c 2#32 then k0_pay9 X0 else f9) X5)
       -∗ Q ⟨k0_pay12 X0 (T.s0 c) (T.s1 c), k0_pay13 X0 (T.s0 c) (T.s2 c)⟩) -∗
      run c (k0_part3 (.whole cc0_stg0_0) (Memref.isWhole_whole _) (.whole cc0_stg1_0) (Memref.isWhole_whole _) (.whole cc0_stg2_0) (Memref.isWhole_whole _) (.whole cc0_stg3_0) (Memref.isWhole_whole _) (.whole cc0_stg4_0) (Memref.isWhole_whole _) (.whole cc0_stg5_0) (Memref.isWhole_whole _) (.whole cc0_stg6_0) (Memref.isWhole_whole _) (.whole cc0_stg7_0) (Memref.isWhole_whole _) (.whole cc0_stg8_0) (Memref.isWhole_whole _) (.whole cc0_stg9_0) (Memref.isWhole_whole _) (.whole cc0_stg10_0) (Memref.isWhole_whole _) (.whole cc0_scratch0) (Memref.isWhole_whole _) (.whole cc0_scratch1) (Memref.isWhole_whole _) (.whole cc0_scratch2) (Memref.isWhole_whole _) (.whole cc0_scratch3) (Memref.isWhole_whole _) (.whole cc0_scratch4) (Memref.isWhole_whole _) (.whole cc0_scratch5) (Memref.isWhole_whole _) cc0_scratch6 cc0_scratch7 (w8 c) X0 (Scalar.cmpi .eq (w8 c) 2#32)) Q) := by
  simp only [k0_part3_eq_skeleton]; unfold k0_part3_skel
  simp only [sndA_sem0, sndA_sem1, sndA_sem2, rcvA_sem0, rcvA_sem1, rcvA_sem2]
  simp only [semSignalWord, semWaitWord, Prog.lift, Prog.bind_op, Prog.bind_ret, Prog.pure_eq_ret, wp_deviceId]
  iintro ⟨#HR, #HL, HO, S0, S1, S2, C0, A0, H4, H5, H8, H9, H10⟩ Hk
  iapply (store_if c (.whole cc0_stg9_0) f9 _ _ (Memref.write_access_unit_zero_univ (Elt F) cc0_stg9_0 zero2 _ f9 _)) $$ H9; iintro H9
  iapply (store_if c (.whole cc0_stg9_0) _ _ _ (Memref.write_access_unit_zero_univ (Elt F) cc0_stg9_0 zero2 _ _ _)) $$ H9; iintro H9
  iapply (load_pt c (.whole cc0_stg9_0) fullShare _ _ (Memref.readAt_unit_zero (Elt F) cc0_stg9_0 zero2 _ _)) $$ H9; iintro H9
  iapply (load_pt c (.whole cc0_scratch0) fullShare.left (T.s0 c) (T.s0 c) (Memref.readAt_unit_zero (Elt F) cc0_scratch0 zero2 _ (T.s0 c))) $$ S0; iintro S0
  iapply (load_pt c (.whole cc0_scratch1) fullShare.left (T.s1 c) (T.s1 c) (Memref.readAt_unit_zero (Elt F) cc0_scratch1 zero2 _ (T.s1 c))) $$ S1; iintro S1
  iapply (load_pt c (.whole cc0_scratch2) fullShare.left (T.s2 c) (T.s2 c) (Memref.readAt_unit_zero (Elt F) cc0_scratch2 zero2 _ (T.s2 c))) $$ S2; iintro S2
  iapply (load_pt c (.whole cc0_stg4_0) fullShare X4 X4 (Memref.readAt_unit_zero (Elt F) cc0_stg4_0 zero2 _ X4)) $$ H4; iintro H4
  iapply (load_pt c (.whole cc0_stg8_0) fullShare f8 f8 (Memref.readAt_unit_zero (Elt F) cc0_stg8_0 zero2 _ f8)) $$ H8; iintro H8
  iapply (store_pt c (.whole cc0_stg8_0) f8 _ _ (Memref.write_access_unit_zero_univ (Elt F) cc0_stg8_0 zero2 _ f8 _)) $$ H8; iintro H8
  iapply (load_pt c (.whole cc0_stg5_0) fullShare X5 X5 (Memref.readAt_unit_zero (Elt F) cc0_stg5_0 zero2 _ X5)) $$ H5; iintro H5
  iapply (load_pt c (.whole cc0_stg10_0) fullShare f10 f10 (Memref.readAt_unit_zero (Elt F) cc0_stg10_0 zero2 _ f10)) $$ H10; iintro H10
  iapply (store_pt c (.whole cc0_stg10_0) f10 _ _ (Memref.write_access_unit_zero_univ (Elt F) cc0_stg10_0 zero2 _ f10 _)) $$ H10; iintro H10
  iapply (wait_dma T κ c (sndA 0) (inv_sndA T κ c 0) (duties_sndA 0) (credA 0) (amount_sndA 0) (dueB_above c) (by decide)
      (src := (Memref.whole cc0_scratch3 : Memref sig .tc .vmem S2048x128 .bf16)) (dst := (Memref.whole cc0_scratch0 : Memref sig .tc .vmem S2048x128 .bf16)) credits_snd0
      (P := pt c cc0_scratch0 fullShare.right (T.s0 c)) Entails.rfl) $$ [C0 HO A0]
  · isplitr; · iexact HR
    isplitr; · iexact HL
    isplitl [C0]; · iexact C0
    isplitl [HO]; · iexact HO
    iexact A0
  iintro ⟨HO, A0, B0⟩
  unfold run; rw [wp_ret]; imodintro
  iapply Hk
  isplitl [HO]; · iexact HO
  isplitl [S0]; · iexact S0
  isplitl [S1]; · iexact S1
  isplitl [S2]; · iexact S2
  isplitl [A0]; · iexact A0
  isplitl [B0]; · iexact B0
  isplitl [H4]; · iexact H4
  isplitl [H5]; · iexact H5
  isplitl [H8]; · iexact H8
  isplitl [H9]; · iexact H9
  iexact H10

end Cert.KernelIdeal.Talk
-- ==== Proof.KernelIdeal.Landed.lean ====
module

public import proofs.«01_k».proof.Proof.KernelIdeal.Products

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (T : Msgs F) (κ : GSem nD τ sig → ℕ) (c : Dev nD)

/-- The waits for the copies; the products with the first two received operands. -/
theorem part4 (X0 : FVec F S1024x2048 .bf16) (K : FVec F S1024x2048 .bf16) (Q : _ → sProp 𝕄) :
    iprop(records T κ ∗ levAts L lv ∗ owing c (dueB c) ∗ cred (tallyAt (cell c (.dma (rcvA 0))) () (credA 0)) ∗ atPos ER (cell c (.dma (rcvA 0))) 0 ∅ 0 ∗ cred (tallyAt (cell c (.dma (rcvA 1))) () (credA 1)) ∗ atPos ER (cell c (.dma (rcvA 1))) 0 ∅ 0 ∗ cred (tallyAt (cell c (.dma (rcvA 2))) () (credA 2)) ∗ atPos ER (cell c (.dma (rcvA 2))) 0 ∅ 0 ∗ cred (tallyAt (cell c (.dma (sndA 1))) () (credA 1)) ∗ atPos ER (cell c (.dma (sndA 1))) 0 ∅ 0 ∗ cred (tallyAt (cell c (.dma (sndA 2))) () (credA 2)) ∗ atPos ER (cell c (.dma (sndA 2))) 0 ∅ 0)
    ⊢ iprop((owing c (dueB c) ∗ atPos ER (cell c (.dma (rcvA 0))) (0 + 1) ∅ 0 ∗ pt c cc0_scratch3 fullShare (T.s0 (mate c)) ∗ atPos ER (cell c (.dma (rcvA 1))) (0 + 1) ∅ 0 ∗ pt c cc0_scratch4 fullShare (T.s1 (mate c)) ∗ atPos ER (cell c (.dma (rcvA 2))) (0 + 1) ∅ 0 ∗ pt c cc0_scratch5 fullShare (T.s2 (mate c)) ∗ atPos ER (cell c (.dma (sndA 1))) (0 + 1) ∅ 0 ∗ pt c cc0_scratch1 fullShare.right (T.s1 c) ∗ atPos ER (cell c (.dma (sndA 2))) (0 + 1) ∅ 0 ∗ pt c cc0_scratch2 fullShare.right (T.s2 c)
       -∗ Q ⟨k0_pay16 X0 (T.s0 (mate c)), k0_pay17 X0 (T.s0 (mate c)) (T.s1 (mate c)), k0_pay18 K⟩) -∗
      run c (k0_part4 (.whole cc0_stg0_0) (Memref.isWhole_whole _) (.whole cc0_stg1_0) (Memref.isWhole_whole _) (.whole cc0_stg2_0) (Memref.isWhole_whole _) (.whole cc0_stg3_0) (Memref.isWhole_whole _) (.whole cc0_stg4_0) (Memref.isWhole_whole _) (.whole cc0_stg5_0) (Memref.isWhole_whole _) (.whole cc0_stg6_0) (Memref.isWhole_whole _) (.whole cc0_stg7_0) (Memref.isWhole_whole _) (.whole cc0_stg8_0) (Memref.isWhole_whole _) (.whole cc0_stg9_0) (Memref.isWhole_whole _) (.whole cc0_stg10_0) (Memref.isWhole_whole _) (.whole cc0_scratch0) (Memref.isWhole_whole _) (.whole cc0_scratch1) (Memref.isWhole_whole _) (.whole cc0_scratch2) (Memref.isWhole_whole _) (.whole cc0_scratch3) (Memref.isWhole_whole _) (.whole cc0_scratch4) (Memref.isWhole_whole _) (.whole cc0_scratch5) (Memref.isWhole_whole _) cc0_scratch6 cc0_scratch7 (w5 c) (w6 c) X0 K) Q) := by
  simp only [k0_part4_eq_skeleton]; unfold k0_part4_skel
  simp only [sndA_sem0, sndA_sem1, sndA_sem2, rcvA_sem0, rcvA_sem1, rcvA_sem2]
  simp only [semSignalWord, semWaitWord, Prog.lift, Prog.bind_op, Prog.bind_ret, Prog.pure_eq_ret, wp_deviceId]
  iintro ⟨#HR, #HL, HO, C0, A0, C1, A1, C2, A2, D1, E1, D2, E2⟩ Hk
  iapply (wait_dma T κ c (rcvA 0) (inv_rcvA T κ c 0) (duties_rcvA 0) (credA 0) (amount_rcvA 0) (dueB_above c) (by decide)
      (src := (Memref.whole cc0_scratch0 : Memref sig .tc .vmem S2048x128 .bf16)) (dst := (Memref.whole cc0_scratch3 : Memref sig .tc .vmem S2048x128 .bf16)) credits_rcv0
      (P := pt c cc0_scratch3 fullShare (T.s0 (mate c))) Entails.rfl) $$ [C0 HO A0]
  · isplitr; · iexact HR
    isplitr; · iexact HL
    isplitl [C0]; · iexact C0
    isplitl [HO]; · iexact HO
    iexact A0
  iintro ⟨HO, A0, G0⟩
  iapply (wait_dma T κ c (sndA 1) (inv_sndA T κ c 1) (duties_sndA 1) (credA 1) (amount_sndA 1) (dueB_above c) (by decide)
      (src := (Memref.whole cc0_scratch4 : Memref sig .tc .vmem S128x2048 .bf16)) (dst := (Memref.whole cc0_scratch1 : Memref sig .tc .vmem S128x2048 .bf16)) credits_snd1
      (P := pt c cc0_scratch1 fullShare.right (T.s1 c)) Entails.rfl) $$ [D1 HO E1]
  · isplitr; · iexact HR
    isplitr; · iexact HL
    isplitl [D1]; · iexact D1
    isplitl [HO]; · iexact HO
    iexact E1
  iintro ⟨HO, E1, B1⟩
  iapply (wait_dma T κ c (rcvA 1) (inv_rcvA T κ c 1) (duties_rcvA 1) (credA 1) (amount_rcvA 1) (dueB_above c) (by decide)
      (src := (Memref.whole cc0_scratch1 : Memref sig .tc .vmem S128x2048 .bf16)) (dst := (Memref.whole cc0_scratch4 : Memref sig .tc .vmem S128x2048 .bf16)) credits_rcv1
      (P := pt c cc0_scratch4 fullShare (T.s1 (mate c))) Entails.rfl) $$ [C1 HO A1]
  · isplitr; · iexact HR
    isplitr; · iexact HL
    isplitl [C1]; · iexact C1
    isplitl [HO]; · iexact HO
    iexact A1
  iintro ⟨HO, A1, G1⟩
  iapply (wait_dma T κ c (sndA 2) (inv_sndA T κ c 2) (duties_sndA 2) (credA 2) (amount_sndA 2) (dueB_above c) (by decide)
      (src := (Memref.whole cc0_scratch5 : Memref sig .tc .vmem S128x2048 .bf16)) (dst := (Memref.whole cc0_scratch2 : Memref sig .tc .vmem S128x2048 .bf16)) credits_snd2
      (P := pt c cc0_scratch2 fullShare.right (T.s2 c)) Entails.rfl) $$ [D2 HO E2]
  · isplitr; · iexact HR
    isplitr; · iexact HL
    isplitl [D2]; · iexact D2
    isplitl [HO]; · iexact HO
    iexact E2
  iintro ⟨HO, E2, B2⟩
  iapply (wait_dma T κ c (rcvA 2) (inv_rcvA T κ c 2) (duties_rcvA 2) (credA 2) (amount_rcvA 2) (dueB_above c) (by decide)
      (src := (Memref.whole cc0_scratch2 : Memref sig .tc .vmem S128x2048 .bf16)) (dst := (Memref.whole cc0_scratch5 : Memref sig .tc .vmem S128x2048 .bf16)) credits_rcv2
      (P := pt c cc0_scratch5 fullShare (T.s2 (mate c))) Entails.rfl) $$ [C2 HO A2]
  · isplitr; · iexact HR
    isplitr; · iexact HL
    isplitl [C2]; · iexact C2
    isplitl [HO]; · iexact HO
    iexact A2
  iintro ⟨HO, A2, G2⟩
  iapply (load_pt c (.whole cc0_scratch3) fullShare (T.s0 (mate c)) (T.s0 (mate c)) (Memref.readAt_unit_zero (Elt F) cc0_scratch3 zero2 _ (T.s0 (mate c)))) $$ G0; iintro G0
  iapply (load_pt c (.whole cc0_scratch4) fullShare (T.s1 (mate c)) (T.s1 (mate c)) (Memref.readAt_unit_zero (Elt F) cc0_scratch4 zero2 _ (T.s1 (mate c)))) $$ G1; iintro G1
  unfold run; rw [wp_ret]; imodintro
  iapply Hk
  isplitl [HO]; · iexact HO
  isplitl [A0]; · iexact A0
  isplitl [G0]; · iexact G0
  isplitl [A1]; · iexact A1
  isplitl [G1]; · iexact G1
  isplitl [A2]; · iexact A2
  isplitl [G2]; · iexact G2
  isplitl [E1]; · iexact E1
  isplitl [B1]; · iexact B1
  isplitl [E2]; · iexact E2
  iexact B2

end Cert.KernelIdeal.Talk
-- ==== Proof.KernelIdeal.Body0.lean ====
module

public import proofs.«01_k».proof.Proof.KernelIdeal.Landed

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (T : Msgs F) (κ : GSem nD τ sig → ℕ) (c : Dev nD)

/-- What device `c`'s protocol for the first kernel starts from. -/
def talkA (c : Dev nD) : sProp 𝕄 := iprop(
  atPos ER (cell c (.reg barA)) 0 ∅ 0 ∗ cred (tallyAt (cell c (.reg barA)) () 1) ∗ dutyTok ER (cell (mate c) (.reg barA)) 0 0
    ∗ atPos ER (cell c (.dma (sndA 0))) 0 ∅ 0 ∗ reached ER (cell c (.dma (sndA 0))) 0 ∗ dutyTok ER (cell c (.dma (sndA 0))) 0 0
    ∗ atPos ER (cell c (.dma (rcvA 0))) 0 ∅ 0 ∗ reached ER (cell c (.dma (rcvA 0))) 0 ∗ dutyTok ER (cell (mate c) (.dma (rcvA 0))) 0 0
    ∗ cred (tallyAt (cell c (.dma (rcvA 0))) () (credA 0))
    ∗ atPos ER (cell c (.dma (sndA 1))) 0 ∅ 0 ∗ reached ER (cell c (.dma (sndA 1))) 0 ∗ dutyTok ER (cell c (.dma (sndA 1))) 0 0
    ∗ atPos ER (cell c (.dma (rcvA 1))) 0 ∅ 0 ∗ reached ER (cell c (.dma (rcvA 1))) 0 ∗ dutyTok ER (cell (mate c) (.dma (rcvA 1))) 0 0
    ∗ cred (tallyAt (cell c (.dma (rcvA 1))) () (credA 1))
    ∗ atPos ER (cell c (.dma (sndA 2))) 0 ∅ 0 ∗ reached ER (cell c (.dma (sndA 2))) 0 ∗ dutyTok ER (cell c (.dma (sndA 2))) 0 0
    ∗ atPos ER (cell c (.dma (rcvA 2))) 0 ∅ 0 ∗ reached ER (cell c (.dma (rcvA 2))) 0 ∗ dutyTok ER (cell (mate c) (.dma (rcvA 2))) 0 0
    ∗ cred (tallyAt (cell c (.dma (rcvA 2))) () (credA 2)))

/-- The first kernel's scratch buffers, at any contents. -/
def slotA (c : Dev nD) : sProp 𝕄 :=
  iprop(ptAny c cc0_scratch0 ∗ ptAny c cc0_scratch1 ∗ ptAny c cc0_scratch2 ∗ ptAny c cc0_scratch3 ∗ ptAny c cc0_scratch4 ∗ ptAny c cc0_scratch5)
/-- Every cell of the first kernel, closed at zero. -/
def doneA (c : Dev nD) : sProp 𝕄 :=
  iprop(semVal (cell c (.dma (sndA 0))) 0 ∗ semVal (cell c (.dma (sndA 1))) 0 ∗ semVal (cell c (.dma (sndA 2))) 0 ∗ semVal (cell c (.dma (rcvA 0))) 0 ∗ semVal (cell c (.dma (rcvA 1))) 0 ∗ semVal (cell c (.dma (rcvA 2))) 0 ∗ semVal (cell c (.reg barA)) 0)

/-- The device's quarter of the rows of its activations. -/
def rows (c : Dev nD) (X0 : Vec F S1x1024x2048 .bf16) : Vec F S256x2048 .bf16 :=
  if isDev c 3#32 then k0_pay10 (k0_pay6 X0) else if isDev c 2#32 then k0_pay9 (k0_pay6 X0) else if isDev c 1#32 then k0_pay8 X0 else k0_pay7 X0
/-- The four conditional stores leave the device's rows, whatever was there. -/
theorem rows_eq (X0 : Vec F S1x1024x2048 .bf16) (f : Vec F S256x2048 .bf16) :
    (if isDev c 3#32 then k0_pay10 (k0_pay6 X0) else if isDev c 2#32 then k0_pay9 (k0_pay6 X0) else
      if isDev c 1#32 then k0_pay8 X0 else if isDev c 0#32 then k0_pay7 X0 else f) = rows c X0 := by
  unfold rows
  by_cases h3 : isDev c 3#32
  · rw [if_pos h3, if_pos h3]
  by_cases h2 : isDev c 2#32
  · rw [if_neg h3, if_neg h3, if_pos h2, if_pos h2]
  by_cases h1 : isDev c 1#32
  · rw [if_neg h3, if_neg h3, if_neg h2, if_neg h2, if_pos h1, if_pos h1]
  have h0 : isDev c 0#32 := by clear X0 f; revert c; decide
  rw [if_neg h3, if_neg h3, if_neg h2, if_neg h2, if_neg h1, if_neg h1, if_pos h0]

/-- The keys: the product with the device's own operands, rounded, and the product with the partner's. -/
def keys (X0 : Vec F S1x1024x2048 .bf16) : Vec F S1024x2048 .bf16 :=
  k0_pay1 (k0_pay17 (k0_pay6 X0) (T.s0 (mate c)) (T.s1 (mate c))) (k0_pay18 (k0_pay12 (k0_pay6 X0) (T.s0 c) (T.s1 c)))
/-- The values, likewise. -/
def vals (X0 : Vec F S1x1024x2048 .bf16) : Vec F S1024x2048 .bf16 :=
  k0_pay2 (k0_pay13 (k0_pay6 X0) (T.s0 c) (T.s2 c)) (k0_pay16 (k0_pay6 X0) (T.s0 (mate c))) (T.s2 (mate c))

/-- Closing every cell of the first kernel. -/
theorem closeA :
    iprop(records T κ ∗ atPos ER (cell c (.dma (sndA 0))) (0 + 1) ∅ 0 ∗ atPos ER (cell c (.dma (sndA 1))) (0 + 1) ∅ 0 ∗ atPos ER (cell c (.dma (sndA 2))) (0 + 1) ∅ 0 ∗ atPos ER (cell c (.dma (rcvA 0))) (0 + 1) ∅ 0 ∗ atPos ER (cell c (.dma (rcvA 1))) (0 + 1) ∅ 0 ∗ atPos ER (cell c (.dma (rcvA 2))) (0 + 1) ∅ 0 ∗ atPos ER (cell c (.reg barA)) (0 + 1) ∅ 0) ⊢ (|={Set.univ}=> doneA c : sProp 𝕄) := by
  unfold doneA
  iintro ⟨#HR, E0, E1, E2, A0, A1, A2, Ab⟩
  imod (close_cell T (κ (cell c (.dma (sndA 0)))) (cell c (.dma (sndA 0)))) $$ [E0] with E0
  · isplitr; · iapply (inv_sndA T κ c 0); iexact HR
    iexact E0
  imod (close_cell T (κ (cell c (.dma (sndA 1)))) (cell c (.dma (sndA 1)))) $$ [E1] with E1
  · isplitr; · iapply (inv_sndA T κ c 1); iexact HR
    iexact E1
  imod (close_cell T (κ (cell c (.dma (sndA 2)))) (cell c (.dma (sndA 2)))) $$ [E2] with E2
  · isplitr; · iapply (inv_sndA T κ c 2); iexact HR
    iexact E2
  imod (close_cell T (κ (cell c (.dma (rcvA 0)))) (cell c (.dma (rcvA 0)))) $$ [A0] with A0
  · isplitr; · iapply (inv_rcvA T κ c 0); iexact HR
    iexact A0
  imod (close_cell T (κ (cell c (.dma (rcvA 1)))) (cell c (.dma (rcvA 1)))) $$ [A1] with A1
  · isplitr; · iapply (inv_rcvA T κ c 1); iexact HR
    iexact A1
  imod (close_cell T (κ (cell c (.dma (rcvA 2)))) (cell c (.dma (rcvA 2)))) $$ [A2] with A2
  · isplitr; · iapply (inv_rcvA T κ c 2); iexact HR
    iexact A2
  imod (close_cell T (κ (cell c (.reg barA))) (cell c (.reg barA))) $$ [Ab] with Ab
  · isplitr; · iapply (inv_barA T κ c); iexact HR
    iexact Ab
  imodintro
  isplitl [E0]; · iexact E0
  isplitl [E1]; · iexact E1
  isplitl [E2]; · iexact E2
  isplitl [A0]; · iexact A0
  isplitl [A1]; · iexact A1
  isplitl [A2]; · iexact A2
  iexact Ab

/-- The first kernel's run on device `c`: from the protocol's start, the scratch buffers and the staged operands `X0 … X5`, whose
    sent ones are the protocol's messages, it ends with its five results staged, the scratch buffers back and every cell closed. -/
theorem body0 (X0 : Vec F S1x1024x2048 .bf16) (X1 : Vec F S2048x128 .bf16) (X2 X3 : Vec F S128x2048 .bf16) (X4 : Vec F S2048x128 .bf16) (X5 : Vec F S2048x2048 .bf16)
    (hX1 : k0_pay3 X1 = T.s0 c) (hX2 : k0_pay4 X2 = T.s1 c) (hX3 : k0_pay5 X3 = T.s2 c) (Q : PUnit → sProp 𝕄) :
    iprop(records T κ ∗ levAts L lv ∗ owing c (dueB c + dueA c) ∗ talkA c ∗ slotA c ∗ pt c cc0_stg0_0 fullShare X0 ∗ pt c cc0_stg1_0 fullShare X1 ∗ pt c cc0_stg2_0 fullShare X2 ∗ pt c cc0_stg3_0 fullShare X3 ∗ pt c cc0_stg4_0 fullShare X4 ∗ pt c cc0_stg5_0 fullShare X5 ∗ ptAny c cc0_stg6_0 ∗ ptAny c cc0_stg7_0 ∗ ptAny c cc0_stg8_0 ∗ ptAny c cc0_stg9_0 ∗ ptAny c cc0_stg10_0)
    ⊢ iprop((owing c (dueB c) ∗ doneA c ∗ slotA c ∗ pt c cc0_stg0_0 fullShare X0 ∗ pt c cc0_stg1_0 fullShare X1 ∗ pt c cc0_stg2_0 fullShare X2 ∗ pt c cc0_stg3_0 fullShare X3 ∗ pt c cc0_stg4_0 fullShare X4 ∗ pt c cc0_stg5_0 fullShare X5 ∗ pt c cc0_stg6_0 fullShare (keys T c X0) ∗ pt c cc0_stg7_0 fullShare (vals T c X0) ∗ pt c cc0_stg8_0 fullShare (k0_pay14 (k0_pay6 X0) X4) ∗ pt c cc0_stg9_0 fullShare (rows c X0) ∗ pt c cc0_stg10_0 fullShare (k0_pay15 (rows c X0) X5) -∗ Q ⟨⟩) -∗
      run c (cc0__kv_comm_body (.whole cc0_stg0_0) (Memref.isWhole_whole _) (.whole cc0_stg1_0) (Memref.isWhole_whole _) (.whole cc0_stg2_0) (Memref.isWhole_whole _) (.whole cc0_stg3_0) (Memref.isWhole_whole _) (.whole cc0_stg4_0) (Memref.isWhole_whole _) (.whole cc0_stg5_0) (Memref.isWhole_whole _) (.whole cc0_stg6_0) (Memref.isWhole_whole _) (.whole cc0_stg7_0) (Memref.isWhole_whole _) (.whole cc0_stg8_0) (Memref.isWhole_whole _) (.whole cc0_stg9_0) (Memref.isWhole_whole _) (.whole cc0_stg10_0) (Memref.isWhole_whole _) (.whole cc0_scratch0) (Memref.isWhole_whole _) (.whole cc0_scratch1) (Memref.isWhole_whole _) (.whole cc0_scratch2) (Memref.isWhole_whole _) (.whole cc0_scratch3) (Memref.isWhole_whole _) (.whole cc0_scratch4) (Memref.isWhole_whole _) (.whole cc0_scratch5) (Memref.isWhole_whole _) cc0_scratch6 cc0_scratch7) Q) := by
  simp only [cc0__kv_comm_body_eq_skeleton]; unfold cc0__kv_comm_body_skel
  unfold talkA slotA
  iintro ⟨#HR, #HL, HO, ⟨Ab, Cb, Tb, E0, #Q0, Ts0, A0, #P0, Tr0, C0, E1, #Q1, Ts1, A1, #P1, Tr1, C1, E2, #Q2, Ts2, A2, #P2, Tr2, C2⟩, ⟨S0, S1, S2, R0, R1, R2⟩, H0, H1, H2, H3, H4, H5, ⟨%f6, H6⟩, ⟨%f7, H7⟩, ⟨%f8, H8⟩, ⟨%f9, H9⟩, ⟨%f10, H10⟩⟩ Hk
  iapply (run_bind c _ _ _)
  iapply (part1 T κ c X1 X2 X3 _) $$ [HO H1 H2 H3 S0 S1 S2 R0 R1 R2 Tb Ab Cb]
  · isplitr; · iexact HR
    isplitr; · iexact HL
    isplitl [HO]; · iexact HO
    isplitl [H1]; · iexact H1
    isplitl [H2]; · iexact H2
    isplitl [H3]; · iexact H3
    isplitl [S0]; · iexact S0
    isplitl [S1]; · iexact S1
    isplitl [S2]; · iexact S2
    isplitl [R0]; · iexact R0
    isplitl [R1]; · iexact R1
    isplitl [R2]; · iexact R2
    isplitr; · iexact P0
    isplitr; · iexact P1
    isplitr; · iexact P2
    isplitl [Tb]; · iexact Tb
    isplitl [Ab]; · iexact Ab
    iexact Cb
  iintro ⟨HO, H1, H2, H3, S0, S1, S2, Hp, Ab⟩
  rw [hX1, hX2, hX3]
  dsimp only
  iapply (run_bind c _ _ _)
  iapply (part2 T κ c X0 f9 _) $$ [HO S0 S1 S2 Hp Ts0 Ts1 Ts2 Tr0 Tr1 Tr2 H0 H9]
  · isplitr; · iexact HR
    isplitl [HO]; · iexact HO
    isplitl [S0]; · iexact S0
    isplitl [S1]; · iexact S1
    isplitl [S2]; · iexact S2
    isplitl [Hp]; · iexact Hp
    isplitr; · iexact Q0
    isplitr; · iexact Q1
    isplitr; · iexact Q2
    isplitl [Ts0]; · iexact Ts0
    isplitl [Ts1]; · iexact Ts1
    isplitl [Ts2]; · iexact Ts2
    isplitl [Tr0]; · iexact Tr0
    isplitl [Tr1]; · iexact Tr1
    isplitl [Tr2]; · iexact Tr2
    isplitl [H0]; · iexact H0
    iexact H9
  iintro ⟨HO, S0, S1, S2, D0, D1, D2, H0, H9⟩
  dsimp only
  iapply (run_bind c _ _ _)
  iapply (part3 T κ c (k0_pay6 X0) X4 X5 f8 _ f10 _) $$ [HO S0 S1 S2 D0 E0 H4 H5 H8 H9 H10]
  · isplitr; · iexact HR
    isplitr; · iexact HL
    isplitl [HO]; · iexact HO
    isplitl [S0]; · iexact S0
    isplitl [S1]; · iexact S1
    isplitl [S2]; · iexact S2
    isplitl [D0]; · iexact D0
    isplitl [E0]; · iexact E0
    isplitl [H4]; · iexact H4
    isplitl [H5]; · iexact H5
    isplitl [H8]; · iexact H8
    isplitl [H9]; · iexact H9
    iexact H10
  iintro ⟨HO, S0, S1, S2, E0, B0, H4, H5, H8, H9, H10⟩
  rw [rows_eq]
  dsimp only
  iapply (run_bind c _ _ _)
  iapply (part4 T κ c (k0_pay6 X0) _ _) $$ [HO C0 A0 C1 A1 C2 A2 D1 E1 D2 E2]
  · isplitr; · iexact HR
    isplitr; · iexact HL
    isplitl [HO]; · iexact HO
    isplitl [C0]; · iexact C0
    isplitl [A0]; · iexact A0
    isplitl [C1]; · iexact C1
    isplitl [A1]; · iexact A1
    isplitl [C2]; · iexact C2
    isplitl [A2]; · iexact A2
    isplitl [D1]; · iexact D1
    isplitl [E1]; · iexact E1
    isplitl [D2]; · iexact D2
    iexact E2
  iintro ⟨HO, A0, G0, A1, G1, A2, G2, E1, B1, E2, B2⟩
  dsimp only
  simp only [semSignalWord, semWaitWord, Prog.lift, Prog.bind_op, Prog.bind_ret, Prog.pure_eq_ret, wp_deviceId]
  iapply (load_pt c (.whole cc0_stg6_0) fullShare f6 f6 (Memref.readAt_unit_zero (Elt F) cc0_stg6_0 zero2 _ f6)) $$ H6; iintro H6
  iapply (store_pt c (.whole cc0_stg6_0) f6 _ _ (Memref.write_access_unit_zero_univ (Elt F) cc0_stg6_0 zero2 _ f6 _)) $$ H6; iintro H6
  iapply (load_pt c (.whole cc0_scratch5) fullShare (T.s2 (mate c)) (T.s2 (mate c)) (Memref.readAt_unit_zero (Elt F) cc0_scratch5 zero2 _ (T.s2 (mate c)))) $$ G2; iintro G2
  iapply (load_pt c (.whole cc0_stg7_0) fullShare f7 f7 (Memref.readAt_unit_zero (Elt F) cc0_stg7_0 zero2 _ f7)) $$ H7; iintro H7
  iapply (store_pt c (.whole cc0_stg7_0) f7 _ _ (Memref.write_access_unit_zero_univ (Elt F) cc0_stg7_0 zero2 _ f7 _)) $$ H7; iintro H7
  unfold run; rw [wp_ret]
  imod (closeA T κ c) $$ [E0 E1 E2 A0 A1 A2 Ab] with Hd
  · isplitr; · iexact HR
    isplitl [E0]; · iexact E0
    isplitl [E1]; · iexact E1
    isplitl [E2]; · iexact E2
    isplitl [A0]; · iexact A0
    isplitl [A1]; · iexact A1
    isplitl [A2]; · iexact A2
    iexact Ab
  imodintro
  iapply Hk
  isplitl [HO]; · iexact HO
  isplitl [Hd]; · iexact Hd
  isplitl [S0 B0 S1 B1 S2 B2 G0 G1 G2]
  · isplitl [S0 B0]
    · iexists (T.s0 c); iapply (pointsTo_share (PosShare.mem_left_op_right fullShare)).2; isplitl [S0]; · iexact S0
      iexact B0
    isplitl [S1 B1]
    · iexists (T.s1 c); iapply (pointsTo_share (PosShare.mem_left_op_right fullShare)).2; isplitl [S1]; · iexact S1
      iexact B1
    isplitl [S2 B2]
    · iexists (T.s2 c); iapply (pointsTo_share (PosShare.mem_left_op_right fullShare)).2; isplitl [S2]; · iexact S2
      iexact B2
    isplitl [G0]; · iexists (T.s0 (mate c)); iexact G0
    isplitl [G1]; · iexists (T.s1 (mate c)); iexact G1
    iexists (T.s2 (mate c)); iexact G2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Talk
-- ==== Proof.KernelIdeal.Gather.lean ====
module

public import proofs.«01_k».proof.Proof.KernelIdeal.Body0

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (T : Msgs F) (κ : GSem nD τ sig → ℕ) (c : Dev nD)

/-- What is still owed for the last kernel after 1 payment. -/
def left1 (c : Dev nD) : CellTallies nD τ sig Unit := tallyAt (cell (peer 2 c) (.dma (rcvB 2))) () (credB 2) + tallyAt (cell (peer 1 c) (.dma (rcvB 1))) () (credB 1) + tallyAt (cell (peer 0 c) (.dma (rcvB 0))) () (credB 0) + tallyAt (cell (peer 2 c) (.reg barB)) () 1 + tallyAt (cell (peer 1 c) (.reg barB)) () 1
/-- What is still owed for the last kernel after 2 payments. -/
def left2 (c : Dev nD) : CellTallies nD τ sig Unit := tallyAt (cell (peer 2 c) (.dma (rcvB 2))) () (credB 2) + tallyAt (cell (peer 1 c) (.dma (rcvB 1))) () (credB 1) + tallyAt (cell (peer 0 c) (.dma (rcvB 0))) () (credB 0) + tallyAt (cell (peer 2 c) (.reg barB)) () 1
/-- What is still owed for the last kernel after 3 payments. -/
def left3 (c : Dev nD) : CellTallies nD τ sig Unit := tallyAt (cell (peer 2 c) (.dma (rcvB 2))) () (credB 2) + tallyAt (cell (peer 1 c) (.dma (rcvB 1))) () (credB 1) + tallyAt (cell (peer 0 c) (.dma (rcvB 0))) () (credB 0)
/-- What is still owed for the last kernel after 4 payments. -/
def left4 (c : Dev nD) : CellTallies nD τ sig Unit := tallyAt (cell (peer 2 c) (.dma (rcvB 2))) () (credB 2) + tallyAt (cell (peer 1 c) (.dma (rcvB 1))) () (credB 1)
/-- What is still owed for the last kernel after 5 payments. -/
def left5 (c : Dev nD) : CellTallies nD τ sig Unit := tallyAt (cell (peer 2 c) (.dma (rcvB 2))) () (credB 2)
theorem pay0 : dueB c = left1 c + tallyAt (cell (peer 0 c) (.reg barB)) () 1 := rfl
theorem pay1 : left1 c = left2 c + tallyAt (cell (peer 1 c) (.reg barB)) () 1 := rfl
theorem pay2 : left2 c = left3 c + tallyAt (cell (peer 2 c) (.reg barB)) () 1 := rfl
theorem pay3 : left3 c = left4 c + tallyAt (cell (peer 0 c) (.dma (rcvB 0))) () (credB 0) := rfl
theorem pay4 : left4 c = left5 c + tallyAt (cell (peer 1 c) (.dma (rcvB 1))) () (credB 1) := rfl
theorem pay5 : left5 c = 0 + tallyAt (cell (peer 2 c) (.dma (rcvB 2))) () (credB 2) := (zero_add _).symm
theorem left3_above : Above 3 (left3 c) := by
  unfold left3
  refine .add (.add (.at _ _ _ ?_) (.at _ _ _ ?_)) (.at _ _ _ ?_) <;> decide
theorem k3_dev1_peer (c : Dev nD) : (⟨k3_dev1 c, k3_dev1_lt c⟩ : Dev nD) = peer 0 c := by revert c; decide
theorem k3_dev4_peer (c : Dev nD) : (⟨k3_dev4 c, k3_dev4_lt c⟩ : Dev nD) = peer 0 c := by revert c; decide
theorem k3_dev2_peer (c : Dev nD) : (⟨k3_dev2 c, k3_dev2_lt c⟩ : Dev nD) = peer 1 c := by revert c; decide
theorem k3_dev5_peer (c : Dev nD) : (⟨k3_dev5 c, k3_dev5_lt c⟩ : Dev nD) = peer 1 c := by revert c; decide
theorem k3_dev3_peer (c : Dev nD) : (⟨k3_dev3 c, k3_dev3_lt c⟩ : Dev nD) = peer 2 c := by revert c; decide
theorem k3_dev6_peer (c : Dev nD) : (⟨k3_dev6 c, k3_dev6_lt c⟩ : Dev nD) = peer 2 c := by revert c; decide

/-- More words of a device's place: the complement of its second coordinate, and its peers' numbers. -/
abbrev w7 (c : Dev nD) : BitVec 32 := Scalar.subi 1#32 (w5 c)
abbrev w14 (c : Dev nD) : BitVec 32 := Scalar.addi (Scalar.muli (w6 c) 2#32) (w5 c)
abbrev w17 (c : Dev nD) : BitVec 32 := Scalar.addi (Scalar.muli (w2 c) 2#32) (w7 c)
abbrev w21 (c : Dev nD) : BitVec 32 := Scalar.addi (Scalar.muli (w6 c) 2#32) (w7 c)

/-- The signal to peer 0 hands over landing buffer 0. -/
theorem giveB0 : iprop(ptAny c cc3_scratch1 ∗ reached ER (cell c (.dma (rcvB 0))) 0) ⊢ payBarB (F := F) (peer 0 c) 0 := by
  unfold payBarB; simp only [peer_peer]; exact Entails.rfl
theorem lend_B0 : ((Memref.whole cc3_scratch0).view.loc (c : Thread nD τ) ↦{shares3 fullShare 0} (T.g c))
    ⊢ payOf T c (role (.dma (sndB 0))) 0 := Entails.rfl
theorem land_B0 (g : Buf (Elt F) ((Memref.whole cc3_scratch1).view.loc (peer 0 c : Thread nD τ))) :
    ((Memref.whole cc3_scratch1).view.loc (peer 0 c : Thread nD τ) ↦{fullShare}
      ((Memref.whole cc3_scratch1).view.write (Elt F) g ((Memref.whole cc3_scratch0).view.read (Elt F) (T.g c)) Finset.univ))
      ⊢ payOf T (peer 0 c) (role (.dma (rcvB 0))) 0 :=
  (land_whole (peer 0 c) cc3_scratch1 g (T.g c)).trans (Entails.of_eq (congrArg (fun d => pt (peer 0 c) cc3_scratch1 fullShare (T.g d)) (peer_peer 0 c).symm))
theorem sndB_sem0 : ((cc3_scratch4.slice (Rect.unit (s := S3) ![0] S1.size inb_S3_S1_0)).squeeze S_ squeezes_S1_S_).sem = sndB 0 := rfl
theorem rcvB_sem0 : ((cc3_scratch5.slice (Rect.unit (s := S3) ![0] S1.size inb_S3_S1_0)).squeeze S_ squeezes_S1_S_).sem = rcvB 0 := rfl
theorem copiesB_0 : (Memref.whole cc3_scratch1 : Memref sig .tc .vmem S256x2048 .bf16).view.amount (.dma (rcvB 0)) = credB 0 := rfl
theorem creditsB_rcv0 : (Memref.whole cc3_scratch1 : Memref sig .tc .vmem S256x2048 .bf16).view.dmaCredit = credB 0 := rfl
theorem creditsB_snd0 : (Memref.whole cc3_scratch0 : Memref sig .tc .vmem S256x2048 .bf16).view.dmaCredit = credB 0 := rfl

/-- The signal to peer 1 hands over landing buffer 1. -/
theorem giveB1 : iprop(ptAny c cc3_scratch2 ∗ reached ER (cell c (.dma (rcvB 1))) 0) ⊢ payBarB (F := F) (peer 1 c) 1 := by
  unfold payBarB; simp only [peer_peer]; exact Entails.rfl
theorem lend_B1 : ((Memref.whole cc3_scratch0).view.loc (c : Thread nD τ) ↦{shares3 fullShare 1} (T.g c))
    ⊢ payOf T c (role (.dma (sndB 1))) 0 := Entails.rfl
theorem land_B1 (g : Buf (Elt F) ((Memref.whole cc3_scratch2).view.loc (peer 1 c : Thread nD τ))) :
    ((Memref.whole cc3_scratch2).view.loc (peer 1 c : Thread nD τ) ↦{fullShare}
      ((Memref.whole cc3_scratch2).view.write (Elt F) g ((Memref.whole cc3_scratch0).view.read (Elt F) (T.g c)) Finset.univ))
      ⊢ payOf T (peer 1 c) (role (.dma (rcvB 1))) 0 :=
  (land_whole (peer 1 c) cc3_scratch2 g (T.g c)).trans (Entails.of_eq (congrArg (fun d => pt (peer 1 c) cc3_scratch2 fullShare (T.g d)) (peer_peer 1 c).symm))
theorem sndB_sem1 : ((cc3_scratch4.slice (Rect.unit (s := S3) ![1] S1.size inb_S3_S1_1)).squeeze S_ squeezes_S1_S_).sem = sndB 1 := rfl
theorem rcvB_sem1 : ((cc3_scratch5.slice (Rect.unit (s := S3) ![1] S1.size inb_S3_S1_1)).squeeze S_ squeezes_S1_S_).sem = rcvB 1 := rfl
theorem copiesB_1 : (Memref.whole cc3_scratch2 : Memref sig .tc .vmem S256x2048 .bf16).view.amount (.dma (rcvB 1)) = credB 1 := rfl
theorem creditsB_rcv1 : (Memref.whole cc3_scratch2 : Memref sig .tc .vmem S256x2048 .bf16).view.dmaCredit = credB 1 := rfl
theorem creditsB_snd1 : (Memref.whole cc3_scratch0 : Memref sig .tc .vmem S256x2048 .bf16).view.dmaCredit = credB 1 := rfl

/-- The signal to peer 2 hands over landing buffer 2. -/
theorem giveB2 : iprop(ptAny c cc3_scratch3 ∗ reached ER (cell c (.dma (rcvB 2))) 0) ⊢ payBarB (F := F) (peer 2 c) 2 := by
  unfold payBarB; simp only [peer_peer]; exact Entails.rfl
theorem lend_B2 : ((Memref.whole cc3_scratch0).view.loc (c : Thread nD τ) ↦{shares3 fullShare 2} (T.g c))
    ⊢ payOf T c (role (.dma (sndB 2))) 0 := Entails.rfl
theorem land_B2 (g : Buf (Elt F) ((Memref.whole cc3_scratch3).view.loc (peer 2 c : Thread nD τ))) :
    ((Memref.whole cc3_scratch3).view.loc (peer 2 c : Thread nD τ) ↦{fullShare}
      ((Memref.whole cc3_scratch3).view.write (Elt F) g ((Memref.whole cc3_scratch0).view.read (Elt F) (T.g c)) Finset.univ))
      ⊢ payOf T (peer 2 c) (role (.dma (rcvB 2))) 0 :=
  (land_whole (peer 2 c) cc3_scratch3 g (T.g c)).trans (Entails.of_eq (congrArg (fun d => pt (peer 2 c) cc3_scratch3 fullShare (T.g d)) (peer_peer 2 c).symm))
theorem sndB_sem2 : ((cc3_scratch4.slice (Rect.unit (s := S3) ![2] S1.size inb_S3_S1_2)).squeeze S_ squeezes_S1_S_).sem = sndB 2 := rfl
theorem rcvB_sem2 : ((cc3_scratch5.slice (Rect.unit (s := S3) ![2] S1.size inb_S3_S1_2)).squeeze S_ squeezes_S1_S_).sem = rcvB 2 := rfl
theorem copiesB_2 : (Memref.whole cc3_scratch3 : Memref sig .tc .vmem S256x2048 .bf16).view.amount (.dma (rcvB 2)) = credB 2 := rfl
theorem creditsB_rcv2 : (Memref.whole cc3_scratch3 : Memref sig .tc .vmem S256x2048 .bf16).view.dmaCredit = credB 2 := rfl
theorem creditsB_snd2 : (Memref.whole cc3_scratch0 : Memref sig .tc .vmem S256x2048 .bf16).view.dmaCredit = credB 2 := rfl

theorem duties_sndB (i : Fin 3) : dutiesOf (role (.dma (sndB i))) = {0} := by rw [role_sndB]; rfl
theorem duties_rcvB (i : Fin 3) : dutiesOf (role (.dma (rcvB i))) = {0} := by rw [role_rcvB]; rfl
theorem amount_sndB (i : Fin 3) : amountOf (role (.dma (sndB i))) = credB i := by rw [role_sndB]; rfl
theorem amount_rcvB (i : Fin 3) : amountOf (role (.dma (rcvB i))) = credB i := by rw [role_rcvB]; rfl

/-- The first two signals. -/
theorem gather1 (Q : _ → sProp 𝕄) :
    iprop(records T κ ∗ owing c (dueB c) ∗ dutyTok ER (cell (peer 0 c) (.reg barB)) 0 0 ∗ dutyTok ER (cell (peer 1 c) (.reg barB)) 0 1
      ∗ ptAny c cc3_scratch1 ∗ ptAny c cc3_scratch2 ∗ reached ER (cell c (.dma (rcvB 0))) 0 ∗ reached ER (cell c (.dma (rcvB 1))) 0)
    ⊢ iprop((owing c (left2 c) -∗ Q ⟨c, w2 c, w5 c, w6 c, w7 c, w6 c, w7 c, w8 c, w14 c, w17 c, w21 c, SemArray.scalar (sig.barrier 1 rfl), 2#32⟩) -∗
      run c (k3_part1 (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5) Q) := by
  simp only [k3_part1_eq_skeleton]; unfold k3_part1_skel
  simp only [semSignalWord, semWaitWord, Prog.lift, Prog.bind_op, Prog.bind_ret, Prog.pure_eq_ret, wp_deviceId]
  iintro ⟨#HR, HO, Tb0, Tb1, R0, R1, #P0, #P1⟩ Hk
  iapply (signal_bar T κ c (left1 c) _ (peer 0 c) (k3_dev1_peer c) barB 0 (inv_barB T κ (peer 0 c)) (reach_barB T κ (peer 0 c)) (by decide) rfl (pay0 c) (giveB0 c)) $$ [HO Tb0 R0]
  · isplitr; · iexact HR
    isplitl [HO]; · iexact HO
    isplitl [Tb0]; · iexact Tb0
    isplitl [R0]; · iexact R0
    iexact P0
  iintro HO
  iapply (signal_bar T κ c (left2 c) _ (peer 1 c) (k3_dev2_peer c) barB 1 (inv_barB T κ (peer 1 c)) (reach_barB T κ (peer 1 c)) (by decide) rfl (pay1 c) (giveB1 c)) $$ [HO Tb1 R1]
  · isplitr; · iexact HR
    isplitl [HO]; · iexact HO
    isplitl [Tb1]; · iexact Tb1
    isplitl [R1]; · iexact R1
    iexact P1
  iintro HO
  unfold run; rw [wp_ret]; imodintro
  iapply Hk
  iexact HO

set_option maxHeartbeats 1000000 in
/-- The third signal, the wait for all three, the copying of the block to be sent and the first two copies. -/
theorem gather2 (X : Vec F S256x2048 .f32) (hX : k3_pay7 X = T.g c) (Q : _ → sProp 𝕄) :
    iprop(records T κ ∗ levAts L lv ∗ owing c (left2 c) ∗ dutyTok ER (cell (peer 2 c) (.reg barB)) 0 2 ∗ ptAny c cc3_scratch3 ∗ reached ER (cell c (.dma (rcvB 2))) 0
      ∗ atPos ER (cell c (.reg barB)) 0 ∅ 0 ∗ cred (tallyAt (cell c (.reg barB)) () 3) ∗ pt c cc3_stg0_0 fullShare X ∗ ptAny c cc3_scratch0
      ∗ reached ER (cell c (.dma (sndB 0))) 0 ∗ reached ER (cell c (.dma (sndB 1))) 0 ∗ dutyTok ER (cell c (.dma (sndB 0))) 0 0 ∗ dutyTok ER (cell c (.dma (sndB 1))) 0 0 ∗ dutyTok ER (cell (peer 0 c) (.dma (rcvB 0))) 0 0 ∗ dutyTok ER (cell (peer 1 c) (.dma (rcvB 1))) 0 0)
    ⊢ iprop((owing c (left5 c) ∗ atPos ER (cell c (.reg barB)) (0 + 1) ∅ 0 ∗ pt c cc3_stg0_0 fullShare X ∗ pt c cc3_scratch0 (shares3 fullShare 2) (T.g c)
      ∗ cred (tallyAt (cell c (.dma (sndB 0))) () (credB 0)) ∗ cred (tallyAt (cell c (.dma (sndB 1))) () (credB 1)) ∗ ptAny (peer 2 c) cc3_scratch3 ∗ reached ER (cell (peer 2 c) (.dma (rcvB 2))) 0 -∗ Q ⟨⟩) -∗
      run c (k3_part2 (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 c (w2 c) (w5 c) (w6 c) (w7 c) (w6 c) (w7 c) (SemArray.scalar (sig.barrier 1 rfl)) 2#32) Q) := by
  simp only [k3_part2_eq_skeleton]; unfold k3_part2_skel
  simp only [sndB_sem0, sndB_sem1, sndB_sem2, rcvB_sem0, rcvB_sem1, rcvB_sem2]
  simp only [semSignalWord, semWaitWord, Prog.lift, Prog.bind_op, Prog.bind_ret, Prog.pure_eq_ret, wp_deviceId]
  iintro ⟨#HR, #HL, HO, Tb2, R2, #P2, Ab, Cb, H0, ⟨%f, S0⟩, #Q0, #Q1, Ts0, Ts1, Tr0, Tr1⟩ Hk
  iapply (signal_bar T κ c (left3 c) _ (peer 2 c) (k3_dev3_peer c) barB 2 (inv_barB T κ (peer 2 c)) (reach_barB T κ (peer 2 c)) (by decide) rfl (pay2 c) (giveB2 c)) $$ [HO Tb2 R2]
  · isplitr; · iexact HR
    isplitl [HO]; · iexact HO
    isplitl [Tb2]; · iexact Tb2
    isplitl [R2]; · iexact R2
    iexact P2
  iintro HO
  iapply (wait_barB T κ c (b := 3) (left3_above c) (le_refl 3)) $$ [Cb HO Ab]
  · isplitr; · iexact HR
    isplitr; · iexact HL
    isplitl [Cb]; · iexact Cb
    isplitl [HO]; · iexact HO
    iexact Ab
  iintro ⟨HO, Ab, Hp⟩
  unfold payBarB
  icases Hp with ⟨⟨⟨%g0, G0⟩, #P0⟩, ⟨⟨%g1, G1⟩, #P1⟩, ⟨G2, #P2'⟩⟩
  iapply (load_pt c (.whole cc3_stg0_0) fullShare X X (Memref.readAt_unit_zero (Elt F) cc3_stg0_0 zero2 _ X)) $$ H0; iintro H0
  iapply (load_pt c (.whole cc3_scratch0) fullShare f f (Memref.readAt_unit_zero (Elt F) cc3_scratch0 zero2 _ f)) $$ S0; iintro S0
  iapply (store_pt c (.whole cc3_scratch0) f _ _ (Memref.write_access_unit_zero_univ (Elt F) cc3_scratch0 zero2 _ f _)) $$ S0; iintro S0
  rw [hX]
  icases (pointsTo_thirds fullShare (T.g c)).1 $$ S0 with ⟨S0, S1, S2⟩
  iapply (send_dma T κ c (left4 c) _ (peer 0 c) (k3_dev4_peer c)
      (src := (Memref.whole cc3_scratch0 : Memref sig .tc .vmem S256x2048 .bf16)) (dst := (Memref.whole cc3_scratch1 : Memref sig .tc .vmem S256x2048 .bf16)) (sndB 0) (rcvB 0) (inv_sndB T κ c 0) (inv_rcvB T κ (peer 0 c) 0)
      (duties_sndB 0) (duties_rcvB 0) (credB 0) copiesB_0 (amount_sndB 0) (amount_rcvB 0) (pay3 c)
      (Memref.isWhole_whole cc3_scratch0).set_eq_univ (Memref.isWhole_whole cc3_scratch1).set_eq_univ (lend_B0 T c) (land_B0 T c g0)) $$ [S0 G0 HO Ts0 Tr0]
  · isplitr; · iexact HR
    isplitl [S0]; · iexact S0
    isplitl [G0]; · iexact G0
    isplitl [HO]; · iexact HO
    isplitl [Ts0]; · iexact Ts0
    isplitr; · iexact Q0
    isplitl [Tr0]; · iexact Tr0
    iexact P0
  iintro ⟨D0, HO⟩
  iapply (send_dma T κ c (left5 c) _ (peer 1 c) (k3_dev5_peer c)
      (src := (Memref.whole cc3_scratch0 : Memref sig .tc .vmem S256x2048 .bf16)) (dst := (Memref.whole cc3_scratch2 : Memref sig .tc .vmem S256x2048 .bf16)) (sndB 1) (rcvB 1) (inv_sndB T κ c 1) (inv_rcvB T κ (peer 1 c) 1)
      (duties_sndB 1) (duties_rcvB 1) (credB 1) copiesB_1 (amount_sndB 1) (amount_rcvB 1) (pay4 c)
      (Memref.isWhole_whole cc3_scratch0).set_eq_univ (Memref.isWhole_whole cc3_scratch2).set_eq_univ (lend_B1 T c) (land_B1 T c g1)) $$ [S1 G1 HO Ts1 Tr1]
  · isplitr; · iexact HR
    isplitl [S1]; · iexact S1
    isplitl [G1]; · iexact G1
    isplitl [HO]; · iexact HO
    isplitl [Ts1]; · iexact Ts1
    isplitr; · iexact Q1
    isplitl [Tr1]; · iexact Tr1
    iexact P1
  iintro ⟨D1, HO⟩
  unfold run; rw [wp_ret]; imodintro
  iapply Hk
  isplitl [HO]; · iexact HO
  isplitl [Ab]; · iexact Ab
  isplitl [H0]; · iexact H0
  isplitl [S2]; · iexact S2
  isplitl [D0]; · iexact D0
  isplitl [D1]; · iexact D1
  isplitl [G2]; · iexact G2
  iexact P2'

set_option maxHeartbeats 1000000 in
/-- The third copy and the six waits. -/
theorem gather3 (Q : _ → sProp 𝕄) :
    iprop(records T κ ∗ levAts L lv ∗ owing c (left5 c) ∗ pt c cc3_scratch0 (shares3 fullShare 2) (T.g c) ∗ ptAny (peer 2 c) cc3_scratch3
      ∗ dutyTok ER (cell c (.dma (sndB 2))) 0 0 ∗ reached ER (cell c (.dma (sndB 2))) 0 ∗ dutyTok ER (cell (peer 2 c) (.dma (rcvB 2))) 0 0 ∗ reached ER (cell (peer 2 c) (.dma (rcvB 2))) 0
      ∗ cred (tallyAt (cell c (.dma (sndB 0))) () (credB 0)) ∗ cred (tallyAt (cell c (.dma (sndB 1))) () (credB 1)) ∗ atPos ER (cell c (.dma (sndB 0))) 0 ∅ 0 ∗ atPos ER (cell c (.dma (rcvB 0))) 0 ∅ 0 ∗ cred (tallyAt (cell c (.dma (rcvB 0))) () (credB 0)) ∗ atPos ER (cell c (.dma (sndB 1))) 0 ∅ 0 ∗ atPos ER (cell c (.dma (rcvB 1))) 0 ∅ 0 ∗ cred (tallyAt (cell c (.dma (rcvB 1))) () (credB 1)) ∗ atPos ER (cell c (.dma (sndB 2))) 0 ∅ 0 ∗ atPos ER (cell c (.dma (rcvB 2))) 0 ∅ 0 ∗ cred (tallyAt (cell c (.dma (rcvB 2))) () (credB 2)))
    ⊢ iprop((owing c 0 ∗ pt c cc3_scratch0 fullShare (T.g c) ∗ atPos ER (cell c (.dma (sndB 0))) (0 + 1) ∅ 0 ∗ atPos ER (cell c (.dma (rcvB 0))) (0 + 1) ∅ 0 ∗ pt c cc3_scratch1 fullShare (T.g (peer 0 c)) ∗ atPos ER (cell c (.dma (sndB 1))) (0 + 1) ∅ 0 ∗ atPos ER (cell c (.dma (rcvB 1))) (0 + 1) ∅ 0 ∗ pt c cc3_scratch2 fullShare (T.g (peer 1 c)) ∗ atPos ER (cell c (.dma (sndB 2))) (0 + 1) ∅ 0 ∗ atPos ER (cell c (.dma (rcvB 2))) (0 + 1) ∅ 0 ∗ pt c cc3_scratch3 fullShare (T.g (peer 2 c)) -∗ Q (Scalar.extui (Scalar.cmpi .eq (w8 c) 0#32))) -∗
      run c (k3_part3 (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 c (w2 c) (w5 c) (w6 c) (w7 c) (w6 c) (w7 c) (w8 c)) Q) := by
  simp only [k3_part3_eq_skeleton]; unfold k3_part3_skel
  simp only [sndB_sem0, sndB_sem1, sndB_sem2, rcvB_sem0, rcvB_sem1, rcvB_sem2]
  simp only [semSignalWord, semWaitWord, Prog.lift, Prog.bind_op, Prog.bind_ret, Prog.pure_eq_ret, wp_deviceId]
  iintro ⟨#HR, #HL, HO, S2, ⟨%g2, G2⟩, Ts2, #Q2, Tr2, #P2, D0, D1, E0, A0, C0, E1, A1, C1, E2, A2, C2⟩ Hk
  iapply (send_dma T κ c (0) _ (peer 2 c) (k3_dev6_peer c)
      (src := (Memref.whole cc3_scratch0 : Memref sig .tc .vmem S256x2048 .bf16)) (dst := (Memref.whole cc3_scratch3 : Memref sig .tc .vmem S256x2048 .bf16)) (sndB 2) (rcvB 2) (inv_sndB T κ c 2) (inv_rcvB T κ (peer 2 c) 2)
      (duties_sndB 2) (duties_rcvB 2) (credB 2) copiesB_2 (amount_sndB 2) (amount_rcvB 2) (pay5 c)
      (Memref.isWhole_whole cc3_scratch0).set_eq_univ (Memref.isWhole_whole cc3_scratch3).set_eq_univ (lend_B2 T c) (land_B2 T c g2)) $$ [S2 G2 HO Ts2 Tr2]
  · isplitr; · iexact HR
    isplitl [S2]; · iexact S2
    isplitl [G2]; · iexact G2
    isplitl [HO]; · iexact HO
    isplitl [Ts2]; · iexact Ts2
    isplitr; · iexact Q2
    isplitl [Tr2]; · iexact Tr2
    iexact P2
  iintro ⟨D2, HO⟩
  iapply (wait_dma T κ c (sndB 0) (inv_sndB T κ c 0) (duties_sndB 0) (credB 0) (amount_sndB 0) (Above.zero 4) (by decide)
      (src := (Memref.whole cc3_scratch1 : Memref sig .tc .vmem S256x2048 .bf16)) (dst := (Memref.whole cc3_scratch0 : Memref sig .tc .vmem S256x2048 .bf16)) creditsB_snd0
      (P := pt c cc3_scratch0 (shares3 fullShare 0) (T.g c)) Entails.rfl) $$ [D0 HO E0]
  · isplitr; · iexact HR
    isplitr; · iexact HL
    isplitl [D0]; · iexact D0
    isplitl [HO]; · iexact HO
    iexact E0
  iintro ⟨HO, E0, B0⟩
  iapply (wait_dma T κ c (rcvB 0) (inv_rcvB T κ c 0) (duties_rcvB 0) (credB 0) (amount_rcvB 0) (Above.zero 4) (by decide)
      (src := (Memref.whole cc3_scratch0 : Memref sig .tc .vmem S256x2048 .bf16)) (dst := (Memref.whole cc3_scratch1 : Memref sig .tc .vmem S256x2048 .bf16)) creditsB_rcv0
      (P := pt c cc3_scratch1 fullShare (T.g (peer 0 c))) Entails.rfl) $$ [C0 HO A0]
  · isplitr; · iexact HR
    isplitr; · iexact HL
    isplitl [C0]; · iexact C0
    isplitl [HO]; · iexact HO
    iexact A0
  iintro ⟨HO, A0, G0⟩
  iapply (wait_dma T κ c (sndB 1) (inv_sndB T κ c 1) (duties_sndB 1) (credB 1) (amount_sndB 1) (Above.zero 4) (by decide)
      (src := (Memref.whole cc3_scratch2 : Memref sig .tc .vmem S256x2048 .bf16)) (dst := (Memref.whole cc3_scratch0 : Memref sig .tc .vmem S256x2048 .bf16)) creditsB_snd1
      (P := pt c cc3_scratch0 (shares3 fullShare 1) (T.g c)) Entails.rfl) $$ [D1 HO E1]
  · isplitr; · iexact HR
    isplitr; · iexact HL
    isplitl [D1]; · iexact D1
    isplitl [HO]; · iexact HO
    iexact E1
  iintro ⟨HO, E1, B1⟩
  iapply (wait_dma T κ c (rcvB 1) (inv_rcvB T κ c 1) (duties_rcvB 1) (credB 1) (amount_rcvB 1) (Above.zero 4) (by decide)
      (src := (Memref.whole cc3_scratch0 : Memref sig .tc .vmem S256x2048 .bf16)) (dst := (Memref.whole cc3_scratch2 : Memref sig .tc .vmem S256x2048 .bf16)) creditsB_rcv1
      (P := pt c cc3_scratch2 fullShare (T.g (peer 1 c))) Entails.rfl) $$ [C1 HO A1]
  · isplitr; · iexact HR
    isplitr; · iexact HL
    isplitl [C1]; · iexact C1
    isplitl [HO]; · iexact HO
    iexact A1
  iintro ⟨HO, A1, G1⟩
  iapply (wait_dma T κ c (sndB 2) (inv_sndB T κ c 2) (duties_sndB 2) (credB 2) (amount_sndB 2) (Above.zero 4) (by decide)
      (src := (Memref.whole cc3_scratch3 : Memref sig .tc .vmem S256x2048 .bf16)) (dst := (Memref.whole cc3_scratch0 : Memref sig .tc .vmem S256x2048 .bf16)) creditsB_snd2
      (P := pt c cc3_scratch0 (shares3 fullShare 2) (T.g c)) Entails.rfl) $$ [D2 HO E2]
  · isplitr; · iexact HR
    isplitr; · iexact HL
    isplitl [D2]; · iexact D2
    isplitl [HO]; · iexact HO
    iexact E2
  iintro ⟨HO, E2, B2⟩
  iapply (wait_dma T κ c (rcvB 2) (inv_rcvB T κ c 2) (duties_rcvB 2) (credB 2) (amount_rcvB 2) (Above.zero 4) (by decide)
      (src := (Memref.whole cc3_scratch0 : Memref sig .tc .vmem S256x2048 .bf16)) (dst := (Memref.whole cc3_scratch3 : Memref sig .tc .vmem S256x2048 .bf16)) creditsB_rcv2
      (P := pt c cc3_scratch3 fullShare (T.g (peer 2 c))) Entails.rfl) $$ [C2 HO A2]
  · isplitr; · iexact HR
    isplitr; · iexact HL
    isplitl [C2]; · iexact C2
    isplitl [HO]; · iexact HO
    iexact A2
  iintro ⟨HO, A2, G2⟩
  unfold run; rw [wp_ret]; imodintro
  iapply Hk
  isplitl [HO]; · iexact HO
  isplitl [B0 B1 B2]
  · iapply (pointsTo_thirds fullShare (T.g c)).2
    isplitl [B0]; · iexact B0
    isplitl [B1]; · iexact B1
    iexact B2
  isplitl [E0]; · iexact E0
  isplitl [A0]; · iexact A0
  isplitl [G0]; · iexact G0
  isplitl [E1]; · iexact E1
  isplitl [A1]; · iexact A1
  isplitl [G1]; · iexact G1
  isplitl [E2]; · iexact E2
  isplitl [A2]; · iexact A2
  iexact G2

end Cert.KernelIdeal.Talk
-- ==== Proof.KernelIdeal.Place.lean ====
module

public import proofs.«01_k».proof.Proof.KernelIdeal.Gather

public import Idealize.ShloMosaic.Lib.Pipeline.Value

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (T : Msgs F) (κ : GSem nD τ sig → ℕ) (c : Dev nD)

theorem slices_put (b : Fin 4) : Shape.Slices S1x1024x2048 ![0, 256 * b.val, 0] S1x256x2048 := by revert b; decide
/-- The array `f` with its row block `b` replaced by `w`. -/
def put (b : Fin 4) (w : Vec F S1x256x2048 .f32) (f : Vec F S1x1024x2048 .f32) : Vec F S1x1024x2048 .f32 :=
  updateSlice f w ![0, 256 * b.val, 0] (slices_put b)
/-- The same where `p` holds. -/
def putIf (p : Prop) [Decidable p] (b : Fin 4) (w : Vec F S1x256x2048 .f32) (f : Vec F S1x1024x2048 .f32) : Vec F S1x1024x2048 .f32 :=
  if p then put b w f else f
/-- The row block an index lies in, and its place in that block. -/
def blk (i : S1x1024x2048.Idx) : Fin 4 := ⟨(i 1).val / 256, by have h : (i 1).val < 1024 := (i 1).isLt; omega⟩
def below (i : S1x1024x2048.Idx) : S1x256x2048.Idx := fun a => ⟨(i a).val - (![0, 256 * (blk i).val, 0] : Fin 3 → ℕ) a, by
  have h : (i 1).val < 1024 := (i 1).isLt
  have h0 : (i 0).val < 1 := (i 0).isLt
  have h2 : (i 2).val < 2048 := (i 2).isLt
  fin_cases a
  · show (i 0).val - 0 < 1; omega
  · show (i 1).val - 256 * ((i 1).val / 256) < 256; omega
  · show (i 2).val - 0 < 2048; omega⟩
theorem put_apply (b : Fin 4) (w : Vec F S1x256x2048 .f32) (f : Vec F S1x1024x2048 .f32) (i : S1x1024x2048.Idx) :
    put b w f i = if blk i = b then w (below i) else f i := by
  unfold put updateSlice
  by_cases h : blk i = b
  · subst h
    rw [if_pos rfl]
    refine (dif_pos ?_).trans ?_
    · intro a
      have h : (i 1).val < 1024 := (i 1).isLt
      have h0 : (i 0).val < 1 := (i 0).isLt
      have h2 : (i 2).val < 2048 := (i 2).isLt
      fin_cases a
      · show 0 ≤ (i 0).val ∧ (i 0).val < 0 + 1; omega
      · show 256 * ((i 1).val / 256) ≤ (i 1).val ∧ (i 1).val < 256 * ((i 1).val / 256) + 256; omega
      · show 0 ≤ (i 2).val ∧ (i 2).val < 0 + 2048; omega
    · rfl
  · rw [if_neg h]
    refine dif_neg fun hin => h ?_
    have h1 : 256 * b.val ≤ (i 1).val ∧ (i 1).val < 256 * b.val + 256 := hin 1
    apply Fin.ext
    show (i 1).val / 256 = b.val
    omega
theorem putIf_apply (p : Prop) [Decidable p] (b : Fin 4) (w : Vec F S1x256x2048 .f32) (f : Vec F S1x1024x2048 .f32) (i : S1x1024x2048.Idx) :
    putIf p b w f i = if p ∧ blk i = b then w (below i) else f i := by
  unfold putIf
  by_cases hp : p
  · rw [if_pos hp, put_apply]; simp only [hp, true_and]
  · rw [if_neg hp, if_neg fun h => hp h.1]

/-- What the last kernel leaves: a device's own row block from its own sums, every other device's as sent. -/
def gathered (own : Vec F S256x2048 .f32) : Vec F S1x1024x2048 .f32 := fun i =>
  if blk i = c then k3_pay8 own (below i) else k3_pay9 (T.g (blk i)) (below i)

/-- The printed test that a number is `k`. -/
abbrev isNum (w k : BitVec 32) : Prop := Scalar.cmpi .ne (Scalar.extui (Scalar.cmpi .eq w k)) 0#32 = 1#1
theorem isNum_own (c k : Dev nD) : isNum (w8 c) (BitVec.ofNat 32 k.val) ↔ c = k := by revert c k; decide
theorem isNum_0 (c k : Dev nD) : isNum (w14 c) (BitVec.ofNat 32 k.val) ↔ peer 0 c = k := by revert c k; decide
theorem isNum_1 (c k : Dev nD) : isNum (w17 c) (BitVec.ofNat 32 k.val) ↔ peer 1 c = k := by revert c k; decide
theorem isNum_2 (c k : Dev nD) : isNum (w21 c) (BitVec.ofNat 32 k.val) ↔ peer 2 c = k := by revert c k; decide
theorem someone (c k : Dev nD) : peer 2 c = k ∨ peer 1 c = k ∨ peer 0 c = k ∨ c = k := by revert c k; decide
theorem peer_ne (c k : Dev nD) (d : Fin 3) (h : peer d c = k) : k ≠ c := by revert c k d; decide

/-- The four conditional stores of row block `b`. -/
def block (b : Fin 4) (own : Vec F S256x2048 .f32) (f : Vec F S1x1024x2048 .f32) : Vec F S1x1024x2048 .f32 :=
  putIf (isNum (w21 c) (BitVec.ofNat 32 b.val)) b (k3_pay9 (T.g (peer 2 c))) (putIf (isNum (w17 c) (BitVec.ofNat 32 b.val)) b (k3_pay9 (T.g (peer 1 c)))
    (putIf (isNum (w14 c) (BitVec.ofNat 32 b.val)) b (k3_pay9 (T.g (peer 0 c))) (putIf (isNum (w8 c) (BitVec.ofNat 32 b.val)) b (k3_pay8 own) f)))
theorem block_apply (b : Fin 4) (own : Vec F S256x2048 .f32) (f : Vec F S1x1024x2048 .f32) (i : S1x1024x2048.Idx) :
    block T c b own f i = if blk i = b then gathered T c own i else f i := by
  unfold block
  simp only [putIf_apply, isNum_own, isNum_0, isNum_1, isNum_2]
  by_cases h : blk i = b
  · simp only [h, and_true, if_true]
    unfold gathered
    rw [h]
    by_cases h2 : peer 2 c = b
    · rw [if_pos h2, h2, if_neg (peer_ne c b 2 h2)]
    rw [if_neg h2]
    by_cases h1 : peer 1 c = b
    · rw [if_pos h1, h1, if_neg (peer_ne c b 1 h1)]
    rw [if_neg h1]
    by_cases h0 : peer 0 c = b
    · rw [if_pos h0, h0, if_neg (peer_ne c b 0 h0)]
    rw [if_neg h0]
    have hc : c = b := ((someone c b).resolve_left h2 |>.resolve_left h1).resolve_left h0
    rw [if_pos hc, if_pos hc.symm]
  · simp only [h, and_false, if_false]
/-- All sixteen conditional stores leave the gathered rows, whatever was there. -/
theorem blocks_eq (own : Vec F S256x2048 .f32) (f : Vec F S1x1024x2048 .f32) :
    block T c 3 own (block T c 2 own (block T c 1 own (block T c 0 own f))) = gathered T c own := by
  funext i
  simp only [block_apply]
  have h : ∀ b : Fin 4, b = 3 ∨ b = 2 ∨ b = 1 ∨ b = 0 := by decide
  rcases h (blk i) with h | h | h | h <;> simp [h]

/-- A store through row block `b` replaces that block. -/
theorem write_put (b : Fin 4) (inb) (f : Vec F S1x1024x2048 .f32) (w : Vec F S1x256x2048 .f32) :
    ((Memref.whole cc3_stg1_0 : Memref sig .tc .vmem S1x1024x2048 .f32).access (Rect.unit (s := S1x1024x2048) ![0, 256 * b.val, 0] S1x256x2048.size inb)).write (Elt F) f w Finset.univ
      = put b w f := View.write_whole_slice_unit cc3_stg1_0 ![0, 256 * b.val, 0] S1x256x2048.size inb f w

/-- A conditional store and what follows: where `p` holds, a source is read whole and its rows stored as the block at `off`. -/
def copyThen {α : Type} (p : Prop) [Decidable p] {e : EltTy} (ms : Memref sig .tc .vmem S256x2048 e) (off : Fin 3 → ℕ)
    (inb : ∀ a, off a + S1x256x2048.size a ≤ S1x1024x2048.size a) (w : Vec F S256x2048 e → Vec F S1x256x2048 .f32)
    (K : Prog (TpuEff nD τ sig (Elt F) Λ₀ .tc) α) : Prog (TpuEff nD τ sig (Elt F) Λ₀ .tc) α :=
  if _ : p then do
    let x : Vec F S256x2048 e ← Prog.lift (.load ms (Rect.unit (s := S256x2048) ![0, 0] S256x2048.size inb_S256x2048_S256x2048_0_0).toLoadRect (View.loadsAt_vmem h_S256x2048))
    let _ : Vec F S1x256x2048 .f32 ← Prog.lift (.load (Memref.whole cc3_stg1_0 : Memref sig .tc .vmem S1x1024x2048 .f32) (Rect.unit (s := S1x1024x2048) off S1x256x2048.size inb).toLoadRect (View.loadsAt_vmem h_S1x256x2048))
    Prog.lift (.store (Memref.whole cc3_stg1_0 : Memref sig .tc .vmem S1x1024x2048 .f32) (Rect.unit (s := S1x1024x2048) off S1x256x2048.size inb) (w x) Finset.univ (View.stores_vmem_bits_univ h_S1x256x2048 rfl) (.inl rfl))
    K
  else K

/-- It leaves the result with that block replaced where `p` holds. -/
theorem copy_if {α : Type} (b : Fin 4) {e : EltTy} (ms : Memref sig .tc .vmem S256x2048 e)
    (fs : Buf (Elt F) (ms.view.loc (c : Thread nD τ))) (f : Vec F S1x1024x2048 .f32)
    {p : Prop} [Decidable p] {off : Fin 3 → ℕ} {inb : ∀ a, off a + S1x256x2048.size a ≤ S1x1024x2048.size a}
    (v : Vec F S256x2048 e) (hv : ms.view.readAt (Elt F) (Rect.unit (s := S256x2048) ![0, 0] S256x2048.size inb_S256x2048_S256x2048_0_0).toLoadRect fs = v)
    (hoff : off = ![0, 256 * b.val, 0])
    (w : Vec F S256x2048 e → Vec F S1x256x2048 .f32)
    {K : Prog (TpuEff nD τ sig (Elt F) Λ₀ .tc) α} {Q : α → sProp 𝕄} :
    iprop((ms.view.loc (c : Thread nD τ) ↦{fullShare} fs) ∗ pt c cc3_stg1_0 fullShare f)
      ⊢ iprop(((ms.view.loc (c : Thread nD τ) ↦{fullShare} fs) ∗ pt c cc3_stg1_0 fullShare (putIf p b (w v) f) -∗ run c K Q)
        -∗ run c (copyThen p ms off inb w K) Q) := by
  subst hoff
  unfold putIf copyThen
  by_cases hp : p
  · rw [dif_pos hp, if_pos hp]
    simp only [Prog.lift, Prog.bind_op, Prog.bind_ret]
    iintro ⟨Hs, H⟩ Hk
    iapply (load_pt c ms fullShare fs v hv) $$ Hs; iintro Hs
    iapply (load_pt c (Memref.whole cc3_stg1_0 : Memref sig .tc .vmem S1x1024x2048 .f32) fullShare f _ rfl) $$ H; iintro H
    iapply (store_pt c (Memref.whole cc3_stg1_0 : Memref sig .tc .vmem S1x1024x2048 .f32) f (put b (w v) f)
      (r := Rect.unit (s := S1x1024x2048) ![0, 256 * b.val, 0] S1x256x2048.size inb) (w v)
      (h := View.stores_vmem_bits_univ h_S1x256x2048 rfl) (h' := .inl rfl) (write_put b inb f (w v))) $$ H; iintro H
    iapply Hk
    isplitl [Hs]; · iexact Hs
    iexact H
  · rw [dif_neg hp, if_neg hp]
    iintro ⟨Hs, H⟩ Hk
    iapply Hk
    isplitl [Hs]; · iexact Hs
    iexact H

end Cert.KernelIdeal.Talk
-- ==== Proof.KernelIdeal.Body3.lean ====
module

public import proofs.«01_k».proof.Proof.KernelIdeal.Place

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (T : Msgs F) (κ : GSem nD τ sig → ℕ) (c : Dev nD)

/-- The first ten conditional stores, in a row. -/
theorem part4_eq (v11 v14 v17 v21 v90 : BitVec 32) : k3_part4 (F := F) (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 v11 v14 v17 v21 v90 =
    (copyThen (Scalar.cmpi .ne v90 0#32 = 1#1) (.whole cc3_stg0_0 : Memref sig .tc .vmem S256x2048 .f32) ![0, 0, 0] inb_S1x1024x2048_S1x256x2048_0_0_0 k3_pay8
      (copyThen (isNum v14 0#32) (.whole cc3_scratch1 : Memref sig .tc .vmem S256x2048 .bf16) ![0, 0, 0] inb_S1x1024x2048_S1x256x2048_0_0_0 k3_pay9
      (copyThen (isNum v17 0#32) (.whole cc3_scratch2 : Memref sig .tc .vmem S256x2048 .bf16) ![0, 0, 0] inb_S1x1024x2048_S1x256x2048_0_0_0 k3_pay10
      (copyThen (isNum v21 0#32) (.whole cc3_scratch3 : Memref sig .tc .vmem S256x2048 .bf16) ![0, 0, 0] inb_S1x1024x2048_S1x256x2048_0_0_0 k3_pay11
      (copyThen (isNum v11 1#32) (.whole cc3_stg0_0 : Memref sig .tc .vmem S256x2048 .f32) ![0, 256, 0] inb_S1x1024x2048_S1x256x2048_0_256_0 k3_pay12
      (copyThen (isNum v14 1#32) (.whole cc3_scratch1 : Memref sig .tc .vmem S256x2048 .bf16) ![0, 256, 0] inb_S1x1024x2048_S1x256x2048_0_256_0 k3_pay13
      (copyThen (isNum v17 1#32) (.whole cc3_scratch2 : Memref sig .tc .vmem S256x2048 .bf16) ![0, 256, 0] inb_S1x1024x2048_S1x256x2048_0_256_0 k3_pay14
      (copyThen (isNum v21 1#32) (.whole cc3_scratch3 : Memref sig .tc .vmem S256x2048 .bf16) ![0, 256, 0] inb_S1x1024x2048_S1x256x2048_0_256_0 k3_pay15
      (copyThen (isNum v11 2#32) (.whole cc3_stg0_0 : Memref sig .tc .vmem S256x2048 .f32) ![0, 512, 0] inb_S1x1024x2048_S1x256x2048_0_512_0 k3_pay16
      (copyThen (isNum v14 2#32) (.whole cc3_scratch1 : Memref sig .tc .vmem S256x2048 .bf16) ![0, 512, 0] inb_S1x1024x2048_S1x256x2048_0_512_0 k3_pay17
      (Prog.ret (Scalar.extui (Scalar.cmpi .eq v17 2#32))))))))))))) := rfl
/-- The last six. -/
def rest6 (v11 v14 v17 v21 v120 : BitVec 32) : Prog (TpuEff nD τ sig (Elt F) Λ₀ .tc) PUnit :=
    (copyThen (Scalar.cmpi .ne v120 0#32 = 1#1) (.whole cc3_scratch2 : Memref sig .tc .vmem S256x2048 .bf16) ![0, 512, 0] inb_S1x1024x2048_S1x256x2048_0_512_0 k3_pay1
      (copyThen (isNum v21 2#32) (.whole cc3_scratch3 : Memref sig .tc .vmem S256x2048 .bf16) ![0, 512, 0] inb_S1x1024x2048_S1x256x2048_0_512_0 k3_pay2
      (copyThen (isNum v11 3#32) (.whole cc3_stg0_0 : Memref sig .tc .vmem S256x2048 .f32) ![0, 768, 0] inb_S1x1024x2048_S1x256x2048_0_768_0 k3_pay3
      (copyThen (isNum v14 3#32) (.whole cc3_scratch1 : Memref sig .tc .vmem S256x2048 .bf16) ![0, 768, 0] inb_S1x1024x2048_S1x256x2048_0_768_0 k3_pay4
      (copyThen (isNum v17 3#32) (.whole cc3_scratch2 : Memref sig .tc .vmem S256x2048 .bf16) ![0, 768, 0] inb_S1x1024x2048_S1x256x2048_0_768_0 k3_pay5
      (copyThen (isNum v21 3#32) (.whole cc3_scratch3 : Memref sig .tc .vmem S256x2048 .bf16) ![0, 768, 0] inb_S1x1024x2048_S1x256x2048_0_768_0 k3_pay6
      (Prog.ret ⟨⟩)))))))
/-- The kernel as its four parts and the last six conditional stores. -/
theorem body3_eq : cc3__gather_body (F := F) (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 =
    (k3_part1 (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 >>= fun x => k3_part2 (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 x.1 x.2.1 x.2.2.1 x.2.2.2.1 x.2.2.2.2.1 x.2.2.2.2.2.1 x.2.2.2.2.2.2.1 x.2.2.2.2.2.2.2.2.2.2.2.1 x.2.2.2.2.2.2.2.2.2.2.2.2 >>= fun _ =>
      k3_part3 (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 x.1 x.2.1 x.2.2.1 x.2.2.2.1 x.2.2.2.2.1 x.2.2.2.2.2.1 x.2.2.2.2.2.2.1 x.2.2.2.2.2.2.2.1 >>= fun v90 =>
      k3_part4 (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 x.2.2.2.2.2.2.2.1 x.2.2.2.2.2.2.2.2.1 x.2.2.2.2.2.2.2.2.2.1 x.2.2.2.2.2.2.2.2.2.2.1 v90 >>= fun v120 =>
      rest6 x.2.2.2.2.2.2.2.1 x.2.2.2.2.2.2.2.2.1 x.2.2.2.2.2.2.2.2.2.1 x.2.2.2.2.2.2.2.2.2.2.1 v120) := rfl

/-- The first ten conditional stores. -/
theorem gather4 (X : Vec F S256x2048 .f32) (f : Vec F S1x1024x2048 .f32) (Q : _ → sProp 𝕄) :
    iprop(pt c cc3_stg0_0 fullShare X ∗ pt c cc3_scratch1 fullShare (T.g (peer 0 c)) ∗ pt c cc3_scratch2 fullShare (T.g (peer 1 c)) ∗ pt c cc3_scratch3 fullShare (T.g (peer 2 c)) ∗ pt c cc3_stg1_0 fullShare f)
    ⊢ iprop((pt c cc3_stg0_0 fullShare X ∗ pt c cc3_scratch1 fullShare (T.g (peer 0 c)) ∗ pt c cc3_scratch2 fullShare (T.g (peer 1 c)) ∗ pt c cc3_scratch3 fullShare (T.g (peer 2 c)) ∗ pt c cc3_stg1_0 fullShare (putIf (isNum (w14 c) 2#32) 2 (k3_pay9 (T.g (peer 0 c))) (putIf (isNum (w8 c) 2#32) 2 (k3_pay8 X) (putIf (isNum (w21 c) 1#32) 1 (k3_pay9 (T.g (peer 2 c))) (putIf (isNum (w17 c) 1#32) 1 (k3_pay9 (T.g (peer 1 c))) (putIf (isNum (w14 c) 1#32) 1 (k3_pay9 (T.g (peer 0 c))) (putIf (isNum (w8 c) 1#32) 1 (k3_pay8 X) (putIf (isNum (w21 c) 0#32) 0 (k3_pay9 (T.g (peer 2 c))) (putIf (isNum (w17 c) 0#32) 0 (k3_pay9 (T.g (peer 1 c))) (putIf (isNum (w14 c) 0#32) 0 (k3_pay9 (T.g (peer 0 c))) (putIf (isNum (w8 c) 0#32) 0 (k3_pay8 X) f))))))))))
       -∗ Q (Scalar.extui (Scalar.cmpi .eq (w17 c) 2#32))) -∗
      run c (k3_part4 (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5 (w8 c) (w14 c) (w17 c) (w21 c) (Scalar.extui (Scalar.cmpi .eq (w8 c) 0#32))) Q) := by
  rw [part4_eq]
  iintro ⟨H0, G0, G1, G2, H1⟩ Hk
  iapply (copy_if c 0 (.whole cc3_stg0_0) X _ X (Memref.readAt_unit_zero (Elt F) cc3_stg0_0 zero2 _ X) rfl k3_pay8) $$ [H0 H1]
  · isplitl [H0]; · iexact H0
    iexact H1
  iintro ⟨H0, H1⟩
  iapply (copy_if c 0 (.whole cc3_scratch1) (T.g (peer 0 c)) _ (T.g (peer 0 c)) (Memref.readAt_unit_zero (Elt F) cc3_scratch1 zero2 _ (T.g (peer 0 c))) rfl k3_pay9) $$ [G0 H1]
  · isplitl [G0]; · iexact G0
    iexact H1
  iintro ⟨G0, H1⟩
  iapply (copy_if c 0 (.whole cc3_scratch2) (T.g (peer 1 c)) _ (T.g (peer 1 c)) (Memref.readAt_unit_zero (Elt F) cc3_scratch2 zero2 _ (T.g (peer 1 c))) rfl k3_pay10) $$ [G1 H1]
  · isplitl [G1]; · iexact G1
    iexact H1
  iintro ⟨G1, H1⟩
  iapply (copy_if c 0 (.whole cc3_scratch3) (T.g (peer 2 c)) _ (T.g (peer 2 c)) (Memref.readAt_unit_zero (Elt F) cc3_scratch3 zero2 _ (T.g (peer 2 c))) rfl k3_pay11) $$ [G2 H1]
  · isplitl [G2]; · iexact G2
    iexact H1
  iintro ⟨G2, H1⟩
  iapply (copy_if c 1 (.whole cc3_stg0_0) X _ X (Memref.readAt_unit_zero (Elt F) cc3_stg0_0 zero2 _ X) rfl k3_pay12) $$ [H0 H1]
  · isplitl [H0]; · iexact H0
    iexact H1
  iintro ⟨H0, H1⟩
  iapply (copy_if c 1 (.whole cc3_scratch1) (T.g (peer 0 c)) _ (T.g (peer 0 c)) (Memref.readAt_unit_zero (Elt F) cc3_scratch1 zero2 _ (T.g (peer 0 c))) rfl k3_pay13) $$ [G0 H1]
  · isplitl [G0]; · iexact G0
    iexact H1
  iintro ⟨G0, H1⟩
  iapply (copy_if c 1 (.whole cc3_scratch2) (T.g (peer 1 c)) _ (T.g (peer 1 c)) (Memref.readAt_unit_zero (Elt F) cc3_scratch2 zero2 _ (T.g (peer 1 c))) rfl k3_pay14) $$ [G1 H1]
  · isplitl [G1]; · iexact G1
    iexact H1
  iintro ⟨G1, H1⟩
  iapply (copy_if c 1 (.whole cc3_scratch3) (T.g (peer 2 c)) _ (T.g (peer 2 c)) (Memref.readAt_unit_zero (Elt F) cc3_scratch3 zero2 _ (T.g (peer 2 c))) rfl k3_pay15) $$ [G2 H1]
  · isplitl [G2]; · iexact G2
    iexact H1
  iintro ⟨G2, H1⟩
  iapply (copy_if c 2 (.whole cc3_stg0_0) X _ X (Memref.readAt_unit_zero (Elt F) cc3_stg0_0 zero2 _ X) rfl k3_pay16) $$ [H0 H1]
  · isplitl [H0]; · iexact H0
    iexact H1
  iintro ⟨H0, H1⟩
  iapply (copy_if c 2 (.whole cc3_scratch1) (T.g (peer 0 c)) _ (T.g (peer 0 c)) (Memref.readAt_unit_zero (Elt F) cc3_scratch1 zero2 _ (T.g (peer 0 c))) rfl k3_pay17) $$ [G0 H1]
  · isplitl [G0]; · iexact G0
    iexact H1
  iintro ⟨G0, H1⟩
  unfold run; rw [wp_ret]; imodintro
  iapply Hk
  isplitl [H0]; · iexact H0
  isplitl [G0]; · iexact G0
  isplitl [G1]; · iexact G1
  isplitl [G2]; · iexact G2
  iexact H1

/-- The last six. -/
theorem gather5 (X : Vec F S256x2048 .f32) (f : Vec F S1x1024x2048 .f32) (Q : _ → sProp 𝕄) :
    iprop(pt c cc3_stg0_0 fullShare X ∗ pt c cc3_scratch1 fullShare (T.g (peer 0 c)) ∗ pt c cc3_scratch2 fullShare (T.g (peer 1 c)) ∗ pt c cc3_scratch3 fullShare (T.g (peer 2 c)) ∗ pt c cc3_stg1_0 fullShare f)
    ⊢ iprop((pt c cc3_stg0_0 fullShare X ∗ pt c cc3_scratch1 fullShare (T.g (peer 0 c)) ∗ pt c cc3_scratch2 fullShare (T.g (peer 1 c)) ∗ pt c cc3_scratch3 fullShare (T.g (peer 2 c)) ∗ pt c cc3_stg1_0 fullShare (putIf (isNum (w21 c) 3#32) 3 (k3_pay9 (T.g (peer 2 c))) (putIf (isNum (w17 c) 3#32) 3 (k3_pay9 (T.g (peer 1 c))) (putIf (isNum (w14 c) 3#32) 3 (k3_pay9 (T.g (peer 0 c))) (putIf (isNum (w8 c) 3#32) 3 (k3_pay8 X) (putIf (isNum (w21 c) 2#32) 2 (k3_pay9 (T.g (peer 2 c))) (putIf (isNum (w17 c) 2#32) 2 (k3_pay9 (T.g (peer 1 c))) f))))))
       -∗ Q ⟨⟩) -∗
      run c (rest6 (w8 c) (w14 c) (w17 c) (w21 c) (Scalar.extui (Scalar.cmpi .eq (w17 c) 2#32))) Q) := by
  unfold rest6
  iintro ⟨H0, G0, G1, G2, H1⟩ Hk
  iapply (copy_if c 2 (.whole cc3_scratch2) (T.g (peer 1 c)) _ (T.g (peer 1 c)) (Memref.readAt_unit_zero (Elt F) cc3_scratch2 zero2 _ (T.g (peer 1 c))) rfl k3_pay1) $$ [G1 H1]
  · isplitl [G1]; · iexact G1
    iexact H1
  iintro ⟨G1, H1⟩
  iapply (copy_if c 2 (.whole cc3_scratch3) (T.g (peer 2 c)) _ (T.g (peer 2 c)) (Memref.readAt_unit_zero (Elt F) cc3_scratch3 zero2 _ (T.g (peer 2 c))) rfl k3_pay2) $$ [G2 H1]
  · isplitl [G2]; · iexact G2
    iexact H1
  iintro ⟨G2, H1⟩
  iapply (copy_if c 3 (.whole cc3_stg0_0) X _ X (Memref.readAt_unit_zero (Elt F) cc3_stg0_0 zero2 _ X) rfl k3_pay3) $$ [H0 H1]
  · isplitl [H0]; · iexact H0
    iexact H1
  iintro ⟨H0, H1⟩
  iapply (copy_if c 3 (.whole cc3_scratch1) (T.g (peer 0 c)) _ (T.g (peer 0 c)) (Memref.readAt_unit_zero (Elt F) cc3_scratch1 zero2 _ (T.g (peer 0 c))) rfl k3_pay4) $$ [G0 H1]
  · isplitl [G0]; · iexact G0
    iexact H1
  iintro ⟨G0, H1⟩
  iapply (copy_if c 3 (.whole cc3_scratch2) (T.g (peer 1 c)) _ (T.g (peer 1 c)) (Memref.readAt_unit_zero (Elt F) cc3_scratch2 zero2 _ (T.g (peer 1 c))) rfl k3_pay5) $$ [G1 H1]
  · isplitl [G1]; · iexact G1
    iexact H1
  iintro ⟨G1, H1⟩
  iapply (copy_if c 3 (.whole cc3_scratch3) (T.g (peer 2 c)) _ (T.g (peer 2 c)) (Memref.readAt_unit_zero (Elt F) cc3_scratch3 zero2 _ (T.g (peer 2 c))) rfl k3_pay6) $$ [G2 H1]
  · isplitl [G2]; · iexact G2
    iexact H1
  iintro ⟨G2, H1⟩
  unfold run; rw [wp_ret]; imodintro
  iapply Hk
  isplitl [H0]; · iexact H0
  isplitl [G0]; · iexact G0
  isplitl [G1]; · iexact G1
  isplitl [G2]; · iexact G2
  iexact H1

/-- What device `c`'s protocol for the last kernel starts from. -/
def talkB (c : Dev nD) : sProp 𝕄 := iprop(atPos ER (cell c (.reg barB)) 0 ∅ 0 ∗ cred (tallyAt (cell c (.reg barB)) () 3)
    ∗ dutyTok ER (cell (peer 0 c) (.reg barB)) 0 0 ∗ dutyTok ER (cell (peer 1 c) (.reg barB)) 0 1 ∗ dutyTok ER (cell (peer 2 c) (.reg barB)) 0 2
    ∗ atPos ER (cell c (.dma (sndB 0))) 0 ∅ 0 ∗ reached ER (cell c (.dma (sndB 0))) 0 ∗ dutyTok ER (cell c (.dma (sndB 0))) 0 0
    ∗ atPos ER (cell c (.dma (rcvB 0))) 0 ∅ 0 ∗ reached ER (cell c (.dma (rcvB 0))) 0 ∗ dutyTok ER (cell (peer 0 c) (.dma (rcvB 0))) 0 0 ∗ cred (tallyAt (cell c (.dma (rcvB 0))) () (credB 0))
    ∗ atPos ER (cell c (.dma (sndB 1))) 0 ∅ 0 ∗ reached ER (cell c (.dma (sndB 1))) 0 ∗ dutyTok ER (cell c (.dma (sndB 1))) 0 0
    ∗ atPos ER (cell c (.dma (rcvB 1))) 0 ∅ 0 ∗ reached ER (cell c (.dma (rcvB 1))) 0 ∗ dutyTok ER (cell (peer 1 c) (.dma (rcvB 1))) 0 0 ∗ cred (tallyAt (cell c (.dma (rcvB 1))) () (credB 1))
    ∗ atPos ER (cell c (.dma (sndB 2))) 0 ∅ 0 ∗ reached ER (cell c (.dma (sndB 2))) 0 ∗ dutyTok ER (cell c (.dma (sndB 2))) 0 0
    ∗ atPos ER (cell c (.dma (rcvB 2))) 0 ∅ 0 ∗ reached ER (cell c (.dma (rcvB 2))) 0 ∗ dutyTok ER (cell (peer 2 c) (.dma (rcvB 2))) 0 0 ∗ cred (tallyAt (cell c (.dma (rcvB 2))) () (credB 2)))
/-- The last kernel's scratch buffers, at any contents. -/
def slotB (c : Dev nD) : sProp 𝕄 := iprop(ptAny c cc3_scratch0 ∗ ptAny c cc3_scratch1 ∗ ptAny c cc3_scratch2 ∗ ptAny c cc3_scratch3)
/-- Every cell of the last kernel, closed at zero. -/
def doneB (c : Dev nD) : sProp 𝕄 :=
  iprop(semVal (cell c (.dma (sndB 0))) 0 ∗ semVal (cell c (.dma (sndB 1))) 0 ∗ semVal (cell c (.dma (sndB 2))) 0 ∗ semVal (cell c (.dma (rcvB 0))) 0 ∗ semVal (cell c (.dma (rcvB 1))) 0 ∗ semVal (cell c (.dma (rcvB 2))) 0 ∗ semVal (cell c (.reg barB)) 0)
/-- Closing every cell of the last kernel. -/
theorem closeB :
    iprop(records T κ ∗ atPos ER (cell c (.dma (sndB 0))) (0 + 1) ∅ 0 ∗ atPos ER (cell c (.dma (sndB 1))) (0 + 1) ∅ 0 ∗ atPos ER (cell c (.dma (sndB 2))) (0 + 1) ∅ 0 ∗ atPos ER (cell c (.dma (rcvB 0))) (0 + 1) ∅ 0 ∗ atPos ER (cell c (.dma (rcvB 1))) (0 + 1) ∅ 0 ∗ atPos ER (cell c (.dma (rcvB 2))) (0 + 1) ∅ 0 ∗ atPos ER (cell c (.reg barB)) (0 + 1) ∅ 0) ⊢ (|={Set.univ}=> doneB c : sProp 𝕄) := by
  unfold doneB
  iintro ⟨#HR, E0, E1, E2, A0, A1, A2, Ab⟩
  imod (close_cell T (κ (cell c (.dma (sndB 0)))) (cell c (.dma (sndB 0)))) $$ [E0] with E0
  · isplitr; · iapply (inv_sndB T κ c 0); iexact HR
    iexact E0
  imod (close_cell T (κ (cell c (.dma (sndB 1)))) (cell c (.dma (sndB 1)))) $$ [E1] with E1
  · isplitr; · iapply (inv_sndB T κ c 1); iexact HR
    iexact E1
  imod (close_cell T (κ (cell c (.dma (sndB 2)))) (cell c (.dma (sndB 2)))) $$ [E2] with E2
  · isplitr; · iapply (inv_sndB T κ c 2); iexact HR
    iexact E2
  imod (close_cell T (κ (cell c (.dma (rcvB 0)))) (cell c (.dma (rcvB 0)))) $$ [A0] with A0
  · isplitr; · iapply (inv_rcvB T κ c 0); iexact HR
    iexact A0
  imod (close_cell T (κ (cell c (.dma (rcvB 1)))) (cell c (.dma (rcvB 1)))) $$ [A1] with A1
  · isplitr; · iapply (inv_rcvB T κ c 1); iexact HR
    iexact A1
  imod (close_cell T (κ (cell c (.dma (rcvB 2)))) (cell c (.dma (rcvB 2)))) $$ [A2] with A2
  · isplitr; · iapply (inv_rcvB T κ c 2); iexact HR
    iexact A2
  imod (close_cell T (κ (cell c (.reg barB))) (cell c (.reg barB))) $$ [Ab] with Ab
  · isplitr; · iapply (inv_barB T κ c); iexact HR
    iexact Ab
  imodintro
  isplitl [E0]; · iexact E0
  isplitl [E1]; · iexact E1
  isplitl [E2]; · iexact E2
  isplitl [A0]; · iexact A0
  isplitl [A1]; · iexact A1
  isplitl [A2]; · iexact A2
  iexact Ab

/-- An update may be left to the end of a run. -/
theorem fupd_run {α : Type} (p : Prog (TpuEff nD τ sig (Elt F) Λ₀ .tc) α) (Q : α → sProp 𝕄) : run c p (fun x => iprop(|={Set.univ}=> Q x)) ⊢ run c p Q := wp_fupd _ _ _ _ _

set_option maxHeartbeats 2000000 in
/-- The last kernel's run on device `c`: from the protocol's start, the scratch buffers and its sums `X`, whose rounding is the
    protocol's message, it ends with the gathered rows staged, the scratch buffers back and every cell closed. -/
theorem body3 (X : Vec F S256x2048 .f32) (hX : k3_pay7 X = T.g c) (Q : PUnit → sProp 𝕄) :
    iprop(records T κ ∗ levAts L lv ∗ owing c (dueB c) ∗ talkB c ∗ slotB c ∗ pt c cc3_stg0_0 fullShare X ∗ ptAny c cc3_stg1_0)
    ⊢ iprop((owing c 0 ∗ doneB c ∗ slotB c ∗ pt c cc3_stg0_0 fullShare X ∗ pt c cc3_stg1_0 fullShare (gathered T c X) -∗ Q ⟨⟩) -∗
      run c (cc3__gather_body (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5) Q) := by
  rw [body3_eq]
  unfold talkB slotB
  iintro ⟨#HR, #HL, HO, ⟨Ab, Cb, Tb0, Tb1, Tb2, E0, #Q0, Ts0, A0, #P0, Tr0, C0, E1, #Q1, Ts1, A1, #P1, Tr1, C1, E2, #Q2, Ts2, A2, #P2, Tr2, C2⟩, ⟨S0, R0, R1, R2⟩, H0, ⟨%f1, H1⟩⟩ Hk
  iapply (run_bind c _ _ _)
  iapply (gather1 T κ c _) $$ [HO Tb0 Tb1 R0 R1]
  · isplitr; · iexact HR
    isplitl [HO]; · iexact HO
    isplitl [Tb0]; · iexact Tb0
    isplitl [Tb1]; · iexact Tb1
    isplitl [R0]; · iexact R0
    isplitl [R1]; · iexact R1
    isplitr; · iexact P0
    iexact P1
  iintro HO
  try dsimp only
  iapply (run_bind c _ _ _)
  iapply (gather2 T κ c X hX _) $$ [HO Tb2 R2 Ab Cb H0 S0 Ts0 Ts1 Tr0 Tr1]
  · isplitr; · iexact HR
    isplitr; · iexact HL
    isplitl [HO]; · iexact HO
    isplitl [Tb2]; · iexact Tb2
    isplitl [R2]; · iexact R2
    isplitr; · iexact P2
    isplitl [Ab]; · iexact Ab
    isplitl [Cb]; · iexact Cb
    isplitl [H0]; · iexact H0
    isplitl [S0]; · iexact S0
    isplitr; · iexact Q0
    isplitr; · iexact Q1
    isplitl [Ts0]; · iexact Ts0
    isplitl [Ts1]; · iexact Ts1
    isplitl [Tr0]; · iexact Tr0
    iexact Tr1
  iintro ⟨HO, Ab, H0, S0, D0, D1, G2, #PP⟩
  try dsimp only
  iapply (run_bind c _ _ _)
  iapply (gather3 T κ c _) $$ [HO S0 G2 Ts2 Tr2 D0 D1 E0 A0 C0 E1 A1 C1 E2 A2 C2]
  · isplitr; · iexact HR
    isplitr; · iexact HL
    isplitl [HO]; · iexact HO
    isplitl [S0]; · iexact S0
    isplitl [G2]; · iexact G2
    isplitl [Ts2]; · iexact Ts2
    isplitr; · iexact Q2
    isplitl [Tr2]; · iexact Tr2
    isplitr; · iexact PP
    isplitl [D0]; · iexact D0
    isplitl [D1]; · iexact D1
    isplitl [E0]; · iexact E0
    isplitl [A0]; · iexact A0
    isplitl [C0]; · iexact C0
    isplitl [E1]; · iexact E1
    isplitl [A1]; · iexact A1
    isplitl [C1]; · iexact C1
    isplitl [E2]; · iexact E2
    isplitl [A2]; · iexact A2
    iexact C2
  iintro ⟨HO, S0, E0, A0, G0, E1, A1, G1, E2, A2, G2⟩
  try dsimp only
  iapply (run_bind c _ _ _)
  iapply (gather4 T c X f1 _) $$ [H0 G0 G1 G2 H1]
  · isplitl [H0]; · iexact H0
    isplitl [G0]; · iexact G0
    isplitl [G1]; · iexact G1
    isplitl [G2]; · iexact G2
    iexact H1
  iintro ⟨H0, G0, G1, G2, H1⟩
  try dsimp only
  have hf := blocks_eq T c X f1
  unfold block at hf
  iapply (fupd_run _ _ _)
  iapply (gather5 T c X _ _) $$ [H0 G0 G1 G2 H1]
  · isplitl [H0]; · iexact H0
    isplitl [G0]; · iexact G0
    isplitl [G1]; · iexact G1
    isplitl [G2]; · iexact G2
    iexact H1
  iintro ⟨H0, G0, G1, G2, H1⟩
  imod (closeB T κ c) $$ [E0 E1 E2 A0 A1 A2 Ab] with Hd
  · isplitr; · iexact HR
    isplitl [E0]; · iexact E0
    isplitl [E1]; · iexact E1
    isplitl [E2]; · iexact E2
    isplitl [A0]; · iexact A0
    isplitl [A1]; · iexact A1
    isplitl [A2]; · iexact A2
    iexact Ab
  imodintro
  iapply Hk
  isplitl [HO]; · iexact HO
  isplitl [Hd]; · iexact Hd
  isplitl [S0 G0 G1 G2]
  · isplitl [S0]; · iexists (T.g c); iexact S0
    isplitl [G0]; · iexists (T.g (peer 0 c)); iexact G0
    isplitl [G1]; · iexists (T.g (peer 1 c)); iexact G1
    iexists (T.g (peer 2 c)); iexact G2
  isplitl [H0]; · iexact H0
  rw [← hf]
  iexact H1

end Cert.KernelIdeal.Talk
-- ==== Proof.KernelIdeal.Plain.lean ====
/-
  The two kernels that keep to their own device: one step of the query projection, one head of the attention.
-/
module

public import proofs.«01_k».proof.Proof.KernelIdeal.Steps
public import proofs.«01_k».proof.Proof.Gen.KernelIdeal.Skeleton

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (c : Dev nD)

/-- A device's whole buffer `M` at contents `X`. -/
abbrev own {sp : Space} {s : Shape} {e : EltTy} (M : Memref sig .tc sp s e) (X : Vec F s e) : sProp 𝕄 := owns (c : Thread nD τ) M fullShare X

/-- A load of a whole buffer, all of it. -/
theorem load_whole {α : Type} {cs : CoreSpace} {s : Shape} {e : EltTy} (M : Memref sig .tc cs s e) (hM : M.IsWhole) (X : Vec F s e)
    {off : Fin s.rank → ℕ} {inb : ∀ a, off a + s.size a ≤ s.size a} (hoff : off = fun _ => 0) {h}
    {k : Vec F s e → Prog (TpuEff nD τ sig (Elt F) Λ₀ .tc) α} {Q : α → sProp 𝕄} :
    own c M X ⊢ iprop((own c M X -∗ run c (k X) Q) -∗ run c (.op (.load M (Rect.unit (s := s) off s.size inb).toLoadRect h) k) Q) := by
  obtain ⟨b, hsp, hs, he, hb⟩ := hM
  subst hs he
  cases b with | mk sp' ix nm =>
  cases hsp
  cases hb
  unfold own
  rw [owns_whole]
  have key := Memref.readAt_unit_zero (Elt F) (⟨.core cs, ix, nm⟩ : Ref sig .tc) hoff inb X
  exact load_pt (F := F) c (s := (⟨.core cs, ix, nm⟩ : Ref sig .tc).ty.shape) (e := (⟨.core cs, ix, nm⟩ : Ref sig .tc).ty.elt) (cs := cs) (Memref.whole (⟨.core cs, ix, nm⟩ : Ref sig .tc)) fullShare X
    (r := (Rect.unit (s := (⟨.core cs, ix, nm⟩ : Ref sig .tc).ty.shape) off (⟨.core cs, ix, nm⟩ : Ref sig .tc).ty.shape.size inb).toLoadRect) X key

/-- A store over a whole buffer, all of it. -/
theorem store_whole {α : Type} {cs : CoreSpace} {s : Shape} {e : EltTy} (M : Memref sig .tc cs s e) (hM : M.IsWhole) (X w : Vec F s e)
    {off : Fin s.rank → ℕ} {inb : ∀ a, off a + s.size a ≤ s.size a} (hoff : off = fun _ => 0) {h h'}
    {k : PUnit → Prog (TpuEff nD τ sig (Elt F) Λ₀ .tc) α} {Q : α → sProp 𝕄} :
    own c M X ⊢ iprop((own c M w -∗ run c (k ⟨⟩) Q) -∗ run c (.op (.store M (Rect.unit (s := s) off s.size inb) w Finset.univ h h') k) Q) := by
  obtain ⟨b, hsp, hs, he, hb⟩ := hM
  subst hs he
  cases b with | mk sp' ix nm =>
  cases hsp
  cases hb
  unfold own
  rw [owns_whole, owns_whole]
  have key := Memref.write_access_unit_zero_univ (Elt F) (⟨.core cs, ix, nm⟩ : Ref sig .tc) hoff inb X w
  exact store_pt (F := F) c (s := (⟨.core cs, ix, nm⟩ : Ref sig .tc).ty.shape) (e := (⟨.core cs, ix, nm⟩ : Ref sig .tc).ty.elt) (cs := cs) (Memref.whole (⟨.core cs, ix, nm⟩ : Ref sig .tc)) X w
    (r := Rect.unit (s := (⟨.core cs, ix, nm⟩ : Ref sig .tc).ty.shape) off (⟨.core cs, ix, nm⟩ : Ref sig .tc).ty.shape.size inb) w key

theorem two_zero : (![0, 0] : Fin 2 → ℕ) = fun _ => 0 := by funext a; fin_cases a <;> rfl

/-- One step of the query projection: the product of the rows with a block of columns. -/
theorem body1 (i : grid1.Coords) (M1 : Memref sig .tc .vmem S256x2048 .bf16) (h1 : M1.IsWhole) (M2 : Memref sig .tc .vmem S2048x256 .bf16) (h2 : M2.IsWhole)
    (M3 : Memref sig .tc .vmem S256x256 .bf16) (h3 : M3.IsWhole) (X : Vec F S256x2048 .bf16) (Wq : Vec F S2048x256 .bf16) (Y : Vec F S256x256 .bf16) (Q : PUnit → sProp 𝕄) :
    iprop(own c M1 X ∗ own c M2 Wq ∗ own c M3 Y)
      ⊢ iprop((own c M1 X ∗ own c M2 Wq ∗ own c M3 (k1_pay1 X Wq) -∗ Q ⟨⟩) -∗ run c (cc1__q_proj_body i M1 h1 M2 h2 M3 h3) Q) := by
  simp only [cc1__q_proj_body_eq_skeleton]; unfold cc1__q_proj_body_skel
  simp only [Prog.lift, Prog.bind_op, Prog.bind_ret, Prog.pure_eq_ret]
  iintro ⟨H1, H2, H3⟩ Hk
  iapply (load_whole c M1 h1 X two_zero) $$ H1; iintro H1
  iapply (load_whole c M2 h2 Wq two_zero) $$ H2; iintro H2
  iapply (load_whole c M3 h3 Y two_zero) $$ H3; iintro H3
  iapply (store_whole c M3 h3 Y (k1_pay1 X Wq) two_zero) $$ H3; iintro H3
  unfold run; rw [wp_ret]; imodintro; iapply Hk
  isplitl [H1]; · iexact H1
  isplitl [H2]; · iexact H2
  iexact H3

/-- What one head adds to the attention's result. -/
def head (X1 X2 : Vec F S256x128 .bf16) (X3 X4 X5 : Vec F S1024x128 .bf16) (X6 : Vec F S128x2048 .bf16) : Vec F S256x2048 .f32 :=
  k2_pay2 X1 X3 X2 X4 X5 X6
/-- The accumulator after the first conditional store, -/
def first (i : grid2.Coords) (Z A : Vec F S256x2048 .f32) : Vec F S256x2048 .f32 := if k2_cond1 i = 1#1 then Z else A
/-- and after the second. -/
def second (i : grid2.Coords) (Z A : Vec F S256x2048 .f32) : Vec F S256x2048 .f32 := if k2_cond2 i = 1#1 then k2_pay1 Z A else A

/-- One head, up to the first conditional store. -/
theorem body2a (i : grid2.Coords) (M1 : Memref sig .tc .vmem S256x128 .bf16) (h1 : M1.IsWhole) (M2 : Memref sig .tc .vmem S256x128 .bf16) (h2 : M2.IsWhole) (M3 : Memref sig .tc .vmem S1024x128 .bf16) (h3 : M3.IsWhole) (M4 : Memref sig .tc .vmem S1024x128 .bf16) (h4 : M4.IsWhole) (M5 : Memref sig .tc .vmem S1024x128 .bf16) (h5 : M5.IsWhole) (M6 : Memref sig .tc .vmem S128x2048 .bf16) (h6 : M6.IsWhole) (M7 : Memref sig .tc .vmem S256x2048 .f32) (h7 : M7.IsWhole) (X1 : Vec F S256x128 .bf16) (X2 : Vec F S256x128 .bf16) (X3 : Vec F S1024x128 .bf16) (X4 : Vec F S1024x128 .bf16) (X5 : Vec F S1024x128 .bf16) (X6 : Vec F S128x2048 .bf16) (X7 : Vec F S256x2048 .f32) (Q : _ → sProp 𝕄) :
    iprop(own c M1 X1 ∗ own c M2 X2 ∗ own c M3 X3 ∗ own c M4 X4 ∗ own c M5 X5 ∗ own c M6 X6 ∗ own c M7 X7)
      ⊢ iprop((own c M1 X1 ∗ own c M2 X2 ∗ own c M3 X3 ∗ own c M4 X4 ∗ own c M5 X5 ∗ own c M6 X6 ∗ own c M7 (first i (head X1 X2 X3 X4 X5 X6) X7)
          -∗ Q ⟨head X1 X2 X3 X4 X5 X6, Scalar.extui (Scalar.cmpi .ne (BitVec.ofNat 32 (i 0).val) 0#32), 0#32⟩) -∗ run c (k2_part1 i M1 h1 M2 h2 M3 h3 M4 h4 M5 h5 M6 h6 M7 h7) Q) := by
  simp only [k2_part1_eq_skeleton]; unfold k2_part1_skel first head
  simp only [Prog.lift, Prog.bind_op, Prog.bind_ret, Prog.pure_eq_ret]
  iintro ⟨H1, H2, H3, H4, H5, H6, H7⟩ Hk
  iapply (load_whole c M1 h1 X1 two_zero) $$ H1; iintro H1
  iapply (load_whole c M3 h3 X3 two_zero) $$ H3; iintro H3
  iapply (load_whole c M2 h2 X2 two_zero) $$ H2; iintro H2
  iapply (load_whole c M4 h4 X4 two_zero) $$ H4; iintro H4
  iapply (load_whole c M5 h5 X5 two_zero) $$ H5; iintro H5
  iapply (load_whole c M6 h6 X6 two_zero) $$ H6; iintro H6
  by_cases hc : k2_cond1 i = 1#1
  · rw [dif_pos hc, if_pos hc]
    iapply (load_whole c M7 h7 X7 two_zero) $$ H7; iintro H7
    iapply (store_whole c M7 h7 X7 (k2_pay2 X1 X3 X2 X4 X5 X6) two_zero) $$ H7; iintro H7
    unfold run; rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7
  · rw [dif_neg hc, if_neg hc]
    unfold run; rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7

/-- One head of the attention: its share starts the accumulator at the first head and is added to it at the others. -/
theorem body2 (i : grid2.Coords) (M1 : Memref sig .tc .vmem S256x128 .bf16) (h1 : M1.IsWhole) (M2 : Memref sig .tc .vmem S256x128 .bf16) (h2 : M2.IsWhole) (M3 : Memref sig .tc .vmem S1024x128 .bf16) (h3 : M3.IsWhole) (M4 : Memref sig .tc .vmem S1024x128 .bf16) (h4 : M4.IsWhole) (M5 : Memref sig .tc .vmem S1024x128 .bf16) (h5 : M5.IsWhole) (M6 : Memref sig .tc .vmem S128x2048 .bf16) (h6 : M6.IsWhole) (M7 : Memref sig .tc .vmem S256x2048 .f32) (h7 : M7.IsWhole) (X1 : Vec F S256x128 .bf16) (X2 : Vec F S256x128 .bf16) (X3 : Vec F S1024x128 .bf16) (X4 : Vec F S1024x128 .bf16) (X5 : Vec F S1024x128 .bf16) (X6 : Vec F S128x2048 .bf16) (X7 : Vec F S256x2048 .f32) (Q : PUnit → sProp 𝕄) :
    iprop(own c M1 X1 ∗ own c M2 X2 ∗ own c M3 X3 ∗ own c M4 X4 ∗ own c M5 X5 ∗ own c M6 X6 ∗ own c M7 X7)
      ⊢ iprop((own c M1 X1 ∗ own c M2 X2 ∗ own c M3 X3 ∗ own c M4 X4 ∗ own c M5 X5 ∗ own c M6 X6 ∗ own c M7 (second i (head X1 X2 X3 X4 X5 X6) (first i (head X1 X2 X3 X4 X5 X6) X7)) -∗ Q ⟨⟩)
          -∗ run c (cc2__attn_body i M1 h1 M2 h2 M3 h3 M4 h4 M5 h5 M6 h6 M7 h7) Q) := by
  simp only [cc2__attn_body_eq_skeleton]; unfold cc2__attn_body_skel second
  iintro ⟨H1, H2, H3, H4, H5, H6, H7⟩ Hk
  iapply (run_bind c _ _ _)
  iapply (body2a c i M1 h1 M2 h2 M3 h3 M4 h4 M5 h5 M6 h6 M7 h7 X1 X2 X3 X4 X5 X6 X7) $$ [H1 H2 H3 H4 H5 H6 H7]
  · skip
    isplitl [H1]; · iexact H1
    isplitl [H2]; · iexact H2
    isplitl [H3]; · iexact H3
    isplitl [H4]; · iexact H4
    isplitl [H5]; · iexact H5
    isplitl [H6]; · iexact H6
    iexact H7
  iintro ⟨H1, H2, H3, H4, H5, H6, H7⟩
  dsimp only
  by_cases hc : k2_cond2 i = 1#1
  · rw [dif_pos hc, if_pos hc]
    simp only [Prog.lift, Prog.bind_op, Prog.bind_ret, Prog.pure_eq_ret]
    iapply (load_whole c M7 h7 _ two_zero) $$ H7; iintro H7
    iapply (load_whole c M7 h7 _ two_zero) $$ H7; iintro H7
    iapply (store_whole c M7 h7 _ _ two_zero) $$ H7; iintro H7
    unfold run; rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7
  · rw [dif_neg hc, if_neg hc]
    simp only [Prog.bind_ret, Prog.pure_eq_ret]
    unfold run; rw [wp_ret]; imodintro; iapply Hk
    isplitl [H1]; · iexact H1
    isplitl [H2]; · iexact H2
    isplitl [H3]; · iexact H3
    isplitl [H4]; · iexact H4
    isplitl [H5]; · iexact H5
    isplitl [H6]; · iexact H6
    iexact H7

end Cert.KernelIdeal.Talk

end
-- ==== Proof.KernelIdeal.Data.lean ====
/-
  What each region's windows hold: the blocks read off the arrays at entry, and what the bodies leave.
-/
module

public import proofs.«01_k».proof.Proof.KernelIdeal.Body0
public import proofs.«01_k».proof.Proof.KernelIdeal.Body3
public import proofs.«01_k».proof.Proof.KernelIdeal.Plain

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-- The contents of every device's arrays. -/
abbrev Vals (F : FTy → Type) [FloatOps F] : Type := Dev nD → Valuation τ sig (Elt F)

variable (W : Vals F) (T : Msgs F) (c : Dev nD)

/-- The block of window `w` at point `t`, of the array as it is at entry. -/
def in0 (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))
def in1 (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))
def in2 (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))
def in3 (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- The operands of the first kernel on a device: the activations, its three weight slices, the two position weights. -/
def x0 : Vec F S1x1024x2048 .bf16 := in0 W c 0 t0_0
def x1 : Vec F S2048x128 .bf16 := in0 W c 1 t0_0
def x2 : Vec F S128x2048 .bf16 := in0 W c 2 t0_0
def x3 : Vec F S128x2048 .bf16 := in0 W c 3 t0_0
def x4 : Vec F S2048x128 .bf16 := in0 W c 4 t0_0
def x5 : Vec F S2048x2048 .bf16 := in0 W c 5 t0_0

/-- What the first kernel leaves of the generator register and of the scoped buffers it does not name. -/
def rest0 : sProp 𝕄 := iprop(Pipeline.scopedRestBut spec0 c [cc0_scratch0, cc0_scratch1, cc0_scratch2, cc0_scratch3, cc0_scratch4, cc0_scratch5] ∗ ∃ r, prngReg c r)
def rest3 : sProp 𝕄 := iprop(Pipeline.scopedRestBut spec3 c [cc3_scratch0, cc3_scratch1, cc3_scratch2, cc3_scratch3] ∗ ∃ r, prngReg c r)

/-- The weights exchange. -/
def dat0 : Dat τ (Elt F) Unit ℕ UU ℕ cfg0 c where
  A w := W c (Proc.devRef .tc (Pipeline.arrRef spec0 w))
  after w _ := match w with
    | 0 => x0 W c
    | 1 => x1 W c
    | 2 => x2 W c
    | 3 => x3 W c
    | 4 => x4 W c
    | 5 => x5 W c
    | 6 => keys T c (x0 W c)
    | 7 => vals T c (x0 W c)
    | 8 => k0_pay14 (k0_pay6 (x0 W c)) (x4 W c)
    | 9 => rows c (x0 W c)
    | 10 => k0_pay15 (rows c (x0 W c)) (x5 W c)
    | ⟨_ + 11, h⟩ => absurd h (Nat.not_lt.2 (Nat.le_add_left _ _))
  Φ t := if t.val = 0 then iprop((∃ κ, records T κ) ∗ levAts L lv ∗ talkA c ∗ slotA c ∗ rest0 c) else iprop(doneA c ∗ slotA c ∗ rest0 c)
  q _ := fullShare
  owed t := if t.val = 0 then dueB c + dueA c else dueB c

/-- The query projection. -/
def dat1 : Dat τ (Elt F) Unit ℕ UU ℕ cfg1 c where
  A w := W c (Proc.devRef .tc (Pipeline.arrRef spec1 w))
  after w t := match w with
    | 0 => in1 W c 0 t
    | 1 => in1 W c 1 t
    | 2 => k1_pay1 (in1 W c 0 t) (in1 W c 1 t)
    | ⟨_ + 3, h⟩ => absurd h (Nat.not_lt.2 (Nat.le_add_left _ _))
  Φ _ := iprop(Pipeline.scopedRest spec1 c)
  q _ := fullShare
  owed _ := dueB c

/-- What head `t` adds. -/
def headAt (t : Fin cfg2.N) : Vec F S256x2048 .f32 :=
  head (in2 W c 0 t) (in2 W c 1 t) (in2 W c 2 t) (in2 W c 3 t) (in2 W c 4 t) (in2 W c 5 t)
/-- The accumulator once heads 0 to `n` are done. -/
def accum : (n : ℕ) → n < cfg2.N → Vec F S256x2048 .f32
  | 0, h => headAt W c ⟨0, h⟩
  | n + 1, h => k2_pay1 (headAt W c ⟨n + 1, h⟩) (accum n (Nat.lt_of_succ_lt h))

/-- The attention. -/
def dat2 : Dat τ (Elt F) Unit ℕ UU ℕ cfg2 c where
  A w := W c (Proc.devRef .tc (Pipeline.arrRef spec2 w))
  after w t := match w with
    | 0 => in2 W c 0 t
    | 1 => in2 W c 1 t
    | 2 => in2 W c 2 t
    | 3 => in2 W c 3 t
    | 4 => in2 W c 4 t
    | 5 => in2 W c 5 t
    | 6 => accum W c t.val t.isLt
    | ⟨_ + 7, h⟩ => absurd h (Nat.not_lt.2 (Nat.le_add_left _ _))
  Φ _ := iprop(Pipeline.scopedRest spec2 c)
  q _ := fullShare
  owed _ := dueB c

/-- The rows a device computed, as the gather finds them. -/
def oq : Vec F S256x2048 .f32 := in3 W c 0 t3_0

/-- The gather. -/
def dat3 : Dat τ (Elt F) Unit ℕ UU ℕ cfg3 c where
  A w := W c (Proc.devRef .tc (Pipeline.arrRef spec3 w))
  after w _ := match w with
    | 0 => oq W c
    | 1 => gathered T c (oq W c)
    | ⟨_ + 2, h⟩ => absurd h (Nat.not_lt.2 (Nat.le_add_left _ _))
  Φ t := if t.val = 0 then iprop((∃ κ, records T κ) ∗ levAts L lv ∗ talkB c ∗ slotB c ∗ rest3 c) else iprop(doneB c ∗ slotB c ∗ rest3 c)
  q _ := fullShare
  owed t := if t.val = 0 then dueB c else 0

/-! ## What the bodies find -/

theorem owes_intro {cfg : Pipeline.Cfg sig Λ₀} (dat : Dat τ (Elt F) Unit ℕ UU ℕ cfg c) (t : Fin (cfg.N + 1)) (O : CellTallies nD τ sig Unit)
    (h0 : dat.owed t = O) (hr : dat.recorded t = Set.univ) : (owing c O : sProp 𝕄) ⊢ dat.owesAt () t := by
  unfold owing Dat.owesAt Pipeline.owesWithin Dat.bound; rw [h0, hr]
  iintro ⟨%W, HO⟩; iexists W; isplitr; · ipureintro; exact fun _ _ => Or.inl trivial
  iexact HO
theorem owes_elim {cfg : Pipeline.Cfg sig Λ₀} (dat : Dat τ (Elt F) Unit ℕ UU ℕ cfg c) (t : Fin (cfg.N + 1)) (O : CellTallies nD τ sig Unit)
    (h0 : dat.owed t = O) : (dat.owesAt () t : sProp 𝕄) ⊢ owing c O := by
  unfold owing Dat.owesAt Pipeline.owesWithin; rw [h0]
  iintro ⟨%W, -, HO⟩; iexists W; iexact HO

theorem found0_0 (d) : (dat0 W T c).before 0 t0_0 d = x0 W c := Dat.before_fetched _ 0 t0_0 (fetch0_0 t0_0) d
theorem found0_1 (d) : (dat0 W T c).before 1 t0_0 d = x1 W c := Dat.before_fetched _ 1 t0_0 (fetch0_1 t0_0) d
theorem found0_2 (d) : (dat0 W T c).before 2 t0_0 d = x2 W c := Dat.before_fetched _ 2 t0_0 (fetch0_2 t0_0) d
theorem found0_3 (d) : (dat0 W T c).before 3 t0_0 d = x3 W c := Dat.before_fetched _ 3 t0_0 (fetch0_3 t0_0) d
theorem found0_4 (d) : (dat0 W T c).before 4 t0_0 d = x4 W c := Dat.before_fetched _ 4 t0_0 (fetch0_4 t0_0) d
theorem found0_5 (d) : (dat0 W T c).before 5 t0_0 d = x5 W c := Dat.before_fetched _ 5 t0_0 (fetch0_5 t0_0) d
theorem found3_0 (d) : (dat3 W T c).before 0 t3_0 d = oq W c := Dat.before_fetched _ 0 t3_0 (fetch3_0 t3_0) d
theorem found1_0 (t : Fin cfg1.N) (d) : (dat1 W c).before 0 t d = in1 W c 0 t :=
  Dat.before_in_eq_fetched _ 0 rfl (fun _ => rfl) (fun _ _ _ => rfl) (fun _ => rfl) t d
theorem found1_1 (t : Fin cfg1.N) (d) : (dat1 W c).before 1 t d = in1 W c 1 t :=
  Dat.before_in_eq_fetched _ 1 rfl (fun _ => rfl) (fun _ _ _ => rfl) (fun _ => rfl) t d
theorem found2_0 (t : Fin cfg2.N) (d) : (dat2 W c).before 0 t d = in2 W c 0 t :=
  Dat.before_in_eq_fetched _ 0 rfl (fun _ => rfl) (fun _ _ _ => rfl) (fun _ => rfl) t d
theorem found2_1 (t : Fin cfg2.N) (d) : (dat2 W c).before 1 t d = in2 W c 1 t :=
  Dat.before_in_eq_fetched _ 1 rfl (fun _ => rfl) (fun _ _ _ => rfl) (fun _ => rfl) t d
theorem found2_2 (t : Fin cfg2.N) (d) : (dat2 W c).before 2 t d = in2 W c 2 t :=
  Dat.before_in_eq_fetched _ 2 rfl (fun _ => rfl) (fun _ _ _ => rfl) (fun _ => rfl) t d
theorem found2_3 (t : Fin cfg2.N) (d) : (dat2 W c).before 3 t d = in2 W c 3 t :=
  Dat.before_in_eq_fetched _ 3 rfl (fun _ => rfl) (fun _ _ _ => rfl) (fun _ => rfl) t d
theorem found2_4 (t : Fin cfg2.N) (d) : (dat2 W c).before 4 t d = in2 W c 4 t :=
  Dat.before_in_eq_fetched _ 4 rfl (fun _ => rfl) (fun _ _ _ => rfl) (fun _ => rfl) t d
theorem found2_5 (t : Fin cfg2.N) (d) : (dat2 W c).before 5 t d = in2 W c 5 t :=
  Dat.before_in_eq_fetched _ 5 rfl (fun _ => rfl) (fun _ _ _ => rfl) (fun _ => rfl) t d

theorem idle2_never : ∀ i : cfg2.grid.Coords, cfg2.idle 6 i = false := by decide +kernel

/-- The accumulator is untouched between heads. -/
theorem found2_6 (t : Fin cfg2.N) (ht : t.val ≠ 0) (d) :
    (dat2 W c).before 6 t d = accum W c (t.val - 1) (Nat.lt_of_le_of_lt (Nat.sub_le _ _) t.isLt) :=
  Dat.before_out_kept _ 6 rfl t ht
    (by
      rw [← Bool.not_eq_true, flush2_6]
      have := t.isLt; have hN : cfg2.N = 16 := N_2
      show ¬ (t.val - 1) % 16 = 15
      omega) idle2_never (fun _ _ => rfl) d

end Cert.KernelIdeal.Talk

end
-- ==== Proof.KernelIdeal.Contents.lean ====
/-
  The contents of every buffer between the regions, and what the devices exchange, read off the launch memory.
-/
module

public import proofs.«01_k».proof.Proof.KernelIdeal.Data
public import Idealize.ShloMosaic.Lib.Pipeline.ValueKit

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-- The operands the devices send in the first kernel (and, for the block of the last, a placeholder). -/
def half : Msgs F where
  s0 d := k0_pay3 (x1 (V4 m) d)
  s1 d := k0_pay4 (x2 (V4 m) d)
  s2 d := k0_pay5 (x3 (V4 m) d)
  g d := k3_pay7 (oq (V4 m) d)

/-- After the weights exchange. -/
def W5 : Vals F := fun c => Function.update (Function.update (Function.update (Function.update (Function.update (V4 m c) main_v5_0 (keys (half m) c (x0 (V4 m) c))) main_v5_1 (vals (half m) c (x0 (V4 m) c))) main_v5_2 (k0_pay14 (k0_pay6 (x0 (V4 m) c)) (x4 (V4 m) c))) main_v5_3 (rows c (x0 (V4 m) c))) main_v5_4 (k0_pay15 (rows c (x0 (V4 m) c)) (x5 (V4 m) c))
/-- After the query projection. -/
def W6 : Vals F := fun c => Function.update (W5 m c) main_v6 ((dat1 (W5 m) c).arrAt 2 cfg1.N)
/-- After the attention. -/
def W7 : Vals F := fun c => Function.update (W6 m c) main_v7 ((dat2 (W6 m) c).arrAt 6 cfg2.N)
/-- What the devices exchange in both kernels. -/
def sent : Msgs F := { half m with g := fun d => k3_pay7 (oq (W7 m) d) }
/-- After the gather. -/
def W8 : Vals F := fun c => Function.update (W7 m c) main_v8 (gathered (sent m) c (oq (W7 m) c))

/-! ## What a region leaves unchanged -/

theorem ne_buf {r r' : Ref sig .tc} (h : r ≠ r') : (Proc.devRef .tc r : DevRef τ sig) ≠ Proc.devRef .tc r' := StableHlo.devRef_ne_of_ne h
theorem W5_of (c : Dev nD) (r : Ref sig .tc) (h : r ∉ ([main_v5_0, main_v5_1, main_v5_2, main_v5_3, main_v5_4] : List (Ref sig .tc))) : W5 m c r = V4 m c r := by
  simp only [List.mem_cons, List.not_mem_nil, or_false, not_or] at h
  unfold W5
  rw [Function.update_of_ne (ne_buf h.2.2.2.2), Function.update_of_ne (ne_buf h.2.2.2.1), Function.update_of_ne (ne_buf h.2.2.1),
    Function.update_of_ne (ne_buf h.2.1), Function.update_of_ne (ne_buf h.1)]
theorem W6_of (c : Dev nD) (r : Ref sig .tc) (h : r ≠ main_v6) : W6 m c r = W5 m c r := by unfold W6; rw [Function.update_of_ne (ne_buf h)]
theorem W7_of (c : Dev nD) (r : Ref sig .tc) (h : r ≠ main_v7) : W7 m c r = W6 m c r := by unfold W7; rw [Function.update_of_ne (ne_buf h)]
theorem W8_of (c : Dev nD) (r : Ref sig .tc) (h : r ≠ main_v8) : W8 m c r = W7 m c r := by unfold W8; rw [Function.update_of_ne (ne_buf h)]
theorem W5_v5_0 (c : Dev nD) : W5 m c main_v5_0 = keys (half m) c (x0 (V4 m) c) := by unfold W5; rw [Function.update_of_ne (ne_buf (by decide)), Function.update_of_ne (ne_buf (by decide)), Function.update_of_ne (ne_buf (by decide)), Function.update_of_ne (ne_buf (by decide)), Function.update_self]
theorem W5_v5_1 (c : Dev nD) : W5 m c main_v5_1 = vals (half m) c (x0 (V4 m) c) := by unfold W5; rw [Function.update_of_ne (ne_buf (by decide)), Function.update_of_ne (ne_buf (by decide)), Function.update_of_ne (ne_buf (by decide)), Function.update_self]
theorem W5_v5_2 (c : Dev nD) : W5 m c main_v5_2 = k0_pay14 (k0_pay6 (x0 (V4 m) c)) (x4 (V4 m) c) := by unfold W5; rw [Function.update_of_ne (ne_buf (by decide)), Function.update_of_ne (ne_buf (by decide)), Function.update_self]
theorem W5_v5_3 (c : Dev nD) : W5 m c main_v5_3 = rows c (x0 (V4 m) c) := by unfold W5; rw [Function.update_of_ne (ne_buf (by decide)), Function.update_self]
theorem W5_v5_4 (c : Dev nD) : W5 m c main_v5_4 = k0_pay15 (rows c (x0 (V4 m) c)) (x5 (V4 m) c) := by unfold W5; rw [Function.update_self]
theorem W6_v6 (c : Dev nD) : W6 m c main_v6 = (dat1 (W5 m) c).arrAt 2 cfg1.N := by unfold W6; rw [Function.update_self]
theorem W7_v7 (c : Dev nD) : W7 m c main_v7 = (dat2 (W6 m) c).arrAt 6 cfg2.N := by unfold W7; rw [Function.update_self]
theorem W8_v8 (c : Dev nD) : W8 m c main_v8 = gathered (sent m) c (oq (W7 m) c) := by unfold W8; rw [Function.update_self]

/-- No region writes an argument, nor does the host before them. -/
theorem W8_arg (c : Dev nD) (r : Ref sig .tc) (h : r ∉ ([main_v5_0, main_v5_1, main_v5_2, main_v5_3, main_v5_4] : List (Ref sig .tc))) (h6 : r ≠ main_v6) (h7 : r ≠ main_v7) (h8 : r ≠ main_v8)
    (h0 : r ∉ hostOps0_W) (h1 : r ∉ hostOps0_1_W) (h2 : r ∉ hostOps0_2_W) (h3 : r ∉ hostOps0_3_W) : W8 m c r = m ((c : Thread nD τ).loc r) :=
  (W8_of m c r h8).trans <| (W7_of m c r h7).trans <| (W6_of m c r h6).trans <| (W5_of m c r h).trans <| (V4_of m c r h3).trans <| (V3_of m c r h2).trans <|
    (V2_of m c r h1).trans <| (V1_of m c r h0).trans rfl

/-! ## The regions' arrays, before and after -/

abbrev pdats : (p : Fin 4) → (c : Dev nD) → Dat τ (Elt F) Unit ℕ UU ℕ (cfgs p) c
  | 0 => dat0 (V4 m) (sent m)
  | 1 => dat1 (W5 m)
  | 2 => dat2 (W6 m)
  | 3 => dat3 (W7 m) (sent m)

theorem end0_6 (c : Dev nD) : (dat0 (V4 m) (sent m) c).arrAt 6 cfg0.N = keys (half m) c (x0 (V4 m) c) :=
  Dat.arrAt_eq_of_after_last (dat0 (V4 m) (sent m) c) 6 t0_0 (by decide +kernel) _ fun j => by blk_simp; rfl
theorem end0_7 (c : Dev nD) : (dat0 (V4 m) (sent m) c).arrAt 7 cfg0.N = vals (half m) c (x0 (V4 m) c) :=
  Dat.arrAt_eq_of_after_last (dat0 (V4 m) (sent m) c) 7 t0_0 (by decide +kernel) _ fun j => by blk_simp; rfl
theorem end0_8 (c : Dev nD) : (dat0 (V4 m) (sent m) c).arrAt 8 cfg0.N = k0_pay14 (k0_pay6 (x0 (V4 m) c)) (x4 (V4 m) c) :=
  Dat.arrAt_eq_of_after_last (dat0 (V4 m) (sent m) c) 8 t0_0 (by decide +kernel) _ fun j => by blk_simp; rfl
theorem end0_9 (c : Dev nD) : (dat0 (V4 m) (sent m) c).arrAt 9 cfg0.N = rows c (x0 (V4 m) c) :=
  Dat.arrAt_eq_of_after_last (dat0 (V4 m) (sent m) c) 9 t0_0 (by decide +kernel) _ fun j => by blk_simp; rfl
theorem end0_10 (c : Dev nD) : (dat0 (V4 m) (sent m) c).arrAt 10 cfg0.N = k0_pay15 (rows c (x0 (V4 m) c)) (x5 (V4 m) c) :=
  Dat.arrAt_eq_of_after_last (dat0 (V4 m) (sent m) c) 10 t0_0 (by decide +kernel) _ fun j => by blk_simp; rfl
theorem end3_1 (c : Dev nD) : (dat3 (W7 m) (sent m) c).arrAt 1 cfg3.N = gathered (sent m) c (oq (W7 m) c) :=
  Dat.arrAt_eq_of_after_last (dat3 (W7 m) (sent m) c) 1 t3_0 (by decide +kernel) _ fun j => by blk_simp; rfl

theorem exit0 (c : Dev nD) (w : Fin cfg0.W) : (dat0 (V4 m) (sent m) c).arrAt w cfg0.N = W5 m c (Proc.devRef .tc (Pipeline.arrRef spec0 w)) :=
  match w with
  | 0 => (Dat.arrAt_in _ 0 rfl _).trans (W5_of m c (Pipeline.arrRef spec0 0) (by decide)).symm
  | 1 => (Dat.arrAt_in _ 1 rfl _).trans (W5_of m c (Pipeline.arrRef spec0 1) (by decide)).symm
  | 2 => (Dat.arrAt_in _ 2 rfl _).trans (W5_of m c (Pipeline.arrRef spec0 2) (by decide)).symm
  | 3 => (Dat.arrAt_in _ 3 rfl _).trans (W5_of m c (Pipeline.arrRef spec0 3) (by decide)).symm
  | 4 => (Dat.arrAt_in _ 4 rfl _).trans (W5_of m c (Pipeline.arrRef spec0 4) (by decide)).symm
  | 5 => (Dat.arrAt_in _ 5 rfl _).trans (W5_of m c (Pipeline.arrRef spec0 5) (by decide)).symm
  | 6 => (end0_6 m c).trans (W5_v5_0 m c).symm
  | 7 => (end0_7 m c).trans (W5_v5_1 m c).symm
  | 8 => (end0_8 m c).trans (W5_v5_2 m c).symm
  | 9 => (end0_9 m c).trans (W5_v5_3 m c).symm
  | 10 => (end0_10 m c).trans (W5_v5_4 m c).symm
theorem exit1 (c : Dev nD) (w : Fin cfg1.W) : (dat1 (W5 m) c).arrAt w cfg1.N = W6 m c (Proc.devRef .tc (Pipeline.arrRef spec1 w)) :=
  match w with
  | 0 => (Dat.arrAt_in _ 0 rfl _).trans (W6_of m c (Pipeline.arrRef spec1 0) (by decide)).symm
  | 1 => (Dat.arrAt_in _ 1 rfl _).trans (W6_of m c (Pipeline.arrRef spec1 1) (by decide)).symm
  | 2 => (W6_v6 m c).symm
theorem exit2 (c : Dev nD) (w : Fin cfg2.W) : (dat2 (W6 m) c).arrAt w cfg2.N = W7 m c (Proc.devRef .tc (Pipeline.arrRef spec2 w)) :=
  match w with
  | 0 => (Dat.arrAt_in _ 0 rfl _).trans (W7_of m c (Pipeline.arrRef spec2 0) (by decide)).symm
  | 1 => (Dat.arrAt_in _ 1 rfl _).trans (W7_of m c (Pipeline.arrRef spec2 1) (by decide)).symm
  | 2 => (Dat.arrAt_in _ 2 rfl _).trans (W7_of m c (Pipeline.arrRef spec2 2) (by decide)).symm
  | 3 => (Dat.arrAt_in _ 3 rfl _).trans (W7_of m c (Pipeline.arrRef spec2 3) (by decide)).symm
  | 4 => (Dat.arrAt_in _ 4 rfl _).trans (W7_of m c (Pipeline.arrRef spec2 4) (by decide)).symm
  | 5 => (Dat.arrAt_in _ 5 rfl _).trans (W7_of m c (Pipeline.arrRef spec2 5) (by decide)).symm
  | 6 => (W7_v7 m c).symm
theorem exit3 (c : Dev nD) (w : Fin cfg3.W) : (dat3 (W7 m) (sent m) c).arrAt w cfg3.N = W8 m c (Proc.devRef .tc (Pipeline.arrRef spec3 w)) :=
  match w with
  | 0 => (Dat.arrAt_in _ 0 rfl _).trans (W8_of m c (Pipeline.arrRef spec3 0) (by decide)).symm
  | 1 => (end3_1 m c).trans (W8_v8 m c).symm

end Cert.KernelIdeal.Talk

end
-- ==== Proof.KernelIdeal.Oblige.lean ====
/-
  Each region's body, run at a point of its grid, keeps to what its windows are said to hold.
-/
module

public import proofs.«01_k».proof.Proof.KernelIdeal.Data

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (W : Vals F) (T : Msgs F) (c : Dev nD)

theorem any_of {b : Ref sig .tc} (f : Buf (Elt F) ((c : Thread nD τ).loc b)) : pt c b fullShare f ⊢ ptAny c b := by iintro H; iexists f; iexact H
theorem whole_of {b : Ref sig .tc} (X) : owns (c : Thread nD τ) (Memref.whole b) fullShare X ⊢ (pt c b fullShare X : sProp 𝕄) := by rw [owns_whole]
theorem of_whole {b : Ref sig .tc} (X) : (pt c b fullShare X : sProp 𝕄) ⊢ owns (c : Thread nD τ) (Memref.whole b) fullShare X := by rw [owns_whole]

theorem owed0_first : (dat0 W T c).owed t0_0.castSucc = dueB c + dueA c := by
  show (if (t0_0.castSucc : Fin (cfg0.N + 1)).val = 0 then dueB c + dueA c else dueB c) = _; exact if_pos rfl
theorem owed0_last : (dat0 W T c).owed (Fin.last cfg0.N) = dueB c := by
  show (if (Fin.last cfg0.N).val = 0 then dueB c + dueA c else dueB c) = _
  rw [Fin.val_last, if_neg (by rw [show cfg0.N = 1 from N_0]; decide)]
theorem owed3_first : (dat3 W T c).owed t3_0.castSucc = dueB c := by
  show (if (t3_0.castSucc : Fin (cfg3.N + 1)).val = 0 then dueB c else 0) = _; exact if_pos rfl
theorem owed3_last : (dat3 W T c).owed (Fin.last cfg3.N) = 0 := by
  show (if (Fin.last cfg3.N).val = 0 then dueB c else 0) = _
  rw [Fin.val_last, if_neg (by rw [show cfg3.N = 1 from N_3]; decide)]

theorem left0_0 : (dat0 W T c).after 0 t0_0 = x0 W c := by dsimp only [dat0]
theorem left0_1 : (dat0 W T c).after 1 t0_0 = x1 W c := by dsimp only [dat0]
theorem left0_2 : (dat0 W T c).after 2 t0_0 = x2 W c := by dsimp only [dat0]
theorem left0_3 : (dat0 W T c).after 3 t0_0 = x3 W c := by dsimp only [dat0]
theorem left0_4 : (dat0 W T c).after 4 t0_0 = x4 W c := by dsimp only [dat0]
theorem left0_5 : (dat0 W T c).after 5 t0_0 = x5 W c := by dsimp only [dat0]
theorem left0_6 : (dat0 W T c).after 6 t0_0 = keys T c (x0 W c) := by dsimp only [dat0]
theorem left0_7 : (dat0 W T c).after 7 t0_0 = vals T c (x0 W c) := by dsimp only [dat0]
theorem left0_8 : (dat0 W T c).after 8 t0_0 = k0_pay14 (k0_pay6 (x0 W c)) (x4 W c) := by dsimp only [dat0]
theorem left0_9 : (dat0 W T c).after 9 t0_0 = rows c (x0 W c) := by dsimp only [dat0]
theorem left0_10 : (dat0 W T c).after 10 t0_0 = k0_pay15 (rows c (x0 W c)) (x5 W c) := by dsimp only [dat0]

set_option maxHeartbeats 2000000 in
theorem obl0 (hX1 : k0_pay3 (x1 W c) = T.s0 c) (hX2 : k0_pay4 (x2 W c) = T.s1 c) (hX3 : k0_pay5 (x3 W c) = T.s2 c) :
    BodyObligation (dat0 W T c) defs₀ 𝒱₀ () Set.univ := fun t => by
  obtain rfl := fin_N0 t
  rw [bigSep_W0, bigSep_W0]
  show iprop(((∃ κ, records T κ) ∗ levAts L lv ∗ talkA c ∗ slotA c ∗ rest0 c) ∗ (dat0 W T c).owesAt () t0_0.castSucc ∗ (∃ d, owns (c : Thread nD τ) (Memref.whole cc0_stg0_0) fullShare ((dat0 W T c).before 0 t0_0 d)) ∗ (∃ d, owns (c : Thread nD τ) (Memref.whole cc0_stg1_0) fullShare ((dat0 W T c).before 1 t0_0 d)) ∗ (∃ d, owns (c : Thread nD τ) (Memref.whole cc0_stg2_0) fullShare ((dat0 W T c).before 2 t0_0 d)) ∗ (∃ d, owns (c : Thread nD τ) (Memref.whole cc0_stg3_0) fullShare ((dat0 W T c).before 3 t0_0 d)) ∗ (∃ d, owns (c : Thread nD τ) (Memref.whole cc0_stg4_0) fullShare ((dat0 W T c).before 4 t0_0 d)) ∗ (∃ d, owns (c : Thread nD τ) (Memref.whole cc0_stg5_0) fullShare ((dat0 W T c).before 5 t0_0 d)) ∗ (∃ d, owns (c : Thread nD τ) (Memref.whole cc0_stg6_0) fullShare ((dat0 W T c).before 6 t0_0 d)) ∗ (∃ d, owns (c : Thread nD τ) (Memref.whole cc0_stg7_0) fullShare ((dat0 W T c).before 7 t0_0 d)) ∗ (∃ d, owns (c : Thread nD τ) (Memref.whole cc0_stg8_0) fullShare ((dat0 W T c).before 8 t0_0 d)) ∗ (∃ d, owns (c : Thread nD τ) (Memref.whole cc0_stg9_0) fullShare ((dat0 W T c).before 9 t0_0 d)) ∗ (∃ d, owns (c : Thread nD τ) (Memref.whole cc0_stg10_0) fullShare ((dat0 W T c).before 10 t0_0 d)))
    ⊢ run c (cc0__kv_comm_body (.whole cc0_stg0_0) (Memref.isWhole_whole _) (.whole cc0_stg1_0) (Memref.isWhole_whole _) (.whole cc0_stg2_0) (Memref.isWhole_whole _) (.whole cc0_stg3_0) (Memref.isWhole_whole _) (.whole cc0_stg4_0) (Memref.isWhole_whole _) (.whole cc0_stg5_0) (Memref.isWhole_whole _) (.whole cc0_stg6_0) (Memref.isWhole_whole _) (.whole cc0_stg7_0) (Memref.isWhole_whole _) (.whole cc0_stg8_0) (Memref.isWhole_whole _) (.whole cc0_stg9_0) (Memref.isWhole_whole _) (.whole cc0_stg10_0) (Memref.isWhole_whole _) (.whole cc0_scratch0) (Memref.isWhole_whole _) (.whole cc0_scratch1) (Memref.isWhole_whole _) (.whole cc0_scratch2) (Memref.isWhole_whole _) (.whole cc0_scratch3) (Memref.isWhole_whole _) (.whole cc0_scratch4) (Memref.isWhole_whole _) (.whole cc0_scratch5) (Memref.isWhole_whole _) cc0_scratch6 cc0_scratch7)
      fun _ => iprop((doneA c ∗ slotA c ∗ rest0 c) ∗ (dat0 W T c).owesAt () t0_0.succ ∗ owns (c : Thread nD τ) (Memref.whole cc0_stg0_0) fullShare ((dat0 W T c).after 0 t0_0) ∗ owns (c : Thread nD τ) (Memref.whole cc0_stg1_0) fullShare ((dat0 W T c).after 1 t0_0) ∗ owns (c : Thread nD τ) (Memref.whole cc0_stg2_0) fullShare ((dat0 W T c).after 2 t0_0) ∗ owns (c : Thread nD τ) (Memref.whole cc0_stg3_0) fullShare ((dat0 W T c).after 3 t0_0) ∗ owns (c : Thread nD τ) (Memref.whole cc0_stg4_0) fullShare ((dat0 W T c).after 4 t0_0) ∗ owns (c : Thread nD τ) (Memref.whole cc0_stg5_0) fullShare ((dat0 W T c).after 5 t0_0) ∗ owns (c : Thread nD τ) (Memref.whole cc0_stg6_0) fullShare ((dat0 W T c).after 6 t0_0) ∗ owns (c : Thread nD τ) (Memref.whole cc0_stg7_0) fullShare ((dat0 W T c).after 7 t0_0) ∗ owns (c : Thread nD τ) (Memref.whole cc0_stg8_0) fullShare ((dat0 W T c).after 8 t0_0) ∗ owns (c : Thread nD τ) (Memref.whole cc0_stg9_0) fullShare ((dat0 W T c).after 9 t0_0) ∗ owns (c : Thread nD τ) (Memref.whole cc0_stg10_0) fullShare ((dat0 W T c).after 10 t0_0))
  simp only [found0_0, found0_1, found0_2, found0_3, found0_4, found0_5, left0_0, left0_1, left0_2, left0_3, left0_4, left0_5, left0_6, left0_7, left0_8, left0_9, left0_10]
  iintro ⟨⟨⟨%κ, #HR⟩, #HL, Ht, Hs, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body0 T κ c (x0 W c) (x1 W c) (x2 W c) (x3 W c) (x4 W c) (x5 W c) hX1 hX2 hX3 _) $$ [HO Ht Hs H0 H1 H2 H3 H4 H5 H6 H7 H8 H9 H10]
  · isplitr; · iexact HR
    isplitr; · iexact HL
    isplitl [HO]; · iapply (owes_elim c (dat0 W T c) _ _ (owed0_first W T c)); iexact HO
    isplitl [Ht]; · iexact Ht
    isplitl [Hs]; · iexact Hs
    isplitl [H0]; · iapply (whole_of c (b := cc0_stg0_0) (x0 W c)); iexact H0
    isplitl [H1]; · iapply (whole_of c (b := cc0_stg1_0) (x1 W c)); iexact H1
    isplitl [H2]; · iapply (whole_of c (b := cc0_stg2_0) (x2 W c)); iexact H2
    isplitl [H3]; · iapply (whole_of c (b := cc0_stg3_0) (x3 W c)); iexact H3
    isplitl [H4]; · iapply (whole_of c (b := cc0_stg4_0) (x4 W c)); iexact H4
    isplitl [H5]; · iapply (whole_of c (b := cc0_stg5_0) (x5 W c)); iexact H5
    isplitl [H6]; · iapply (any_of c (b := cc0_stg6_0)); iapply (whole_of c (b := cc0_stg6_0)); iexact H6
    isplitl [H7]; · iapply (any_of c (b := cc0_stg7_0)); iapply (whole_of c (b := cc0_stg7_0)); iexact H7
    isplitl [H8]; · iapply (any_of c (b := cc0_stg8_0)); iapply (whole_of c (b := cc0_stg8_0)); iexact H8
    isplitl [H9]; · iapply (any_of c (b := cc0_stg9_0)); iapply (whole_of c (b := cc0_stg9_0)); iexact H9
    iapply (any_of c (b := cc0_stg10_0)); iapply (whole_of c (b := cc0_stg10_0)); iexact H10
  iintro ⟨HO, Ht, Hs, H0, H1, H2, H3, H4, H5, H6, H7, H8, H9, H10⟩
  isplitl [Ht Hs Hr]
  · isplitl [Ht]; · iexact Ht
    isplitl [Hs] <;> iassumption
  isplitl [HO]; · iapply (owes_intro c (dat0 W T c) _ _ (owed0_last W T c) rfl); iexact HO
  isplitl [H0]; · iapply (of_whole c (b := cc0_stg0_0)); iexact H0
  isplitl [H1]; · iapply (of_whole c (b := cc0_stg1_0)); iexact H1
  isplitl [H2]; · iapply (of_whole c (b := cc0_stg2_0)); iexact H2
  isplitl [H3]; · iapply (of_whole c (b := cc0_stg3_0)); iexact H3
  isplitl [H4]; · iapply (of_whole c (b := cc0_stg4_0)); iexact H4
  isplitl [H5]; · iapply (of_whole c (b := cc0_stg5_0)); iexact H5
  isplitl [H6]; · iapply (of_whole c (b := cc0_stg6_0)); iexact H6
  isplitl [H7]; · iapply (of_whole c (b := cc0_stg7_0)); iexact H7
  isplitl [H8]; · iapply (of_whole c (b := cc0_stg8_0)); iexact H8
  isplitl [H9]; · iapply (of_whole c (b := cc0_stg9_0)); iexact H9
  iapply (of_whole c (b := cc0_stg10_0)); iexact H10

theorem obl3 (hX : k3_pay7 (oq W c) = T.g c) : BodyObligation (dat3 W T c) defs₀ 𝒱₀ () Set.univ := fun t => by
  obtain rfl := fin_N3 t
  rw [bigSep_W3, bigSep_W3]
  show iprop(((∃ κ, records T κ) ∗ levAts L lv ∗ talkB c ∗ slotB c ∗ rest3 c) ∗ (dat3 W T c).owesAt () t3_0.castSucc ∗ (∃ d, owns (c : Thread nD τ) (Memref.whole cc3_stg0_0) fullShare ((dat3 W T c).before 0 t3_0 d)) ∗ (∃ d, owns (c : Thread nD τ) (Memref.whole cc3_stg1_0) fullShare ((dat3 W T c).before 1 t3_0 d)))
    ⊢ run c (cc3__gather_body (.whole cc3_stg0_0) (Memref.isWhole_whole _) (.whole cc3_stg1_0) (Memref.isWhole_whole _) (.whole cc3_scratch0) (Memref.isWhole_whole _) (.whole cc3_scratch1) (Memref.isWhole_whole _) (.whole cc3_scratch2) (Memref.isWhole_whole _) (.whole cc3_scratch3) (Memref.isWhole_whole _) cc3_scratch4 cc3_scratch5)
      fun _ => iprop((doneB c ∗ slotB c ∗ rest3 c) ∗ (dat3 W T c).owesAt () t3_0.succ ∗ owns (c : Thread nD τ) (Memref.whole cc3_stg0_0) fullShare ((dat3 W T c).after 0 t3_0) ∗ owns (c : Thread nD τ) (Memref.whole cc3_stg1_0) fullShare ((dat3 W T c).after 1 t3_0))
  simp only [found3_0]
  iintro ⟨⟨⟨%κ, #HR⟩, #HL, Ht, Hs, Hr⟩, HO, ⟨%d0, H0⟩, ⟨%d1, H1⟩⟩
  iapply (body3 T κ c (oq W c) hX _) $$ [HO Ht Hs H0 H1]
  · isplitr; · iexact HR
    isplitr; · iexact HL
    isplitl [HO]; · iapply (owes_elim c (dat3 W T c) _ _ (owed3_first W T c)); iexact HO
    isplitl [Ht]; · iexact Ht
    isplitl [Hs]; · iexact Hs
    isplitl [H0]; · iapply (whole_of c (b := cc3_stg0_0) (oq W c)); iexact H0
    iapply (any_of c (b := cc3_stg1_0)); iapply (whole_of c (b := cc3_stg1_0)); iexact H1
  iintro ⟨HO, Ht, Hs, H0, H1⟩
  isplitl [Ht Hs Hr]
  · isplitl [Ht]; · iexact Ht
    isplitl [Hs] <;> iassumption
  isplitl [HO]; · iapply (owes_intro c (dat3 W T c) _ _ (owed3_last W T c) rfl); iexact HO
  isplitl [H0]; · iapply (of_whole c (b := cc3_stg0_0)); iexact H0
  iapply (of_whole c (b := cc3_stg1_0)); iexact H1

theorem obl1 : BodyObligation (dat1 W c) defs₀ 𝒱₀ () Set.univ := fun t => by
  rw [bigSep_W1, bigSep_W1]
  show iprop(Pipeline.scopedRest spec1 c ∗ (dat1 W c).owesAt () t.castSucc ∗ (∃ d, own c (win1_0.stage (cfg1.slots t 0)) ((dat1 W c).before 0 t d)) ∗ (∃ d, own c (win1_1.stage (cfg1.slots t 1)) ((dat1 W c).before 1 t d)) ∗ (∃ d, own c (win1_2.stage (cfg1.slots t 2)) ((dat1 W c).before 2 t d)))
    ⊢ run c (cc1__q_proj_body (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)))
      fun _ => iprop(Pipeline.scopedRest spec1 c ∗ (dat1 W c).owesAt () t.castSucc ∗ own c (win1_0.stage (cfg1.slots t 0)) ((dat1 W c).after 0 t) ∗ own c (win1_1.stage (cfg1.slots t 1)) ((dat1 W c).after 1 t) ∗ own c (win1_2.stage (cfg1.slots t 2)) ((dat1 W c).after 2 t))
  simp only [found1_0, found1_1]
  iintro ⟨Hr, HO, ⟨%d0, H0⟩, ⟨%d1, H1⟩, ⟨%d2, H2⟩⟩
  iapply (body1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (in1 W c 0 t) (in1 W c 1 t) _ _) $$ [H0 H1 H2]
  · isplitl [H0]; · iexact H0
    isplitl [H1]; · iexact H1
    iexact H2
  iintro ⟨H0, H1, H2⟩
  isplitl [Hr]; · iexact Hr
  isplitl [HO]; · iexact HO
  isplitl [H0]; · iexact H0
  isplitl [H1]; · iexact H1
  iexact H2

/-- The accumulator's store at a head: the head's share alone at the first, added to what was there at the others. -/
theorem conds2 : ∀ t : Fin grid2.N, (k2_cond1 (grid2.coords t) = 1#1 ↔ t.val = 0) ∧ (k2_cond2 (grid2.coords t) = 1#1 ↔ t.val ≠ 0) := by decide +kernel

theorem step2 (t : Fin cfg2.N) (A : Vec F S256x2048 .f32) (hA : ∀ h : t.val ≠ 0, A = accum W c (t.val - 1) (Nat.lt_of_le_of_lt (Nat.sub_le _ _) t.isLt)) :
    second (grid2.coords t) (headAt W c t) (first (grid2.coords t) (headAt W c t) A) = accum W c t.val t.isLt := by
  obtain ⟨h1, h2⟩ := conds2 t
  unfold second first
  obtain ⟨n, hn⟩ := t
  cases n with
  | zero => rw [if_pos (h1.mpr rfl), if_neg (fun h => h2.mp h rfl)]; rfl
  | succ n => rw [if_neg (fun h => absurd (h1.mp h) (Nat.succ_ne_zero n)), if_pos (h2.mpr (Nat.succ_ne_zero n)), hA (Nat.succ_ne_zero n)]; rfl

theorem left2_0 (t : Fin cfg2.N) : (dat2 W c).after 0 t = in2 W c 0 t := rfl
theorem left2_1 (t : Fin cfg2.N) : (dat2 W c).after 1 t = in2 W c 1 t := rfl
theorem left2_2 (t : Fin cfg2.N) : (dat2 W c).after 2 t = in2 W c 2 t := rfl
theorem left2_3 (t : Fin cfg2.N) : (dat2 W c).after 3 t = in2 W c 3 t := rfl
theorem left2_4 (t : Fin cfg2.N) : (dat2 W c).after 4 t = in2 W c 4 t := rfl
theorem left2_5 (t : Fin cfg2.N) : (dat2 W c).after 5 t = in2 W c 5 t := rfl
theorem left2_6 (t : Fin cfg2.N) : (dat2 W c).after 6 t = accum W c t.val t.isLt := rfl

theorem after2 (t : Fin cfg2.N) (A : Vec F S256x2048 .f32) (hA : ∀ h : t.val ≠ 0, A = accum W c (t.val - 1) (Nat.lt_of_le_of_lt (Nat.sub_le _ _) t.isLt)) (Q : PUnit → sProp 𝕄) :
    iprop(own c (win2_0.stage (cfg2.slots t 0)) (in2 W c 0 t) ∗ own c (win2_1.stage (cfg2.slots t 1)) (in2 W c 1 t) ∗ own c (win2_2.stage (cfg2.slots t 2)) (in2 W c 2 t) ∗ own c (win2_3.stage (cfg2.slots t 3)) (in2 W c 3 t) ∗ own c (win2_4.stage (cfg2.slots t 4)) (in2 W c 4 t) ∗ own c (win2_5.stage (cfg2.slots t 5)) (in2 W c 5 t) ∗ own c (win2_6.stage (cfg2.slots t 6)) A)
      ⊢ iprop((own c (win2_0.stage (cfg2.slots t 0)) (in2 W c 0 t) ∗ own c (win2_1.stage (cfg2.slots t 1)) (in2 W c 1 t) ∗ own c (win2_2.stage (cfg2.slots t 2)) (in2 W c 2 t) ∗ own c (win2_3.stage (cfg2.slots t 3)) (in2 W c 3 t) ∗ own c (win2_4.stage (cfg2.slots t 4)) (in2 W c 4 t) ∗ own c (win2_5.stage (cfg2.slots t 5)) (in2 W c 5 t) ∗ own c (win2_6.stage (cfg2.slots t 6)) (accum W c t.val t.isLt) -∗ Q ⟨⟩) -∗ run c (cc2__attn_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6))) Q) := by
  rw [← step2 W c t A hA]
  exact body2 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (in2 W c 0 t) (in2 W c 1 t) (in2 W c 2 t) (in2 W c 3 t) (in2 W c 4 t) (in2 W c 5 t) A Q

theorem obl2 : BodyObligation (dat2 W c) defs₀ 𝒱₀ () Set.univ := fun t => by
  rw [bigSep_W2, bigSep_W2]
  have hi : idle2 6 (grid2.coords t) = false := idle2_never _
  simp only [hi]
  show iprop(Pipeline.scopedRest spec2 c ∗ (dat2 W c).owesAt () t.castSucc ∗ (∃ d, own c (win2_0.stage (cfg2.slots t 0)) ((dat2 W c).before 0 t d)) ∗ (∃ d, own c (win2_1.stage (cfg2.slots t 1)) ((dat2 W c).before 1 t d)) ∗ (∃ d, own c (win2_2.stage (cfg2.slots t 2)) ((dat2 W c).before 2 t d)) ∗ (∃ d, own c (win2_3.stage (cfg2.slots t 3)) ((dat2 W c).before 3 t d)) ∗ (∃ d, own c (win2_4.stage (cfg2.slots t 4)) ((dat2 W c).before 4 t d)) ∗ (∃ d, own c (win2_5.stage (cfg2.slots t 5)) ((dat2 W c).before 5 t d)) ∗ (∃ d, own c (win2_6.stage (cfg2.slots t 6)) ((dat2 W c).before 6 t d)))
    ⊢ run c (cc2__attn_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)))
      fun _ => iprop(Pipeline.scopedRest spec2 c ∗ (dat2 W c).owesAt () t.castSucc ∗ own c (win2_0.stage (cfg2.slots t 0)) ((dat2 W c).after 0 t) ∗ own c (win2_1.stage (cfg2.slots t 1)) ((dat2 W c).after 1 t) ∗ own c (win2_2.stage (cfg2.slots t 2)) ((dat2 W c).after 2 t) ∗ own c (win2_3.stage (cfg2.slots t 3)) ((dat2 W c).after 3 t) ∗ own c (win2_4.stage (cfg2.slots t 4)) ((dat2 W c).after 4 t) ∗ own c (win2_5.stage (cfg2.slots t 5)) ((dat2 W c).after 5 t) ∗ own c (win2_6.stage (cfg2.slots t 6)) ((dat2 W c).after 6 t))
  simp only [found2_0, found2_1, found2_2, found2_3, found2_4, found2_5, left2_0, left2_1, left2_2, left2_3, left2_4, left2_5, left2_6]
  iintro ⟨Hr, HO, ⟨%d0, H0⟩, ⟨%d1, H1⟩, ⟨%d2, H2⟩, ⟨%d3, H3⟩, ⟨%d4, H4⟩, ⟨%d5, H5⟩, ⟨%d6, H6⟩⟩
  iapply (after2 W c t ((dat2 W c).before 6 t d6) (fun h => found2_6 W c t h d6) _) $$ [H0 H1 H2 H3 H4 H5 H6]
  · skip
    isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [Hr]; · iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

end Cert.KernelIdeal.Talk

end
-- ==== Proof.KernelIdeal.Records.lean ====
/-
  The four regions as records of the launch: what each is entered with and left with.
-/
module

public import proofs.«01_k».proof.Proof.KernelIdeal.Contents
public import proofs.«01_k».proof.Proof.KernelIdeal.Oblige

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-- What a device keeps for the first talking kernel from the launch on. -/
def ghostA (c : Dev nD) : sProp 𝕄 := iprop(
  atPos ER (cell c (.reg barA)) 0 ∅ 0 ∗ cred (tallyAt (cell c (.reg barA)) () 1) ∗ dutyTok ER (cell (mate c) (.reg barA)) 0 0
    ∗ openTok ER (cell c (.dma (sndA 0))) ∗ dutyTok ER (cell c (.dma (sndA 0))) 0 0 ∗ openTok ER (cell c (.dma (rcvA 0))) ∗ dutyTok ER (cell (mate c) (.dma (rcvA 0))) 0 0 ∗ cred (tallyAt (cell c (.dma (rcvA 0))) () (credA 0)) ∗ openTok ER (cell c (.dma (sndA 1))) ∗ dutyTok ER (cell c (.dma (sndA 1))) 0 0 ∗ openTok ER (cell c (.dma (rcvA 1))) ∗ dutyTok ER (cell (mate c) (.dma (rcvA 1))) 0 0 ∗ cred (tallyAt (cell c (.dma (rcvA 1))) () (credA 1)) ∗ openTok ER (cell c (.dma (sndA 2))) ∗ dutyTok ER (cell c (.dma (sndA 2))) 0 0 ∗ openTok ER (cell c (.dma (rcvA 2))) ∗ dutyTok ER (cell (mate c) (.dma (rcvA 2))) 0 0 ∗ cred (tallyAt (cell c (.dma (rcvA 2))) () (credA 2)))
/-- What a device keeps for the last kernel. -/
def ghostB (c : Dev nD) : sProp 𝕄 := iprop(
  atPos ER (cell c (.reg barB)) 0 ∅ 0 ∗ cred (tallyAt (cell c (.reg barB)) () 3)
    ∗ dutyTok ER (cell (peer 0 c) (.reg barB)) 0 0 ∗ dutyTok ER (cell (peer 1 c) (.reg barB)) 0 1 ∗ dutyTok ER (cell (peer 2 c) (.reg barB)) 0 2
    ∗ openTok ER (cell c (.dma (sndB 0))) ∗ dutyTok ER (cell c (.dma (sndB 0))) 0 0 ∗ openTok ER (cell c (.dma (rcvB 0))) ∗ dutyTok ER (cell (peer 0 c) (.dma (rcvB 0))) 0 0 ∗ cred (tallyAt (cell c (.dma (rcvB 0))) () (credB 0)) ∗ openTok ER (cell c (.dma (sndB 1))) ∗ dutyTok ER (cell c (.dma (sndB 1))) 0 0 ∗ openTok ER (cell c (.dma (rcvB 1))) ∗ dutyTok ER (cell (peer 1 c) (.dma (rcvB 1))) 0 0 ∗ cred (tallyAt (cell c (.dma (rcvB 1))) () (credB 1)) ∗ openTok ER (cell c (.dma (sndB 2))) ∗ dutyTok ER (cell c (.dma (sndB 2))) 0 0 ∗ openTok ER (cell c (.dma (rcvB 2))) ∗ dutyTok ER (cell (peer 2 c) (.dma (rcvB 2))) 0 0 ∗ cred (tallyAt (cell c (.dma (rcvB 2))) () (credB 2)))

theorem ownA_eq (c : Dev nD) : (Pipeline.ownSems0 ownSem c : sProp 𝕄)
    = iprop(semVal (cell c (.dma (sndA 0))) 0 ∗ semVal (cell c (.dma (sndA 1))) 0 ∗ semVal (cell c (.dma (sndA 2))) 0 ∗ semVal (cell c (.dma (rcvA 0))) 0 ∗ semVal (cell c (.dma (rcvA 1))) 0 ∗ semVal (cell c (.dma (rcvA 2))) 0) := by
  unfold Pipeline.ownSems0
  exact bigSep_univ_eq_bigSepL ([0, 1, 2, 3, 4, 5] : List (Fin 6)) (by decide) (by decide) _
theorem ownB_eq (c : Dev nD) : (Pipeline.ownSems0 ownSemB c : sProp 𝕄)
    = iprop(semVal (cell c (.dma (sndB 0))) 0 ∗ semVal (cell c (.dma (sndB 1))) 0 ∗ semVal (cell c (.dma (sndB 2))) 0 ∗ semVal (cell c (.dma (rcvB 0))) 0 ∗ semVal (cell c (.dma (rcvB 1))) 0 ∗ semVal (cell c (.dma (rcvB 2))) 0) := by
  unfold Pipeline.ownSems0
  exact bigSep_univ_eq_bigSepL ([0, 1, 2, 3, 4, 5] : List (Fin 6)) (by decide) (by decide) _
/-- On entry the kernel's own counters, at zero, open its send and receive cells. -/
theorem openA (T : Msgs F) (κ) (c : Dev nD) : iprop(records T κ ∗ ghostA c ∗ Pipeline.ownSems0 ownSem c) ⊢ (|={Set.univ}=> talkA c : sProp 𝕄) := by
  rw [ownA_eq]
  unfold ghostA talkA
  iintro ⟨#HR, ⟨Ab, Cb, Tb, OS0, TS0, OR0, TR0, CR0, OS1, TS1, OR1, TR1, CR1, OS2, TS2, OR2, TR2, CR2⟩, VS0, VS1, VS2, VR0, VR1, VR2⟩
  imod (open_cell T (κ (cell c (.dma (sndA 0)))) (cell c (.dma (sndA 0)))) $$ [OS0 VS0] with ⟨AS0, #RS0⟩
  · isplitr; · iapply (inv_sndA T κ c 0); iexact HR
    isplitl [OS0] <;> iassumption
  imod (open_cell T (κ (cell c (.dma (rcvA 0)))) (cell c (.dma (rcvA 0)))) $$ [OR0 VR0] with ⟨AR0, #RR0⟩
  · isplitr; · iapply (inv_rcvA T κ c 0); iexact HR
    isplitl [OR0] <;> iassumption
  imod (open_cell T (κ (cell c (.dma (sndA 1)))) (cell c (.dma (sndA 1)))) $$ [OS1 VS1] with ⟨AS1, #RS1⟩
  · isplitr; · iapply (inv_sndA T κ c 1); iexact HR
    isplitl [OS1] <;> iassumption
  imod (open_cell T (κ (cell c (.dma (rcvA 1)))) (cell c (.dma (rcvA 1)))) $$ [OR1 VR1] with ⟨AR1, #RR1⟩
  · isplitr; · iapply (inv_rcvA T κ c 1); iexact HR
    isplitl [OR1] <;> iassumption
  imod (open_cell T (κ (cell c (.dma (sndA 2)))) (cell c (.dma (sndA 2)))) $$ [OS2 VS2] with ⟨AS2, #RS2⟩
  · isplitr; · iapply (inv_sndA T κ c 2); iexact HR
    isplitl [OS2] <;> iassumption
  imod (open_cell T (κ (cell c (.dma (rcvA 2)))) (cell c (.dma (rcvA 2)))) $$ [OR2 VR2] with ⟨AR2, #RR2⟩
  · isplitr; · iapply (inv_rcvA T κ c 2); iexact HR
    isplitl [OR2] <;> iassumption
  imodintro
  isplitl [Ab]; · iexact Ab
  isplitl [Cb]; · iexact Cb
  isplitl [Tb]; · iexact Tb
  isplitl [AS0]; · iexact AS0
  isplitr; · iexact RS0
  isplitl [TS0]; · iexact TS0
  isplitl [AR0]; · iexact AR0
  isplitr; · iexact RR0
  isplitl [TR0]; · iexact TR0
  isplitl [CR0]; · iexact CR0
  isplitl [AS1]; · iexact AS1
  isplitr; · iexact RS1
  isplitl [TS1]; · iexact TS1
  isplitl [AR1]; · iexact AR1
  isplitr; · iexact RR1
  isplitl [TR1]; · iexact TR1
  isplitl [CR1]; · iexact CR1
  isplitl [AS2]; · iexact AS2
  isplitr; · iexact RS2
  isplitl [TS2]; · iexact TS2
  isplitl [AR2]; · iexact AR2
  isplitr; · iexact RR2
  isplitl [TR2]; · iexact TR2
  iexact CR2

/-- On entry the kernel's own counters, at zero, open its send and receive cells. -/
theorem openB (T : Msgs F) (κ) (c : Dev nD) : iprop(records T κ ∗ ghostB c ∗ Pipeline.ownSems0 ownSemB c) ⊢ (|={Set.univ}=> talkB c : sProp 𝕄) := by
  rw [ownB_eq]
  unfold ghostB talkB
  iintro ⟨#HR, ⟨Ab, Cb, Tb0, Tb1, Tb2, OS0, TS0, OR0, TR0, CR0, OS1, TS1, OR1, TR1, CR1, OS2, TS2, OR2, TR2, CR2⟩, VS0, VS1, VS2, VR0, VR1, VR2⟩
  imod (open_cell T (κ (cell c (.dma (sndB 0)))) (cell c (.dma (sndB 0)))) $$ [OS0 VS0] with ⟨AS0, #RS0⟩
  · isplitr; · iapply (inv_sndB T κ c 0); iexact HR
    isplitl [OS0] <;> iassumption
  imod (open_cell T (κ (cell c (.dma (rcvB 0)))) (cell c (.dma (rcvB 0)))) $$ [OR0 VR0] with ⟨AR0, #RR0⟩
  · isplitr; · iapply (inv_rcvB T κ c 0); iexact HR
    isplitl [OR0] <;> iassumption
  imod (open_cell T (κ (cell c (.dma (sndB 1)))) (cell c (.dma (sndB 1)))) $$ [OS1 VS1] with ⟨AS1, #RS1⟩
  · isplitr; · iapply (inv_sndB T κ c 1); iexact HR
    isplitl [OS1] <;> iassumption
  imod (open_cell T (κ (cell c (.dma (rcvB 1)))) (cell c (.dma (rcvB 1)))) $$ [OR1 VR1] with ⟨AR1, #RR1⟩
  · isplitr; · iapply (inv_rcvB T κ c 1); iexact HR
    isplitl [OR1] <;> iassumption
  imod (open_cell T (κ (cell c (.dma (sndB 2)))) (cell c (.dma (sndB 2)))) $$ [OS2 VS2] with ⟨AS2, #RS2⟩
  · isplitr; · iapply (inv_sndB T κ c 2); iexact HR
    isplitl [OS2] <;> iassumption
  imod (open_cell T (κ (cell c (.dma (rcvB 2)))) (cell c (.dma (rcvB 2)))) $$ [OR2 VR2] with ⟨AR2, #RR2⟩
  · isplitr; · iapply (inv_rcvB T κ c 2); iexact HR
    isplitl [OR2] <;> iassumption
  imodintro
  isplitl [Ab]; · iexact Ab
  isplitl [Cb]; · iexact Cb
  isplitl [Tb0]; · iexact Tb0
  isplitl [Tb1]; · iexact Tb1
  isplitl [Tb2]; · iexact Tb2
  isplitl [AS0]; · iexact AS0
  isplitr; · iexact RS0
  isplitl [TS0]; · iexact TS0
  isplitl [AR0]; · iexact AR0
  isplitr; · iexact RR0
  isplitl [TR0]; · iexact TR0
  isplitl [CR0]; · iexact CR0
  isplitl [AS1]; · iexact AS1
  isplitr; · iexact RS1
  isplitl [TS1]; · iexact TS1
  isplitl [AR1]; · iexact AR1
  isplitr; · iexact RR1
  isplitl [TR1]; · iexact TR1
  isplitl [CR1]; · iexact CR1
  isplitl [AS2]; · iexact AS2
  isplitr; · iexact RS2
  isplitl [TS2]; · iexact TS2
  isplitl [AR2]; · iexact AR2
  isplitr; · iexact RR2
  isplitl [TR2]; · iexact TR2
  iexact CR2

/-! ## The thread states between the regions, beside the buffers -/

/-- From the launch to the weights exchange. -/
def E0 (c : Dev nD) : sProp 𝕄 :=
  iprop((∃ κ, records (sent m) κ) ∗ ghostA c ∗ ghostB c ∗ (∃ r, prngReg c r) ∗ owing c (dueB c + dueA c))
/-- From the weights exchange to the gather. -/
def E1 (c : Dev nD) : sProp 𝕄 :=
  iprop((∃ κ, records (sent m) κ) ∗ semVal (cell c (.reg barA)) 0 ∗ ghostB c ∗ (∃ r, prngReg c r) ∗ owing c (dueB c))

/-! ## The records -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1
theorem kit2 : Pipeline.PLaunchFacts (nD := nD) (τ := τ) (pcfgs (F := F)) 2 where
  cellOf_inj a := by rw [Subsingleton.elim a adm]; exact cellOf_inj
  win := winFacts2
  pre := Pipeline.PreFacts.none _
  block_pos := block_pos2
  arr_whole := arr_whole2
  stage_whole := stage_whole2
theorem kit3 : Pipeline.PLaunchFacts (nD := nD) (τ := τ) (pcfgs (F := F)) 3 where
  cellOf_inj a := by rw [Subsingleton.elim a adm]; exact cellOf_inj
  win := winFacts3
  pre := Pipeline.PreFacts.none _
  block_pos := block_pos3
  arr_whole := arr_whole3
  stage_whole := stage_whole3

/-- The staging semaphores lie below every cell owed to. -/
theorem stage_low0 : ∀ (w : Fin cfg0.W) (s : Fin (cfg0.win w).nbuf), lvOf (role (.dma ((cfg0.win w).sem s))) ≤ 0 := by decide +kernel
theorem stage_low1 : ∀ (w : Fin cfg1.W) (s : Fin (cfg1.win w).nbuf), lvOf (role (.dma ((cfg1.win w).sem s))) ≤ 0 := by decide +kernel
theorem stage_low2 : ∀ (w : Fin cfg2.W) (s : Fin (cfg2.win w).nbuf), lvOf (role (.dma ((cfg2.win w).sem s))) ≤ 0 := by decide +kernel
theorem stage_low3 : ∀ (w : Fin cfg3.W) (s : Fin (cfg3.win w).nbuf), lvOf (role (.dma ((cfg3.win w).sem s))) ≤ 0 := by decide +kernel

theorem above0 (c : Dev nD) (t : Fin (cfg0.N + 1)) : Above 0 ((dat0 (V4 m) (sent m) c).owed t) := by
  show Above 0 (if t.val = 0 then dueB c + dueA c else dueB c)
  split
  · exact ((dueB_above c).mono (Nat.zero_le _)).add (dueA_above c)
  · exact (dueB_above c).mono (Nat.zero_le _)
theorem above3 (c : Dev nD) (t : Fin (cfg3.N + 1)) : Above 0 ((dat3 (W7 m) (sent m) c).owed t) := by
  show Above 0 (if t.val = 0 then dueB c else 0)
  split
  · exact (dueB_above c).mono (Nat.zero_le _)
  · exact .zero 0

/-- The buffers a region's windows do not move. -/
abbrev others {gr W : Nat} (win : Fin W → Pipeline.WinSpec sig gr) : Finset (DevRef τ sig) := Pipeline.ucRefs τ sig \ Pipeline.arrRefs (τ := τ) win

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)
theorem sub2 : Pipeline.arrRefs (τ := τ) spec2 ⊆ Pipeline.ucRefs τ sig := Pipeline.arrRefs_sub_ucRefs spec2 (by decide)
theorem sub3 : Pipeline.arrRefs (τ := τ) spec3 ⊆ Pipeline.ucRefs τ sig := Pipeline.arrRefs_sub_ucRefs spec3 (by decide)

/-- A buffer that no window moves is none of the windows' arrays. -/
theorem not_arr {gr W : Nat} (win : Fin W → Pipeline.WinSpec sig gr) {b : DevRef τ sig} (hb : b ∈ others win) (w : Fin W) : b ≠ Proc.devRef .tc (Pipeline.arrRef win w) := fun h =>
  (Finset.mem_sdiff.mp hb).2 (h ▸ Finset.mem_map_of_mem _ (Finset.mem_image_of_mem _ (Finset.mem_univ w)))

theorem same0 (c : Dev nD) : ∀ b ∈ others spec0, W5 m c b = V4 m c b := fun b hb => by
  unfold W5
  rw [Function.update_of_ne (not_arr spec0 hb 10), Function.update_of_ne (not_arr spec0 hb 9), Function.update_of_ne (not_arr spec0 hb 8),
    Function.update_of_ne (not_arr spec0 hb 7), Function.update_of_ne (not_arr spec0 hb 6)]
theorem same1 (c : Dev nD) : ∀ b ∈ others spec1, W6 m c b = W5 m c b := fun b hb => by
  unfold W6; rw [Function.update_of_ne (not_arr spec1 hb 2)]
theorem same2 (c : Dev nD) : ∀ b ∈ others spec2, W7 m c b = W6 m c b := fun b hb => by
  unfold W7; rw [Function.update_of_ne (not_arr spec2 hb 6)]
theorem same3 (c : Dev nD) : ∀ b ∈ others spec3, W8 m c b = W7 m c b := fun b hb => by
  unfold W8; rw [Function.update_of_ne (not_arr spec3 hb 1)]

theorem share0 (c : Dev nD) (w : Fin cfg0.W) : (pdats m 0 c).share w = fullShare := Pipeline.Dat.share_full (pdats m 0 c) (fun _ => rfl) w
theorem share1 (c : Dev nD) (w : Fin cfg1.W) : (pdats m 1 c).share w = fullShare := Pipeline.Dat.share_full (pdats m 1 c) (fun _ => rfl) w
theorem share2 (c : Dev nD) (w : Fin cfg2.W) : (pdats m 2 c).share w = fullShare := Pipeline.Dat.share_full (pdats m 2 c) (fun _ => rfl) w
theorem share3 (c : Dev nD) (w : Fin cfg3.W) : (pdats m 3 c).share w = fullShare := Pipeline.Dat.share_full (pdats m 3 c) (fun _ => rfl) w
local notation "ℝ𝕊" => Pipeline.RegionSeg (pcfgs (F := F)) adm (pdats m) () defs₀ 𝒱₀ L lv

theorem in0' (c : Dev nD) : iprop(Pipeline.scopedRest (Pipeline.pin (pcfgs (F := F)) adm 0).spec c ∗ (∃ r, prngReg c r) ∗ StableHlo.held (c.tc : Thread nD τ) ∅ (V4 m c)
      ∗ ((∃ κ, records (sent m) κ) ∗ levAts L lv ∗ talkA c)) ⊢ (pdats m 0 c).Φ 0 := by
  rw [show (pdats m 0 c).Φ 0 = iprop((∃ κ, records (sent m) κ) ∗ levAts L lv ∗ talkA c ∗ slotA c ∗ rest0 c) from rfl,
    show (Pipeline.scopedRest (Ix := Unit) (Name := ℕ) (U := UU) (Lvl := ℕ) (Val := Elt F) (Pipeline.pin (pcfgs (F := F)) adm 0).spec c : sProp 𝕄) = Pipeline.scopedRest spec0 c from rfl, scopedRest0_split]
  unfold slotA rest0
  iintro ⟨⟨⟨H0, H1, H2, H3, H4, H5⟩, Hr⟩, Hp, -, HR, HL, Ht⟩
  isplitl [HR]; · iexact HR
  isplitl [HL]; · iexact HL
  isplitl [Ht]; · iexact Ht
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Hr]; · iexact Hr
  iexact Hp
theorem out0' (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W5 m c) ∗ Pipeline.ownSems0 ownSem c ∗ semVal (cell c (.reg barA)) 0) := by
  rw [show (pdats m 0 c).Φ (Fin.last _) = iprop(doneA c ∗ slotA c ∗ rest0 c) from rfl,
    show (Pipeline.scopedRest (Ix := Unit) (Name := ℕ) (U := UU) (Lvl := ℕ) (Val := Elt F) (Pipeline.pin (pcfgs (F := F)) adm 0).spec c : sProp 𝕄) = Pipeline.scopedRest spec0 c from rfl, scopedRest0_split, ownA_eq]
  unfold slotA rest0 doneA
  rw [show (StableHlo.held (c.tc : Thread nD τ) ∅ (W5 m c) : sProp 𝕄) = BI.emp from BI.bigSep_empty]
  iintro ⟨⟨D0, D1, D2, D3, D4, D5, Db⟩, ⟨H0, H1, H2, H3, H4, H5⟩, Hr, Hp⟩
  isplitl [H0 H1 H2 H3 H4 H5 Hr]
  · isplitr [Hr]
    · isplitl [H0]; · iexact H0
      isplitl [H1]; · iexact H1
      isplitl [H2]; · iexact H2
      isplitl [H3]; · iexact H3
      isplitl [H4]; · iexact H4
      iexact H5
    iexact Hr
  isplitl [Hp]; · iexact Hp
  isplitr; · iempintro
  isplitr [Db]
  · isplitl [D0]; · iexact D0
    isplitl [D1]; · iexact D1
    isplitl [D2]; · iexact D2
    isplitl [D3]; · iexact D3
    isplitl [D4]; · iexact D4
    iexact D5
  iexact Db

theorem in3' (c : Dev nD) : iprop(Pipeline.scopedRest (Pipeline.pin (pcfgs (F := F)) adm 3).spec c ∗ (∃ r, prngReg c r) ∗ StableHlo.held (c.tc : Thread nD τ) ∅ (W7 m c)
      ∗ ((∃ κ, records (sent m) κ) ∗ levAts L lv ∗ talkB c)) ⊢ (pdats m 3 c).Φ 0 := by
  rw [show (pdats m 3 c).Φ 0 = iprop((∃ κ, records (sent m) κ) ∗ levAts L lv ∗ talkB c ∗ slotB c ∗ rest3 c) from rfl,
    show (Pipeline.scopedRest (Ix := Unit) (Name := ℕ) (U := UU) (Lvl := ℕ) (Val := Elt F) (Pipeline.pin (pcfgs (F := F)) adm 3).spec c : sProp 𝕄) = Pipeline.scopedRest spec3 c from rfl, scopedRest3_split]
  unfold slotB rest3
  iintro ⟨⟨⟨H0, H1, H2, H3⟩, Hr⟩, Hp, -, HR, HL, Ht⟩
  isplitl [HR]; · iexact HR
  isplitl [HL]; · iexact HL
  isplitl [Ht]; · iexact Ht
  isplitl [H0 H1 H2 H3]
  · isplitl [H0]; · iexact H0
    isplitl [H1]; · iexact H1
    isplitl [H2]; · iexact H2
    iexact H3
  isplitl [Hr]; · iexact Hr
  iexact Hp
theorem out3' (c : Dev nD) : (pdats m 3 c).Φ (Fin.last (Pipeline.pin (pcfgs (F := F)) adm 3).N)
    ⊢ iprop(Pipeline.scopedRest (Pipeline.pin (pcfgs (F := F)) adm 3).spec c ∗ (∃ r, prngReg c r) ∗ StableHlo.held (c.tc : Thread nD τ) ∅ (W8 m c) ∗ Pipeline.ownSems0 ownSemB c ∗ semVal (cell c (.reg barB)) 0) := by
  rw [show (pdats m 3 c).Φ (Fin.last _) = iprop(doneB c ∗ slotB c ∗ rest3 c) from rfl,
    show (Pipeline.scopedRest (Ix := Unit) (Name := ℕ) (U := UU) (Lvl := ℕ) (Val := Elt F) (Pipeline.pin (pcfgs (F := F)) adm 3).spec c : sProp 𝕄) = Pipeline.scopedRest spec3 c from rfl, scopedRest3_split, ownB_eq]
  unfold slotB rest3 doneB
  rw [show (StableHlo.held (c.tc : Thread nD τ) ∅ (W8 m c) : sProp 𝕄) = BI.emp from BI.bigSep_empty]
  iintro ⟨⟨D0, D1, D2, D3, D4, D5, Db⟩, ⟨H0, H1, H2, H3⟩, Hr, Hp⟩
  isplitl [H0 H1 H2 H3 Hr]
  · isplitr [Hr]
    · isplitl [H0]; · iexact H0
      isplitl [H1]; · iexact H1
      isplitl [H2]; · iexact H2
      iexact H3
    iexact Hr
  isplitl [Hp]; · iexact Hp
  isplitr; · iempintro
  isplitr [Db]
  · isplitl [D0]; · iexact D0
    isplitl [D1]; · iexact D1
    isplitl [D2]; · iexact D2
    isplitl [D3]; · iexact D3
    isplitl [D4]; · iexact D4
    iexact D5
  iexact Db

theorem in1' (c : Dev nD) : iprop(Pipeline.scopedRest (Pipeline.pin (pcfgs (F := F)) adm 1).spec c ∗ emp) ⊢ (pdats m 1 c).Φ 0 := by
  rw [show (pdats m 1 c).Φ 0 = Pipeline.scopedRest spec1 c from rfl]
  exact BI.sep_emp.1
theorem out1' (c : Dev nD) : (pdats m 1 c).Φ (Fin.last (Pipeline.pin (pcfgs (F := F)) adm 1).N) ⊢ iprop(Pipeline.scopedRest (Pipeline.pin (pcfgs (F := F)) adm 1).spec c ∗ emp) := by
  rw [show (pdats m 1 c).Φ (Fin.last _) = Pipeline.scopedRest spec1 c from rfl]
  exact BI.sep_emp.2
theorem in2' (c : Dev nD) : iprop(Pipeline.scopedRest (Pipeline.pin (pcfgs (F := F)) adm 2).spec c ∗ emp) ⊢ (pdats m 2 c).Φ 0 := by
  rw [show (pdats m 2 c).Φ 0 = Pipeline.scopedRest spec2 c from rfl]
  exact BI.sep_emp.1
theorem out2' (c : Dev nD) : (pdats m 2 c).Φ (Fin.last (Pipeline.pin (pcfgs (F := F)) adm 2).N) ⊢ iprop(Pipeline.scopedRest (Pipeline.pin (pcfgs (F := F)) adm 2).spec c ∗ emp) := by
  rw [show (pdats m 2 c).Φ (Fin.last _) = Pipeline.scopedRest spec2 c from rfl]
  exact BI.sep_emp.2

theorem enterA (c : Dev nD) : iprop(((∃ κ, records (sent m) κ) ∗ ghostA c) ∗ Pipeline.ownSems0 ownSem c ∗ levAts L lv)
    ⊢ (|={Set.univ}=> iprop((∃ κ, records (sent m) κ) ∗ levAts L lv ∗ talkA c) : sProp 𝕄) := by
  iintro ⟨⟨⟨%κ, #HR⟩, HG⟩, Hos, #HL⟩
  imod (openA (sent m) κ c) $$ [HG Hos] with Ht
  · isplitr; · iexact HR
    isplitl [HG] <;> iassumption
  imodintro
  isplitr; · iexists κ; iexact HR
  isplitr; · iexact HL
  iexact Ht
theorem enterB (c : Dev nD) : iprop(((∃ κ, records (sent m) κ) ∗ ghostB c) ∗ Pipeline.ownSems0 ownSemB c ∗ levAts L lv)
    ⊢ (|={Set.univ}=> iprop((∃ κ, records (sent m) κ) ∗ levAts L lv ∗ talkB c) : sProp 𝕄) := by
  iintro ⟨⟨⟨%κ, #HR⟩, HG⟩, Hos, #HL⟩
  imod (openB (sent m) κ c) $$ [HG Hos] with Ht
  · isplitr; · iexact HR
    isplitl [HG] <;> iassumption
  imodintro
  isplitr; · iexists κ; iexact HR
  isplitr; · iexact HL
  iexact Ht

set_option backward.isDefEq.respectTransparency.types false in
/-- The weights exchange. -/
def reg0 : ℝ𝕊 0 :=
  Pipeline.RegionSeg.ofTalk (pcfgs (F := F)) adm (pdats m) () defs₀ 𝒱₀ L lv 0 ownSem (by decide +kernel : Pipeline.OwnSemFacts spec0 ownSem)
    ∅ (others spec0) (Finset.empty_subset _) kit0 rfl (fun c => (obl0 (V4 m) (sent m) c rfl rfl rfl).loose)
    dueB dueA (fun c => owed0_first (V4 m) (sent m) c) (fun c => owed0_last (V4 m) (sent m) c) (fun _ => rfl) (fun c w => share0 m c w)
    (V4 m) (W5 m) (fun c b hb => same0 m c b (Finset.mem_sdiff.mp hb).1)
    (fun c => iprop((∃ κ, records (sent m) κ) ∗ ghostA c)) (fun c => semVal (cell c (.reg barA)) 0)
    (fun c => iprop((∃ κ, records (sent m) κ) ∗ levAts L lv ∗ talkA c)) (fun c => semVal (cell c (.reg barA)) 0)
    (enterA m) (in0' m) (out0' m) (fun c => by iintro H; imodintro; iexact H)
    (fun _ => 0)
    ⟨fun c w s => by rw [L_tc]; exact Finset.mem_singleton_self _, fun c w s => stage_low0 w s, fun c t g i h => above0 m c t g i h⟩
    (fun c => iprop((∃ κ, records (sent m) κ) ∗ ghostB c))
    (fun _ _ => rfl) (exit0 m)

set_option backward.isDefEq.respectTransparency.types false in
/-- The gather. -/
def reg3 : ℝ𝕊 3 :=
  Pipeline.RegionSeg.ofTalk (pcfgs (F := F)) adm (pdats m) () defs₀ 𝒱₀ L lv 3 ownSemB (by decide +kernel : Pipeline.OwnSemFacts spec3 ownSemB)
    ∅ (others spec3) (Finset.empty_subset _) kit3 rfl (fun c => (obl3 (W7 m) (sent m) c rfl).loose)
    (fun _ => 0) dueB (fun c => (owed3_first (W7 m) (sent m) c).trans (zero_add _).symm) (fun c => owed3_last (W7 m) (sent m) c) (fun _ => rfl) (fun c w => share3 m c w)
    (W7 m) (W8 m) (fun c b hb => same3 m c b (Finset.mem_sdiff.mp hb).1)
    (fun c => iprop((∃ κ, records (sent m) κ) ∗ ghostB c)) (fun c => semVal (cell c (.reg barB)) 0)
    (fun c => iprop((∃ κ, records (sent m) κ) ∗ levAts L lv ∗ talkB c)) (fun c => semVal (cell c (.reg barB)) 0)
    (enterB m) (in3' m) (out3' m) (fun c => by iintro H; imodintro; iexact H)
    (fun _ => 0)
    ⟨fun c w s => by rw [L_tc]; exact Finset.mem_singleton_self _, fun c w s => stage_low3 w s, fun c t g i h => above3 m c t g i h⟩
    (fun c => semVal (cell c (.reg barA)) 0)
    (fun _ _ => rfl) (exit3 m)

/-- What rides past a region that does not talk. -/
def past (c : Dev nD) : sProp 𝕄 :=
  iprop((∃ κ, records (sent m) κ) ∗ semVal (cell c (.reg barA)) 0 ∗ ghostB c ∗ (∃ r, prngReg c r))

set_option backward.isDefEq.respectTransparency.types false in
/-- The query projection. -/
def reg1 : ℝ𝕊 1 :=
  Pipeline.RegionSeg.ofHeld (pcfgs (F := F)) adm (pdats m) () defs₀ 𝒱₀ L lv 1 dueB (fun _ => iprop(emp)) (fun _ => iprop(emp)) kit1 rfl
    (fun c => (obl1 (W5 m) c).loose) (fun _ _ => rfl) (fun _ => rfl) (fun c w => share1 m c w)
    (in1' m) (out1' m)
    (fun _ => 0)
    ⟨fun c w s => by rw [L_tc]; exact Finset.mem_singleton_self _, fun c w s => stage_low1 w s, fun c g i h => (dueB_above c).mono (Nat.zero_le _) g i h⟩
    (fun c => iprop(StableHlo.held (c.tc : Thread nD τ) (others spec1) (W5 m c) ∗ past m c))
    (W5 m) (W6 m) (fun _ _ => rfl) (exit1 m)

set_option backward.isDefEq.respectTransparency.types false in
/-- The attention. -/
def reg2 : ℝ𝕊 2 :=
  Pipeline.RegionSeg.ofHeld (pcfgs (F := F)) adm (pdats m) () defs₀ 𝒱₀ L lv 2 dueB (fun _ => iprop(emp)) (fun _ => iprop(emp)) kit2 rfl
    (fun c => (obl2 (W6 m) c).loose) (fun _ _ => rfl) (fun _ => rfl) (fun c w => share2 m c w)
    (in2' m) (out2' m)
    (fun _ => 0)
    ⟨fun c w s => by rw [L_tc]; exact Finset.mem_singleton_self _, fun c w s => stage_low2 w s, fun c g i h => (dueB_above c).mono (Nat.zero_le _) g i h⟩
    (fun c => iprop(StableHlo.held (c.tc : Thread nD τ) (others spec2) (W6 m c) ∗ past m c))
    (W6 m) (W7 m) (fun _ _ => rfl) (exit2 m)

/-! ## Entering and leaving -/

local notation "uc" => Pipeline.ucRefs τ sig

theorem pre0 (c : Dev nD) : iprop(StableHlo.held (c : Thread nD τ) uc (V4 m c) ∗ E0 m c) ⊢ (reg0 m).pre c := by
  show _ ⊢ iprop(StableHlo.held (c.tc : Thread nD τ) (Pipeline.arrRefs (τ := τ) spec0) (V4 m c) ∗ (∃ r, prngReg c r)
    ∗ (StableHlo.held (c.tc : Thread nD τ) (others spec0) (V4 m c) ∗ (∃ κ, records (sent m) κ) ∗ ghostB c)
    ∗ ((∃ κ, records (sent m) κ) ∗ ghostA c) ∗ owing c (dueB c + dueA c))
  rw [StableHlo.held_sub_split (c.tc : Thread nD τ) sub0 (V4 m c)]
  unfold E0
  iintro ⟨⟨Ha, Ho⟩, ⟨%κ, #HR⟩, HA, HB, Hp, HO⟩
  isplitl [Ha]; · iexact Ha
  isplitl [Hp]; · iexact Hp
  isplitl [Ho HB]
  · isplitl [Ho]; · iexact Ho
    isplitr; · iexists κ; iexact HR
    iexact HB
  isplitl [HA]
  · isplitr; · iexists κ; iexact HR
    iexact HA
  iexact HO

theorem post0 (c : Dev nD) : (reg0 m).post c ⊢ iprop(StableHlo.held (c : Thread nD τ) uc (W5 m c) ∗ E1 m c) := by
  show iprop(StableHlo.held (c.tc : Thread nD τ) (Pipeline.arrRefs (τ := τ) spec0) (W5 m c) ∗ (∃ r, prngReg c r)
    ∗ (StableHlo.held (c.tc : Thread nD τ) (others spec0) (W5 m c) ∗ (∃ κ, records (sent m) κ) ∗ ghostB c)
    ∗ semVal (cell c (.reg barA)) 0 ∗ owing c (dueB c)) ⊢ _
  rw [StableHlo.held_sub_split (c.tc : Thread nD τ) sub0 (W5 m c)]
  unfold E1
  iintro ⟨Ha, Hp, ⟨Ho, HR, HB⟩, Hv, HO⟩
  isplitl [Ha Ho]; · isplitl [Ha] <;> iassumption
  isplitl [HR]; · iexact HR
  isplitl [Hv]; · iexact Hv
  isplitl [HB]; · iexact HB
  isplitl [Hp] <;> iassumption

theorem pre1 (c : Dev nD) : iprop(StableHlo.held (c : Thread nD τ) uc (W5 m c) ∗ E1 m c) ⊢ (reg1 m).pre c := by
  show _ ⊢ iprop(StableHlo.held (c.tc : Thread nD τ) (Pipeline.arrRefs (τ := τ) spec1) (W5 m c) ∗ emp
    ∗ (StableHlo.held (c.tc : Thread nD τ) (others spec1) (W5 m c) ∗ past m c) ∗ owing c (dueB c))
  rw [StableHlo.held_sub_split (c.tc : Thread nD τ) sub1 (W5 m c)]
  unfold E1 past
  iintro ⟨⟨Ha, Ho⟩, HR, Hv, HB, Hp, HO⟩
  isplitl [Ha]; · iexact Ha
  isplitr; · iempintro
  isplitr [HO]
  · isplitl [Ho]; · iexact Ho
    isplitl [HR]; · iexact HR
    isplitl [Hv]; · iexact Hv
    isplitl [HB] <;> iassumption
  iexact HO
theorem post1 (c : Dev nD) : (reg1 m).post c ⊢ iprop(StableHlo.held (c : Thread nD τ) uc (W6 m c) ∗ E1 m c) := by
  show iprop(StableHlo.held (c.tc : Thread nD τ) (Pipeline.arrRefs (τ := τ) spec1) (W6 m c) ∗ emp
    ∗ (StableHlo.held (c.tc : Thread nD τ) (others spec1) (W5 m c) ∗ past m c) ∗ owing c (dueB c)) ⊢ _
  rw [StableHlo.held_sub_split (c.tc : Thread nD τ) sub1 (W6 m c), ← StableHlo.held_congr (c.tc : Thread nD τ) (same1 m c)]
  unfold E1 past
  iintro ⟨Ha, -, ⟨Ho, HR, Hv, HB, Hp⟩, HO⟩
  isplitl [Ha Ho]; · isplitl [Ha] <;> iassumption
  isplitl [HR]; · iexact HR
  isplitl [Hv]; · iexact Hv
  isplitl [HB]; · iexact HB
  isplitl [Hp] <;> iassumption

theorem pre2 (c : Dev nD) : iprop(StableHlo.held (c : Thread nD τ) uc (W6 m c) ∗ E1 m c) ⊢ (reg2 m).pre c := by
  show _ ⊢ iprop(StableHlo.held (c.tc : Thread nD τ) (Pipeline.arrRefs (τ := τ) spec2) (W6 m c) ∗ emp
    ∗ (StableHlo.held (c.tc : Thread nD τ) (others spec2) (W6 m c) ∗ past m c) ∗ owing c (dueB c))
  rw [StableHlo.held_sub_split (c.tc : Thread nD τ) sub2 (W6 m c)]
  unfold E1 past
  iintro ⟨⟨Ha, Ho⟩, HR, Hv, HB, Hp, HO⟩
  isplitl [Ha]; · iexact Ha
  isplitr; · iempintro
  isplitr [HO]
  · isplitl [Ho]; · iexact Ho
    isplitl [HR]; · iexact HR
    isplitl [Hv]; · iexact Hv
    isplitl [HB] <;> iassumption
  iexact HO
theorem post2 (c : Dev nD) : (reg2 m).post c ⊢ iprop(StableHlo.held (c : Thread nD τ) uc (W7 m c) ∗ E1 m c) := by
  show iprop(StableHlo.held (c.tc : Thread nD τ) (Pipeline.arrRefs (τ := τ) spec2) (W7 m c) ∗ emp
    ∗ (StableHlo.held (c.tc : Thread nD τ) (others spec2) (W6 m c) ∗ past m c) ∗ owing c (dueB c)) ⊢ _
  rw [StableHlo.held_sub_split (c.tc : Thread nD τ) sub2 (W7 m c), ← StableHlo.held_congr (c.tc : Thread nD τ) (same2 m c)]
  unfold E1 past
  iintro ⟨Ha, -, ⟨Ho, HR, Hv, HB, Hp⟩, HO⟩
  isplitl [Ha Ho]; · isplitl [Ha] <;> iassumption
  isplitl [HR]; · iexact HR
  isplitl [Hv]; · iexact Hv
  isplitl [HB]; · iexact HB
  isplitl [Hp] <;> iassumption

theorem pre3 (c : Dev nD) : iprop(StableHlo.held (c : Thread nD τ) uc (W7 m c) ∗ E1 m c) ⊢ (reg3 m).pre c := by
  show _ ⊢ iprop(StableHlo.held (c.tc : Thread nD τ) (Pipeline.arrRefs (τ := τ) spec3) (W7 m c) ∗ (∃ r, prngReg c r)
    ∗ (StableHlo.held (c.tc : Thread nD τ) (others spec3) (W7 m c) ∗ semVal (cell c (.reg barA)) 0)
    ∗ ((∃ κ, records (sent m) κ) ∗ ghostB c) ∗ owing c (0 + dueB c))
  rw [StableHlo.held_sub_split (c.tc : Thread nD τ) sub3 (W7 m c), zero_add]
  unfold E1
  iintro ⟨⟨Ha, Ho⟩, HR, Hv, HB, Hp, HO⟩
  isplitl [Ha]; · iexact Ha
  isplitl [Hp]; · iexact Hp
  isplitl [Ho Hv]; · isplitl [Ho] <;> iassumption
  isplitl [HR HB]; · isplitl [HR] <;> iassumption
  iexact HO

/-- What is left at the end: every buffer at its last contents, both barrier counters at zero. -/
def last (c : Dev nD) : sProp 𝕄 :=
  iprop(StableHlo.held (c : Thread nD τ) uc (W8 m c) ∗ semVal (cell c (.reg barA)) 0 ∗ semVal (cell c (.reg barB)) 0)
theorem post3 (c : Dev nD) : (reg3 m).post c ⊢ iprop(last m c ∗ owing c 0) := by
  show iprop(StableHlo.held (c.tc : Thread nD τ) (Pipeline.arrRefs (τ := τ) spec3) (W8 m c) ∗ (∃ r, prngReg c r)
    ∗ (StableHlo.held (c.tc : Thread nD τ) (others spec3) (W8 m c) ∗ semVal (cell c (.reg barA)) 0)
    ∗ semVal (cell c (.reg barB)) 0 ∗ owing c 0) ⊢ _
  unfold last
  rw [StableHlo.held_sub_split (c.tc : Thread nD τ) sub3 (W8 m c)]
  iintro ⟨Ha, -, ⟨Ho, Hv⟩, Hw, HO⟩
  isplitr [HO]
  · isplitl [Ha Ho]; · isplitl [Ha] <;> iassumption
    isplitl [Hv] <;> iassumption
  iexact HO

end Cert.KernelIdeal.Talk

end
-- ==== Proof.KernelIdeal.Launch.lean ====
/-
  The launch of the gather kernel: every cell's invariant is allocated, the scoped cells dormant, and the tokens, credits and
  rights are dealt to the devices.
-/
module

public import proofs.«01_k».proof.Proof.KernelIdeal.Records

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg RegionSeg HostSeg)
open Idealize.ShloMosaic.Pipeline (Dat BodyObligation)

variable {F : FTy → Type} [FloatOps F] [Named F]

local notation "𝕄" => MT nD τ sig Unit (Elt F) ℕ UU ℕ

theorem bigSep_two_sets {S S' : Finset (GSem nD τ sig)} (h : Disjoint S S') {Φ : GSem nD τ sig → sProp 𝕄} :
    bigSep (S ∪ S') Φ ⊢ iprop(bigSep S Φ ∗ bigSep S' Φ) := Entails.of_eq (bigSep_union h)
theorem bigSep_part {S S' : Finset (SemLoc sig)} (h : S' ⊆ S) {Φ : SemLoc sig → sProp 𝕄} : bigSep S Φ ⊢ bigSep S' Φ := bigSep_subset h
theorem bigSep_pair {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm
theorem bigSep_unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

variable (m : (ℓ : Loc nD τ sig) → Buf (Elt F) ℓ) (ρ : Dev nD → PrngReg)

/-! ## The cells and the tokens -/

/-- The twelve scoped semaphores of the two talking kernels. -/
def inScope (p : Fin 2 × Fin 6) : SemLoc sig := if p.1 = 0 then ownSem p.2 else ownSemB p.2
theorem scoped_inj : Function.Injective inScope := by decide
theorem scoped_ne : ∀ (p : Fin 2 × Fin 6) (k : Fin 2), inScope p ≠ .reg (![barA, barB] k) := by decide
theorem bars_inj : Function.Injective (fun k : Fin 2 => (SemLoc.reg (![barA, barB] k) : SemLoc sig)) := by decide

def barAt : Dev nD × Fin 2 ↪ GSem nD τ sig := ⟨fun p => cell p.1 (.reg (![barA, barB] p.2)), fun _ _ h =>
  Prod.ext (congrArg (fun g : GSem nD τ sig => g.1.1) h) (bars_inj (congrArg Prod.snd h))⟩
def scopedAt : Dev nD × (Fin 2 × Fin 6) ↪ GSem nD τ sig := ⟨fun p => cell p.1 (inScope p.2), fun _ _ h =>
  Prod.ext (congrArg (fun g : GSem nD τ sig => g.1.1) h) (scoped_inj (congrArg Prod.snd h))⟩
/-- The barrier cells, and the scoped cells. -/
def bars : Finset (GSem nD τ sig) := Finset.univ.map barAt
def scopeds : Finset (GSem nD τ sig) := Finset.univ.map scopedAt
theorem apart : Disjoint bars scopeds := by
  rw [Finset.disjoint_left]
  intro g h h'
  obtain ⟨p, -, rfl⟩ := Finset.mem_map.mp h
  obtain ⟨q, -, hq⟩ := Finset.mem_map.mp h'
  exact scoped_ne q.2 p.2 (congrArg Prod.snd hq)

/-- The duties of one device's cells: the cell's semaphore and the duty. -/
def duty : Fin 16 → SemLoc sig × Fin 3 :=
  ![((.reg barA), 0), ((.reg barB), 0), ((.reg barB), 1), ((.reg barB), 2), ((.dma (sndA 0)), 0), ((.dma (sndA 1)), 0), ((.dma (sndA 2)), 0), ((.dma (rcvA 0)), 0), ((.dma (rcvA 1)), 0), ((.dma (rcvA 2)), 0), ((.dma (sndB 0)), 0), ((.dma (sndB 1)), 0), ((.dma (sndB 2)), 0), ((.dma (rcvB 0)), 0), ((.dma (rcvB 1)), 0), ((.dma (rcvB 2)), 0)]
theorem duty_inj : Function.Injective duty := by decide
def dutyAt : Dev nD × Fin 16 ↪ GSem nD τ sig × ℕ × Fin 3 := ⟨fun p => (cell p.1 (duty p.2).1, 0, (duty p.2).2), fun _ _ h =>
  Prod.ext (congrArg (fun t : GSem nD τ sig × ℕ × Fin 3 => t.1.1.1) h)
    (duty_inj (Prod.ext (congrArg (fun t : GSem nD τ sig × ℕ × Fin 3 => t.1.2) h) (congrArg (fun t : GSem nD τ sig × ℕ × Fin 3 => t.2.2) h)))⟩
def tokens : Finset (GSem nD τ sig × ℕ × Fin 3) := Finset.univ.map dutyAt

theorem over_bars (Φ : GSem nD τ sig → sProp 𝕄) :
    bigSep bars Φ = bigSep Finset.univ fun c : Dev nD => bigSep Finset.univ fun k : Fin 2 => Φ (cell c (.reg (![barA, barB] k))) := by
  unfold bars; rw [bigSep_map, bigSep_univ_prod]; rfl
theorem over_scopeds (Φ : GSem nD τ sig → sProp 𝕄) :
    bigSep scopeds Φ = iprop((bigSep Finset.univ fun c : Dev nD => bigSep Finset.univ fun k : Fin 6 => Φ (cell c (ownSem k)))
      ∗ (bigSep Finset.univ fun c : Dev nD => bigSep Finset.univ fun k : Fin 6 => Φ (cell c (ownSemB k)))) := by
  unfold scopeds
  rw [bigSep_map, bigSep_univ_prod, ← bigSep_sep']
  refine bigSep_congr fun c _ => ?_
  rw [bigSep_univ_prod, bigSep_fin_two]
  rfl

/-- The tokens of a device's own cells, and the tokens it pays with. -/
def minted (c : Dev nD) : sProp 𝕄 := iprop(dutyTok ER (cell c (.reg barA)) 0 0 ∗ dutyTok ER (cell c (.reg barB)) 0 0 ∗ dutyTok ER (cell c (.reg barB)) 0 1 ∗ dutyTok ER (cell c (.reg barB)) 0 2 ∗ dutyTok ER (cell c (.dma (sndA 0))) 0 0 ∗ dutyTok ER (cell c (.dma (sndA 1))) 0 0 ∗ dutyTok ER (cell c (.dma (sndA 2))) 0 0 ∗ dutyTok ER (cell c (.dma (rcvA 0))) 0 0 ∗ dutyTok ER (cell c (.dma (rcvA 1))) 0 0 ∗ dutyTok ER (cell c (.dma (rcvA 2))) 0 0 ∗ dutyTok ER (cell c (.dma (sndB 0))) 0 0 ∗ dutyTok ER (cell c (.dma (sndB 1))) 0 0 ∗ dutyTok ER (cell c (.dma (sndB 2))) 0 0 ∗ dutyTok ER (cell c (.dma (rcvB 0))) 0 0 ∗ dutyTok ER (cell c (.dma (rcvB 1))) 0 0 ∗ dutyTok ER (cell c (.dma (rcvB 2))) 0 0)
def dealt (c : Dev nD) : sProp 𝕄 := iprop(dutyTok ER (cell (mate c) (.reg barA)) 0 0 ∗ dutyTok ER (cell (peer 0 c) (.reg barB)) 0 0 ∗ dutyTok ER (cell (peer 1 c) (.reg barB)) 0 1 ∗ dutyTok ER (cell (peer 2 c) (.reg barB)) 0 2 ∗ dutyTok ER (cell c (.dma (sndA 0))) 0 0 ∗ dutyTok ER (cell c (.dma (sndA 1))) 0 0 ∗ dutyTok ER (cell c (.dma (sndA 2))) 0 0 ∗ dutyTok ER (cell (mate c) (.dma (rcvA 0))) 0 0 ∗ dutyTok ER (cell (mate c) (.dma (rcvA 1))) 0 0 ∗ dutyTok ER (cell (mate c) (.dma (rcvA 2))) 0 0 ∗ dutyTok ER (cell c (.dma (sndB 0))) 0 0 ∗ dutyTok ER (cell c (.dma (sndB 1))) 0 0 ∗ dutyTok ER (cell c (.dma (sndB 2))) 0 0 ∗ dutyTok ER (cell (peer 0 c) (.dma (rcvB 0))) 0 0 ∗ dutyTok ER (cell (peer 1 c) (.dma (rcvB 1))) 0 0 ∗ dutyTok ER (cell (peer 2 c) (.dma (rcvB 2))) 0 0)
theorem over_tokens : bigSep tokens (fun x => (dutyTok ER x.1 x.2.1 x.2.2 : sProp 𝕄)) = bigSep Finset.univ minted := by
  unfold tokens; rw [bigSep_map, bigSep_univ_prod]
  refine bigSep_congr fun c _ => ?_
  rw [bigSep_univ_eq_bigSepL ([0, 1, 2, 3, 4, 5, 6, 7, 8, 9, 10, 11, 12, 13, 14, 15] : List (Fin 16)) (by decide) (by decide)]
  rfl

def peerEquiv (d : Fin 3) : Dev nD ≃ Dev nD := ⟨peer d, peer d, peer_peer d, peer_peer d⟩
theorem moved (d : Fin 3) (Φ : Dev nD → sProp 𝕄) : bigSep Finset.univ Φ ⊢ bigSep Finset.univ fun c => Φ (peer d c) :=
  Entails.of_eq (bigSep_univ_equiv (peerEquiv d) Φ)

/-- The tokens of the cells, each handed to the device that pays the duty. -/
theorem deal : bigSep Finset.univ (minted (F := F)) ⊢ bigSep Finset.univ (dealt (F := F)) := by
  unfold minted dealt
  simp only [bigSep_sep']
  iintro ⟨H0, H1, H2, H3, H4, H5, H6, H7, H8, H9, H10, H11, H12, H13, H14, H15⟩
  isplitl [H0]; · iapply (moved 0 fun c : Dev nD => dutyTok ER (cell c (.reg barA)) 0 0) $$ H0
  isplitl [H1]; · iapply (moved 0 fun c : Dev nD => dutyTok ER (cell c (.reg barB)) 0 0) $$ H1
  isplitl [H2]; · iapply (moved 1 fun c : Dev nD => dutyTok ER (cell c (.reg barB)) 0 1) $$ H2
  isplitl [H3]; · iapply (moved 2 fun c : Dev nD => dutyTok ER (cell c (.reg barB)) 0 2) $$ H3
  isplitl [H4]; · iexact H4
  isplitl [H5]; · iexact H5
  isplitl [H6]; · iexact H6
  isplitl [H7]; · iapply (moved 0 fun c : Dev nD => dutyTok ER (cell c (.dma (rcvA 0))) 0 0) $$ H7
  isplitl [H8]; · iapply (moved 0 fun c : Dev nD => dutyTok ER (cell c (.dma (rcvA 1))) 0 0) $$ H8
  isplitl [H9]; · iapply (moved 0 fun c : Dev nD => dutyTok ER (cell c (.dma (rcvA 2))) 0 0) $$ H9
  isplitl [H10]; · iexact H10
  isplitl [H11]; · iexact H11
  isplitl [H12]; · iexact H12
  isplitl [H13]; · iapply (moved 0 fun c : Dev nD => dutyTok ER (cell c (.dma (rcvB 0))) 0 0) $$ H13
  isplitl [H14]; · iapply (moved 1 fun c : Dev nD => dutyTok ER (cell c (.dma (rcvB 1))) 0 0) $$ H14
  iapply (moved 2 fun c : Dev nD => dutyTok ER (cell c (.dma (rcvB 2))) 0 0) $$ H15

/-! ## The launch credit -/

theorem tally_cell (c d : Dev nD) (sm sm' : SemLoc sig) (n : ℕ) :
    (tallyAt (cell d sm') () n : CellTallies nD τ sig Unit) (cell c sm) () = if d = c then (if sm' = sm then n else 0) else 0 := by
  rw [tallyAt_apply]
  by_cases h : d = c
  · subst h
    by_cases h' : sm' = sm
    · subst h'; simp
    · rw [if_pos rfl, if_neg h', if_neg fun e => h' (congrArg Prod.snd e.1).symm]
  · rw [if_neg h, if_neg fun e => h (congrArg (fun g : GSem nD τ sig => g.1.1) e.1).symm]
theorem sum_peer (k : Fin 3) (c : Dev nD) (n : ℕ) : (∑ d : Dev nD, if peer k d = c then n else 0) = n := by
  rw [Finset.sum_congr rfl fun d _ => show (if peer k d = c then n else 0) = if d = peer k c then n else 0 from
    if_congr ⟨fun h => by rw [← h, peer_peer], fun h => by rw [h, peer_peer]⟩ rfl rfl]
  rw [Finset.sum_ite_eq' Finset.univ (peer k c) fun _ => n, if_pos (Finset.mem_univ _)]
theorem sum_mate (c : Dev nD) (n : ℕ) : (∑ d : Dev nD, if mate d = c then n else 0) = n := sum_peer 0 c n

/-- What all the devices together owe to one semaphore of a device. -/
def total (sm : SemLoc sig) : ℕ :=
  ((if (.dma (rcvB 2) : SemLoc sig) = sm then credB 2 else 0) + (if (.dma (rcvB 1) : SemLoc sig) = sm then credB 1 else 0) + (if (.dma (rcvB 0) : SemLoc sig) = sm then credB 0 else 0) + (if (.reg barB : SemLoc sig) = sm then 1 else 0) + (if (.reg barB : SemLoc sig) = sm then 1 else 0) + (if (.reg barB : SemLoc sig) = sm then 1 else 0))
    + ((if (.dma (rcvA 2) : SemLoc sig) = sm then credA 2 else 0) + (if (.dma (rcvA 1) : SemLoc sig) = sm then credA 1 else 0) + (if (.dma (rcvA 0) : SemLoc sig) = sm then credA 0 else 0) + (if (.reg barA : SemLoc sig) = sm then 1 else 0))
theorem total_eq (c : Dev nD) (sm : SemLoc sig) : (∑ d : Dev nD, (dueB d + dueA d : CellTallies nD τ sig Unit) (cell c sm) ()) = total sm := by
  unfold dueB dueA total
  simp only [Pi.add_apply, Finsupp.add_apply, tally_cell, Finset.sum_add_distrib, sum_peer, sum_mate]
theorem credit (c : Dev nD) (sm : SemLoc sig) (n : ℕ) (h : total sm = n) :
    tallyOn (cell c sm) (launchCredit (Pipeline.owing fun d => dueB d + dueA d) 0 (cell c sm)) = (tallyAt (cell c sm) () n : CellTallies nD τ sig Unit) := by
  unfold tallyAt
  refine congrArg _ (Finsupp.ext fun u => ?_)
  cases u
  rw [Pipeline.launchCredit_owing, Finsupp.single_eq_same, total_eq, h]

/-- The semaphores a device waits on with launch credit. -/
def waited : Fin 8 ↪ SemLoc sig := ⟨![.reg barA, .reg barB, .dma (rcvA 0), .dma (rcvA 1), .dma (rcvA 2), .dma (rcvB 0), .dma (rcvB 1), .dma (rcvB 2)], by decide⟩
theorem over_waited (Φ : SemLoc sig → sProp 𝕄) : bigSep (Finset.univ.map waited) Φ
    = iprop(Φ (.reg barA) ∗ Φ (.reg barB) ∗ Φ (.dma (rcvA 0)) ∗ Φ (.dma (rcvA 1)) ∗ Φ (.dma (rcvA 2)) ∗ Φ (.dma (rcvB 0)) ∗ Φ (.dma (rcvB 1)) ∗ Φ (.dma (rcvB 2))) := by
  rw [bigSep_map]
  exact bigSep_univ_eq_bigSepL ([0, 1, 2, 3, 4, 5, 6, 7] : List (Fin 8)) (by decide) (by decide) _
theorem credits (c : Dev nD) : (Pipeline.launchCred (fun d => dueB d + dueA d) c : sProp 𝕄)
    ⊢ iprop(cred (tallyAt (cell c (.reg barA)) () 1) ∗ cred (tallyAt (cell c (.reg barB)) () 3)
      ∗ cred (tallyAt (cell c (.dma (rcvA 0))) () (credA 0)) ∗ cred (tallyAt (cell c (.dma (rcvA 1))) () (credA 1)) ∗ cred (tallyAt (cell c (.dma (rcvA 2))) () (credA 2)) ∗ cred (tallyAt (cell c (.dma (rcvB 0))) () (credB 0)) ∗ cred (tallyAt (cell c (.dma (rcvB 1))) () (credB 1)) ∗ cred (tallyAt (cell c (.dma (rcvB 2))) () (credB 2))) := by
  unfold Pipeline.launchCred
  iintro H
  ihave H' := (bigSep_part (Finset.subset_univ (Finset.univ.map waited))) $$ H
  rw [over_waited, credit c (.reg barA) 1 rfl, credit c (.reg barB) 3 rfl, credit c (.dma (rcvA 0)) (credA 0) (by unfold total; simp (decide := true) only [if_true, if_false, Nat.zero_add, Nat.add_zero]), credit c (.dma (rcvA 1)) (credA 1) (by unfold total; simp (decide := true) only [if_true, if_false, Nat.zero_add, Nat.add_zero]), credit c (.dma (rcvA 2)) (credA 2) (by unfold total; simp (decide := true) only [if_true, if_false, Nat.zero_add, Nat.add_zero]), credit c (.dma (rcvB 0)) (credB 0) (by unfold total; simp (decide := true) only [if_true, if_false, Nat.zero_add, Nat.add_zero]), credit c (.dma (rcvB 1)) (credB 1) (by unfold total; simp (decide := true) only [if_true, if_false, Nat.zero_add, Nat.add_zero]), credit c (.dma (rcvB 2)) (credB 2) (by unfold total; simp (decide := true) only [if_true, if_false, Nat.zero_add, Nat.add_zero])]
  exact BI.Entails.refl _

theorem unscoped0 (c : Dev nD) : (unscopedSems0 c : sProp 𝕄) = bigSep Finset.univ fun k : Fin 2 => semVal (cell c (.reg (![barA, barB] k))) 0 := by
  unfold unscopedSems0
  rw [show (Finset.univ.filter fun sm : SemLoc sig => ¬ sm.isScoped .tc) = Finset.univ.map ⟨fun k : Fin 2 => (SemLoc.reg (![barA, barB] k) : SemLoc sig), bars_inj⟩ from by decide,
    bigSep_map]
  rfl

/-! ## The launch -/

/-- The launch's own resource: the staging cells of the library, and the cells of this protocol. -/
def u₀ : UU :=
  (initOf (Pipeline.cells (Pipeline.pin (pcfgs (F := F)) adm) cellOf_inj) (Pipeline.launchToks (Pipeline.pin (pcfgs (F := F)) adm) cellOf_inj),
    launchOf bars scopeds tokens)
/-- It starts out on the first device. -/
def parked (X : sProp 𝕄) (c : Dev nD) : sProp 𝕄 := if c = 0 then X else iprop(emp)
theorem over_parked (X : sProp 𝕄) : bigSep Finset.univ (parked X) = X := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

/-- What a device takes from the launch of the protocol's resource. -/
def rights (c : Dev nD) : sProp 𝕄 := iprop((bigSep Finset.univ fun k : Fin 2 => atPos ER (cell c (.reg (![barA, barB] k))) 0 ∅ 0)
  ∗ (bigSep Finset.univ fun k : Fin 6 => openTok ER (cell c (ownSem k))) ∗ (bigSep Finset.univ fun k : Fin 6 => openTok ER (cell c (ownSemB k))) ∗ dealt c)
/-- And the rest of what it holds at launch. -/
def goods (c : Dev nD) : sProp 𝕄 := iprop(StableHlo.held (c : Thread nD τ) (Pipeline.ucRefs τ sig) (V0 m c)
  ∗ Pipeline.launchCred (fun d => dueB d + dueA d) c ∗ owes (c : Thread nD τ) (dueB c + dueA c) ∅ ∗ ∃ r, prngReg c r)

theorem over_two (Φ : Fin 2 → sProp 𝕄) : bigSep Finset.univ Φ = iprop(Φ 0 ∗ Φ 1) :=
  bigSep_univ_eq_bigSepL ([0, 1] : List (Fin 2)) (by decide) (by decide) Φ
theorem over_six (Φ : Fin 6 → sProp 𝕄) : bigSep Finset.univ Φ = iprop(Φ 0 ∗ Φ 1 ∗ Φ 2 ∗ Φ 3 ∗ Φ 4 ∗ Φ 5) :=
  bigSep_univ_eq_bigSepL ([0, 1, 2, 3, 4, 5] : List (Fin 6)) (by decide) (by decide) Φ

theorem E0_intro (κ : GSem nD τ sig → ℕ) (c : Dev nD) : iprop(records (sent m) κ ∗ (rights c ∗ goods m c))
    ⊢ iprop(StableHlo.held (c : Thread nD τ) (Pipeline.ucRefs τ sig) (V0 m c) ∗ E0 m c) := by
  unfold rights goods E0 ghostA ghostB dealt
  rw [over_two, over_six fun k => (openTok ER (cell c (ownSem k)) : sProp 𝕄), over_six fun k => (openTok ER (cell c (ownSemB k)) : sProp 𝕄)]
  iintro ⟨#HR, ⟨⟨Pa, Pb⟩, ⟨OSA0, OSA1, OSA2, ORA0, ORA1, ORA2⟩, ⟨OSB0, OSB1, OSB2, ORB0, ORB1, ORB2⟩, TbA, TbB0, TbB1, TbB2, TSA0, TSA1, TSA2, TRA0, TRA1, TRA2, TSB0, TSB1, TSB2, TRB0, TRB1, TRB2⟩, Hh, Hc, HO, Hp⟩
  ihave Hc' := (credits (F := F) c) $$ Hc
  icases Hc' with ⟨CbA, CbB, CA0, CA1, CA2, CB0, CB1, CB2⟩
  isplitl [Hh]; · iexact Hh
  isplitr; · iexists κ; iexact HR
  isplitl [Pa CbA TbA OSA0 TSA0 ORA0 TRA0 CA0 OSA1 TSA1 ORA1 TRA1 CA1 OSA2 TSA2 ORA2 TRA2 CA2]
  · isplitl [Pa]; · iexact Pa
    isplitl [CbA]; · iexact CbA
    isplitl [TbA]; · iexact TbA
    isplitl [OSA0]; · iexact OSA0
    isplitl [TSA0]; · iexact TSA0
    isplitl [ORA0]; · iexact ORA0
    isplitl [TRA0]; · iexact TRA0
    isplitl [CA0]; · iexact CA0
    isplitl [OSA1]; · iexact OSA1
    isplitl [TSA1]; · iexact TSA1
    isplitl [ORA1]; · iexact ORA1
    isplitl [TRA1]; · iexact TRA1
    isplitl [CA1]; · iexact CA1
    isplitl [OSA2]; · iexact OSA2
    isplitl [TSA2]; · iexact TSA2
    isplitl [ORA2]; · iexact ORA2
    isplitl [TRA2]; · iexact TRA2
    iexact CA2
  isplitl [Pb CbB TbB0 TbB1 TbB2 OSB0 TSB0 ORB0 TRB0 CB0 OSB1 TSB1 ORB1 TRB1 CB1 OSB2 TSB2 ORB2 TRB2 CB2]
  · isplitl [Pb]; · iexact Pb
    isplitl [CbB]; · iexact CbB
    isplitl [TbB0]; · iexact TbB0
    isplitl [TbB1]; · iexact TbB1
    isplitl [TbB2]; · iexact TbB2
    isplitl [OSB0]; · iexact OSB0
    isplitl [TSB0]; · iexact TSB0
    isplitl [ORB0]; · iexact ORB0
    isplitl [TRB0]; · iexact TRB0
    isplitl [CB0]; · iexact CB0
    isplitl [OSB1]; · iexact OSB1
    isplitl [TSB1]; · iexact TSB1
    isplitl [ORB1]; · iexact ORB1
    isplitl [TRB1]; · iexact TRB1
    isplitl [CB1]; · iexact CB1
    isplitl [OSB2]; · iexact OSB2
    isplitl [TSB2]; · iexact TSB2
    isplitl [ORB2]; · iexact ORB2
    isplitl [TRB2]; · iexact TRB2
    iexact CB2
  isplitl [Hp]; · iexact Hp
  unfold owing
  iexists ∅; iexact HO

/-- From what the launch hands out to the state before the first host operation. -/
theorem init : iprop((bigSep Finset.univ fun c : Dev nD => iprop(unscopedBufs c (fun b => m ((c : Thread nD τ).loc b)) ∗ unscopedSems0 c
      ∗ owes (c : Thread nD τ) (dueB c + dueA c) ∅ ∗ Pipeline.launchCred (fun d => dueB d + dueA d) c ∗ prngReg c (ρ c)
      ∗ parked (BI.own (ER (launchOf bars scopeds tokens))) c)) ∗ levAts L lv)
    ⊢ (|={Set.univ}=> bigSep Finset.univ fun c : Dev nD => iprop(StableHlo.held (c : Thread nD τ) (Pipeline.ucRefs τ sig) (V0 m c) ∗ E0 m c) : sProp 𝕄) := by
  have hone (c : Dev nD) : iprop(unscopedBufs c (fun b => m ((c : Thread nD τ).loc b)) ∗ unscopedSems0 c
        ∗ owes (c : Thread nD τ) (dueB c + dueA c) ∅ ∗ Pipeline.launchCred (fun d => dueB d + dueA d) c ∗ prngReg c (ρ c)
        ∗ parked (BI.own (ER (launchOf bars scopeds tokens))) c)
      ⊢ (iprop(goods m c ∗ ((bigSep Finset.univ fun k : Fin 2 => semVal (cell c (.reg (![barA, barB] k))) 0) ∗ parked (BI.own (ER (launchOf bars scopeds tokens))) c)) : sProp 𝕄) := by
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscoped0]
    unfold goods
    iintro ⟨Hh, Hs, HO, Hc, Hp, HG⟩
    isplitl [Hh HO Hc Hp]
    · isplitl [Hh]; · iexact Hh
      isplitl [Hc]; · iexact Hc
      isplitl [HO]; · iexact HO
      iexists (ρ c); iexact Hp
    isplitl [Hs] <;> iassumption
  iintro ⟨H, -⟩
  ihave H1 := (show (bigSep Finset.univ fun c : Dev nD => iprop(unscopedBufs c (fun b => m ((c : Thread nD τ).loc b)) ∗ unscopedSems0 c
        ∗ owes (c : Thread nD τ) (dueB c + dueA c) ∅ ∗ Pipeline.launchCred (fun d => dueB d + dueA d) c ∗ prngReg c (ρ c)
        ∗ parked (BI.own (ER (launchOf bars scopeds tokens))) c))
      ⊢ (bigSep Finset.univ fun c : Dev nD => iprop(goods m c ∗ ((bigSep Finset.univ fun k : Fin 2 => semVal (cell c (.reg (![barA, barB] k))) 0)
        ∗ parked (BI.own (ER (launchOf bars scopeds tokens))) c)) : sProp 𝕄) from bigSep_mono fun c _ => hone c) $$ H
  ihave H2 := bigSep_unpair $$ H1; icases H2 with ⟨Hg, H3⟩
  ihave H4 := bigSep_unpair $$ H3; icases H4 with ⟨Hv, HG⟩
  ihave Hu := (Entails.of_eq (over_parked (F := F) (BI.own (ER (launchOf bars scopeds tokens))))) $$ HG
  imod (Rounds.fund_launch ER (rd (sent m)) apart (fun g _ h => h) tokens) $$ [Hv Hu] with ⟨%κ, -, #Hinv, #Hr, Hat, Hopen, Htok⟩
  · isplitl [Hv]
    · iapply (Entails.of_eq (over_bars (F := F) fun g => (semVal g 0 : sProp 𝕄)).symm) $$ Hv
    · iexact Hu
  imodintro
  iapply (bigSep_with_persistent (R := records (sent m) κ) (Φ := fun c => iprop(rights c ∗ goods m c)) fun c _ => E0_intro m κ c)
  isplitr
  · ihave Hi := (bigSep_two_sets apart (Φ := fun g => cellInv ER (rd (sent m)) (κ g) g)) $$ Hinv
    icases Hi with ⟨Hi, Hj⟩
    ihave Hi' := (Entails.of_eq (over_bars (F := F) fun g => cellInv ER (rd (sent m)) (κ g) g)) $$ Hi
    ihave Hj' := (Entails.of_eq (over_scopeds (F := F) fun g => cellInv ER (rd (sent m)) (κ g) g)) $$ Hj
    icases Hj' with ⟨Hj, Hk⟩
    unfold records
    isplitl [Hi']; · iexact Hi'
    isplitl [Hj]; · iexact Hj
    isplitl [Hk]; · iexact Hk
    iapply (Entails.of_eq (over_bars (F := F) fun g => (reached ER g 0 : sProp 𝕄))) $$ Hr
  iapply bigSep_pair
  isplitr [Hg]
  · unfold rights
    ihave Ho := (Entails.of_eq (over_scopeds (F := F) fun g => (openTok ER g : sProp 𝕄))) $$ Hopen
    icases Ho with ⟨Ho, Ho'⟩
    iapply bigSep_pair; isplitl [Hat]; · iapply (Entails.of_eq (over_bars (F := F) fun g => (atPos ER g 0 ∅ 0 : sProp 𝕄))) $$ Hat
    iapply bigSep_pair; isplitl [Ho]; · iexact Ho
    iapply bigSep_pair; isplitl [Ho']; · iexact Ho'
    iapply (deal (F := F))
    iapply (Entails.of_eq (over_tokens (F := F))) $$ Htok
  · iexact Hg

/-! ## The run -/

theorem unscoped_sem : ∀ sm : SemLoc sig, sm.isScoped .tc = false → sm = .reg barA ∨ sm = .reg barB := by decide

set_option backward.isDefEq.respectTransparency.types false in
/-- From any memory with zero counters every weakly fair execution of @main terminates, nothing faulting; at the end every
    buffer of every device holds what `W8` says, and every semaphore counter is zero. -/
theorem run_main : θ_run defs (onTc (τ := τ) (main (F := F))) ⟨m, fun _ => 0, ρ⟩
    (fun r => (∀ c : Dev nD, ∀ b ∈ Pipeline.ucRefs τ sig, r.2.mem (c, b) = W8 m c b) ∧ r.2.sem = fun _ => 0) := by
  refine Pipeline.θ_run_regions_kit_dev_sems (pcfgs (F := F)) adm (pdats m) () cellOf_inj EP defs₀ 𝒱₀ L lv m ρ main
    (segs m 𝒱₀ L lv (fun _ => E0 m) () (pdats m) (reg0 m) (reg1 m) (reg2 m) (reg3 m))
    (fun c Q => by
      rewrite [main_chain c, Pipeline.Seg.run_eq_chain,
        show (segs m 𝒱₀ L lv (fun _ => E0 m) () (pdats m) (reg0 m) (reg1 m) (reg2 m) (reg3 m) c).map Pipeline.Seg.prog = [
          StableHlo.seq hostOps0, StableHlo.seq hostOps0_1, StableHlo.seq hostOps0_2, StableHlo.seq hostOps0_3,
          Prog.lift (.customCall (Pipeline.entry 0) ()), Prog.lift (.customCall (Pipeline.entry 1) ()),
          Prog.lift (.customCall (Pipeline.entry 2) ()), Prog.lift (.customCall (Pipeline.entry 3) ()) ] from rfl]
      dsimp (config := { failIfUnchanged := false }) only
      exact .rfl)
    (fun c => by simp only [segs, Pipeline.Seg.pipes_host, Pipeline.Seg.pipes_region, Pipeline.Seg.pipes_nil]; decide)
    (fun c => dueB c + dueA c) L_of_ne (parked (BI.own (ER (launchOf bars scopeds tokens)))) u₀
    (by
      unfold u₀
      iintro Hu
      ihave H := (ownU_pair _ _) $$ Hu
      icases H with ⟨HP, HX⟩
      imodintro
      isplitl [HP]; · iexact HP
      rw [over_parked]; iexact HX)
    (T₀ := fun c => iprop(StableHlo.held (c : Thread nD τ) (Pipeline.ucRefs τ sig) (V0 m c) ∗ E0 m c))
    (Tₙ := last m)
    (hch := fun c => ⟨.rfl, .rfl, .rfl, .rfl, pre0 m c, (post0 m c).trans (pre1 m c), (post1 m c).trans (pre2 m c), (post2 m c).trans (pre3 m c), post3 m c⟩)
    (hinit := init m ρ)
    (QY := fun c s => (∀ b ∈ Pipeline.ucRefs τ sig, s.mem (c, b) = W8 m c b) ∧ s.sem (cell c (.reg barA)) = 0 ∧ s.sem (cell c (.reg barB)) = 0)
    (hfin := fun c s' => ?_)
    (hQ := fun s h hs => ⟨fun c => (h c).1, sem_eq_zero hs fun c sm hsm => by
      rcases unscoped_sem sm hsm with rfl | rfl
      · exact (h c).2.1
      · exact (h c).2.2⟩)
  unfold last StableHlo.held
  iintro ⟨⟨Hh, Ha, Hb⟩, HSI⟩
  icombine HSI Ha gives %ha
  icombine HSI Hb gives %hb
  ihave Hr := (pointsTo_read_all (Pipeline.ucRefs τ sig) (fun b => ((c : Thread nD τ).1, b)) (W8 m c) s') $$ [Hh HSI]
  · isplitl [Hh] <;> iassumption
  icases Hr with ⟨%h, HSI⟩
  imodintro
  isplitr
  · ipureintro
    exact ⟨h, by simpa using ha, by simpa using hb⟩
  iexact HSI

end Cert.KernelIdeal.Talk

end
-- ==== Proof.KernelIdeal.Ends.lean ====
/-
  The end of a run of the gather kernel, read at the result and at the arguments.
-/
module

public import proofs.«01_k».proof.Proof.KernelIdeal.Launch

@[expose] public section

noncomputable section

namespace Cert.KernelIdeal.Talk

open Cert.KernelIdeal Cert.KernelIdeal.Gen
open Idealize.ShloMosaic Idealize.ShloMosaic.TcCoe Idealize.SL.Sem

variable {F : FTy → Type} [FloatOps F] [Named F] (m : (ℓ : Loc nD τ sig) → Buf (Elt F) ℓ) (ρ : Dev nD → PrngReg)

/-- A buffer of @main is one of those a run's end speaks of. -/
theorem mem_ucRefs (r : Ref sig .tc) (h : ¬(Proc.devRef .tc r : DevRef τ sig).isScoped = true) : (Proc.devRef .tc r : DevRef τ sig) ∈ Pipeline.ucRefs τ sig :=
  Finset.mem_filter.mpr ⟨StableHlo.devRef_mem_tcRefs r, h⟩

/-- On every device the run ends with the result at `W8`'s contents of it and the arguments as they were, and every semaphore
    counter at zero. -/
theorem ends : θ_run defs (onTc (τ := τ) (main (F := F))) ⟨m, fun _ => 0, ρ⟩
    (fun r => (∀ c : Dev nD, r.2.mem ((c.tc : Thread nD τ).loc main_v8) = W8 m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1 c _ (mem_ucRefs main_v8 (by decide)),
      (h.1 c _ (mem_ucRefs main_arg0 (by decide))).trans (W8_arg m c main_arg0 (by decide) (by decide) (by decide) (by decide) (by decide) (by decide) (by decide) (by decide)),
      (h.1 c _ (mem_ucRefs main_arg1 (by decide))).trans (W8_arg m c main_arg1 (by decide) (by decide) (by decide) (by decide) (by decide) (by decide) (by decide) (by decide)),
      (h.1 c _ (mem_ucRefs main_arg2 (by decide))).trans (W8_arg m c main_arg2 (by decide) (by decide) (by decide) (by decide) (by decide) (by decide) (by decide) (by decide)),
      (h.1 c _ (mem_ucRefs main_arg3 (by decide))).trans (W8_arg m c main_arg3 (by decide) (by decide) (by decide) (by decide) (by decide) (by decide) (by decide) (by decide)),
      (h.1 c _ (mem_ucRefs main_arg4 (by decide))).trans (W8_arg m c main_arg4 (by decide) (by decide) (by decide) (by decide) (by decide) (by decide) (by decide) (by decide)),
      (h.1 c _ (mem_ucRefs main_arg5 (by decide))).trans (W8_arg m c main_arg5 (by decide) (by decide) (by decide) (by decide) (by decide) (by decide) (by decide) (by decide)),
      (h.1 c _ (mem_ucRefs main_arg6 (by decide))).trans (W8_arg m c main_arg6 (by decide) (by decide) (by decide) (by decide) (by decide) (by decide) (by decide) (by decide)),
      (h.1 c _ (mem_ucRefs main_arg7 (by decide))).trans (W8_arg m c main_arg7 (by decide) (by decide) (by decide) (by decide) (by decide) (by decide) (by decide) (by decide))⟩, h.2⟩)
    (run_main m ρ)

end Cert.KernelIdeal.Talk

end
-- ==== Proof.Attention.lean ====
/-
  Latent attention over the extended reals, as sums of products: what both programs compute.
-/
module

public import Idealize.ShloMosaic.Lib.Pipeline.ValueKit

@[expose] public section

noncomputable section

namespace Cert.Mla

open Idealize.ShloMosaic

/-! ## One row of scores -/

/-- The score scale: one over the root of 128 + 32 columns. -/
abbrev scale : EReal := (((Real.sqrt 160)⁻¹ : ℝ) : EReal)
/-- The value a row's maximum starts from, as both programs print it: −∞. -/
abbrev lowest : EReal := Ideal.ofBits .f32 4286578688#32

/-- A row's exponentials, below its maximum. -/
def lifted (S : Fin 1024 → EReal) (t : Fin 1024) : EReal := Ideal.exp (S t - Finset.fold max lowest S Finset.univ)
/-- The softmax weight of position `t`. -/
def weight (S : Fin 1024 → EReal) (t : Fin 1024) : EReal := Ideal.div (lifted S t) (∑ u, lifted S u)

/-! ## The attention of the whole arrays -/

/-- Column `d` of head `h`, 128 columns a head; -/
def col (h : Fin 16) (d : Fin 128) : Fin 2048 := ⟨h.val * 128 + d.val, by omega⟩
/-- and 32 columns a head. -/
def rot (h : Fin 16) (d : Fin 32) : Fin 512 := ⟨h.val * 32 + d.val, by omega⟩
/-- The head a column belongs to. -/
def headOf (n : Fin 2048) : Fin 16 := ⟨n.val / 128, by omega⟩

variable (X : Fin 1024 → Fin 2048 → EReal) (D : Fin 2048 → Fin 256 → EReal) (K V : Fin 256 → Fin 2048 → EReal)
  (Q : Fin 2048 → Fin 2048 → EReal) (Qr : Fin 2048 → Fin 512 → EReal) (Kr : Fin 2048 → Fin 32 → EReal) (O : Fin 2048 → Fin 2048 → EReal)

/-- Row `t` through the latent space and up again: a key where `U` is the keys' weights, a value where it is the values'. -/
def lift (U : Fin 256 → Fin 2048 → EReal) (t : Fin 1024) (n : Fin 2048) : EReal := ∑ e, (∑ k, X t k * D k e) * U e n
/-- Head `h`'s score of position `t` for row `s`. -/
def score (h : Fin 16) (s t : Fin 1024) : EReal :=
  (∑ d, (∑ k, X s k * Q k (col h d)) * lift X D K t (col h d) + ∑ d, (∑ k, X s k * Qr k (rot h d)) * (∑ k, X t k * Kr k d)) * scale
/-- Column `n` of row `s`'s weighted values. -/
def mixed (s : Fin 1024) (n : Fin 2048) : EReal := ∑ t, lift X D V t n * weight (score X D K Q Qr Kr (headOf n) s) t
/-- The result. -/
def out (s : Fin 1024) (e : Fin 2048) : EReal := ∑ n, mixed X D K V Q Qr Kr s n * O n e

end Cert.Mla
end
-- ==== Proof.Reference.lean ====
/-
  The reference's result, entry by entry.
-/
module

public import proofs.«01_k».proof.Proof.Attention
public import proofs.«01_k».proof.Proof.Gen.ReferenceIdeal.Run

@[expose] public section

set_option maxRecDepth 16384

noncomputable section

namespace Cert.ReferenceIdeal

open Cert.ReferenceIdeal.Value Cert.Mla
open Idealize.ShloMosaic Idealize.ShloMosaic.TcCoe

variable (m : (ℓ : Loc nD τ sig) → Buf (Elt Ideal) ℓ) (c : Dev nD)

/-! ## The whole arrays, as tables -/

def argX (s : Fin 1024) (k : Fin 2048) : EReal := m ((c : Thread nD τ).loc main_arg0) (ix3 0 s k)
def argD (k : Fin 2048) (e : Fin 256) : EReal := m ((c : Thread nD τ).loc main_arg1) (ix2 k e)
def argK (e : Fin 256) (n : Fin 2048) : EReal := m ((c : Thread nD τ).loc main_arg2) (ix2 e n)
def argV (e : Fin 256) (n : Fin 2048) : EReal := m ((c : Thread nD τ).loc main_arg3) (ix2 e n)
def argQ (k : Fin 2048) (n : Fin 2048) : EReal := m ((c : Thread nD τ).loc main_arg4) (ix2 k n)
def argQr (k : Fin 2048) (n : Fin 512) : EReal := m ((c : Thread nD τ).loc main_arg5) (ix2 k n)
def argKr (k : Fin 2048) (d : Fin 32) : EReal := m ((c : Thread nD τ).loc main_arg6) (ix2 k d)
def argO (n : Fin 2048) (e : Fin 2048) : EReal := m ((c : Thread nD τ).loc main_arg7) (ix2 n e)

/-- The reference's scale: the reciprocal root of the word of 160. -/
theorem scale_eq : Ideal.rsqrt (Ideal.ofBits .f32 0x43200000#32) = scale := by
  have h : Ideal.ofBits .f32 0x43200000#32 = ((160 : ℝ) : EReal) := by
    simp [Ideal.ofBits, Ideal.ieee, -EReal.coe_mul]; norm_num
  rw [h, Ideal.rsqrt_coe, if_neg (by norm_num), if_neg (by norm_num)]

/-- The reference computes latent attention. -/
theorem result_apply (s : Fin 1024) (e : Fin 2048) : (res_main_v38 m c (ix3 0 s e) : EReal)
    = out (argX m c) (argD m c) (argK m c) (argV m c) (argQ m c) (argQr m c) (argKr m c) (argO m c) s e := by
  pointwise [res_main_v38]
  simp only [scale_eq]
  rfl

end Cert.ReferenceIdeal
end
-- ==== Proof.KernelIdeal.Operands.lean ====
/-
  What the kernels' operands are over the extended reals, entry by entry, in terms of a device's arguments.
-/
module

public import proofs.«01_k».proof.Proof.KernelIdeal.Contents
public import Idealize.ShloMosaic.Lib.Pipeline.ValueKit
public import Idealize.ShloMosaic.Lib.StableHlo.Run
public import Idealize.ShloMosaic.Lib.Claim

@[expose] public section

set_option maxRecDepth 16384

noncomputable section

namespace Cert.KernelIdeal.Talk

open Cert.KernelIdeal Cert.KernelIdeal.Gen
open Idealize.ShloMosaic Idealize.ShloMosaic.TcCoe

variable (m : (ℓ : Loc nD τ sig) → Buf (Elt Ideal) ℓ) (c : Dev nD)

/-! ## A device's arguments, as tables -/

def argX (s : Fin 1024) (k : Fin 2048) : EReal := m ((c : Thread nD τ).loc main_arg0) (ix3 0 s k)
def argD (k : Fin 2048) (e : Fin 128) : EReal := m ((c : Thread nD τ).loc main_arg1) (ix2 k e)
def argK (e : Fin 128) (n : Fin 2048) : EReal := m ((c : Thread nD τ).loc main_arg2) (ix2 e n)
def argV (e : Fin 128) (n : Fin 2048) : EReal := m ((c : Thread nD τ).loc main_arg3) (ix2 e n)
def argQ (k : Fin 2048) (n : Fin 2048) : EReal := m ((c : Thread nD τ).loc main_arg4) (ix2 k n)
def argQr (k : Fin 2048) (n : Fin 512) : EReal := m ((c : Thread nD τ).loc main_arg5) (ix2 k n)
def argKr (k : Fin 2048) (d : Fin 32) : EReal := m ((c : Thread nD τ).loc main_arg6) (ix2 k d)
def argO (n : Fin 2048) (e : Fin 2048) : EReal := m ((c : Thread nD τ).loc main_arg7) (ix2 n e)

/-! ## The host's padding -/

theorem sitofp_zero : (FloatOps.sitofp .bf16 0#32 : Ideal .bf16) = (0 : EReal) := by
  show ((((0#32 : BitVec 32).toInt : ℝ)) : EReal) = 0
  simp

/-- A matrix widened by 96 zero columns. -/
theorem pad_cols (x : FVec Ideal S2048x32 .bf16) (k : Fin 2048) (d : Fin 128) :
    pad S2048x128 ![0, 0] ![0, 96] ![0, 0] x (sitofp .bf16 (constantI S_ 32 0#32) : FVec Ideal S_ .bf16) pads_S2048x32_S2048x128_000_0960 h_S_ (ix2 k d)
      = if h : d.val < 32 then x (ix2 k ⟨d.val, h⟩) else (0 : EReal) := by
  pointwise [sitofp_zero]

/-- Sixteen heads of 32 columns, each widened by 96 zero columns. -/
theorem pad_heads (x : FVec Ideal S2048x512 .bf16) (k n : Fin 2048) :
    shapeCast S2048x2048 (pad S2048x16x128 ![0, 0, 0] ![0, 0, 96] ![0, 0, 0] (shapeCast S2048x16x32 x shapeCasts_S2048x512_S2048x16x32)
      (sitofp .bf16 (constantI S_ 32 0#32) : FVec Ideal S_ .bf16) pads_S2048x16x32_S2048x16x128_000_000_0960 h_S_) shapeCasts_S2048x16x128_S2048x2048 (ix2 k n)
      = if h : n.val % 128 < 32 then x (ix2 k ⟨n.val / 128 * 32 + n.val % 128, by omega⟩) else (0 : EReal) := by
  pointwise [sitofp_zero]
  by_cases h : n.val % 128 < 32
  · rw [dif_pos ⟨by omega, h⟩, dif_pos h]
  · rw [dif_neg fun hh => h hh.2, dif_neg h]

/-! ## The first kernel's operands -/

theorem idx0 : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] := (by decide +kernel : ∀ t : Fin grid0.N, _)

theorem x0_apply (s : Fin 1024) (k : Fin 2048) : x0 (V4 m) c (ix3 0 s k) = argX m c s k :=
  (show _ = V4 m c main_arg0 (ix3 0 s k) by blk_ext! [x0, in0, idx0 t0_0]).trans (congrFun ((V4_of m c main_arg0 (by decide)).trans <| (V3_of m c main_arg0 (by decide)).trans <|
    (V2_of m c main_arg0 (by decide)).trans (V1_of m c main_arg0 (by decide))) _)
theorem x1_apply (k : Fin 2048) (e : Fin 128) : x1 (V4 m) c (ix2 k e) = argD m c k e :=
  (show _ = V4 m c main_arg1 (ix2 k e) by blk_ext! [x1, in0, idx0 t0_0]).trans (congrFun ((V4_of m c main_arg1 (by decide)).trans <| (V3_of m c main_arg1 (by decide)).trans <|
    (V2_of m c main_arg1 (by decide)).trans (V1_of m c main_arg1 (by decide))) _)
theorem x2_apply (e : Fin 128) (n : Fin 2048) : x2 (V4 m) c (ix2 e n) = argK m c e n :=
  (show _ = V4 m c main_arg2 (ix2 e n) by blk_ext! [x2, in0, idx0 t0_0]).trans (congrFun ((V4_of m c main_arg2 (by decide)).trans <| (V3_of m c main_arg2 (by decide)).trans <|
    (V2_of m c main_arg2 (by decide)).trans (V1_of m c main_arg2 (by decide))) _)
theorem x3_apply (e : Fin 128) (n : Fin 2048) : x3 (V4 m) c (ix2 e n) = argV m c e n :=
  (show _ = V4 m c main_arg3 (ix2 e n) by blk_ext! [x3, in0, idx0 t0_0]).trans (congrFun ((V4_of m c main_arg3 (by decide)).trans <| (V3_of m c main_arg3 (by decide)).trans <|
    (V2_of m c main_arg3 (by decide)).trans (V1_of m c main_arg3 (by decide))) _)

/-- The padded rotary key weights: the 32 columns of the argument, then zeros. -/
theorem x4_apply (k : Fin 2048) (d : Fin 128) : x4 (V4 m) c (ix2 k d) = if h : d.val < 32 then argKr m c k ⟨d.val, h⟩ else 0 := by
  refine (show _ = V4 m c main_v4 (ix2 k d) by blk_ext! [x4, in0, idx0 t0_0]).trans ?_
  have e : V4 m c main_v4 = pad S2048x128 ![0, 0] ![0, 96] ![0, 0] (m ((c : Thread nD τ).loc main_arg6) : FVec Ideal S2048x32 .bf16)
      (sitofp .bf16 (constantI S_ 32 0#32) : FVec Ideal S_ .bf16) pads_S2048x32_S2048x128_000_0960 h_S_ := by after_results_simp <;> rfl
  rw [e]
  exact (pad_cols _ k d).trans (by split <;> rfl)

/-- The padded rotary query weights: of every head's 128 columns the first 32 are the argument's, the others zero. -/
theorem x5_apply (k : Fin 2048) (n : Fin 2048) : x5 (V4 m) c (ix2 k n)
    = if h : n.val % 128 < 32 then argQr m c k ⟨n.val / 128 * 32 + n.val % 128, by omega⟩ else 0 := by
  refine (show _ = V4 m c main_v3 (ix2 k n) by blk_ext! [x5, in0, idx0 t0_0]).trans ?_
  have e : V4 m c main_v3 = shapeCast S2048x2048 (pad S2048x16x128 ![0, 0, 0] ![0, 0, 96] ![0, 0, 0]
      (shapeCast S2048x16x32 (m ((c : Thread nD τ).loc main_arg5) : FVec Ideal S2048x512 .bf16) shapeCasts_S2048x512_S2048x16x32)
      (sitofp .bf16 (constantI S_ 32 0#32) : FVec Ideal S_ .bf16) pads_S2048x16x32_S2048x16x128_000_000_0960 h_S_) shapeCasts_S2048x16x128_S2048x2048 := by
    after_results_simp <;> rfl
  rw [e]
  exact (pad_heads _ k n).trans (by split <;> rfl)

end Cert.KernelIdeal.Talk
end
-- ==== Proof.KernelIdeal.Latent.lean ====
/-
  What the first kernel leaves, entry by entry over the extended reals.
-/
module

public import proofs.«01_k».proof.Proof.KernelIdeal.Operands
public import proofs.«01_k».proof.Proof.Attention

@[expose] public section

set_option maxRecDepth 16384

noncomputable section

namespace Cert.KernelIdeal.Talk

open Cert.KernelIdeal Cert.KernelIdeal.Gen Cert.Mla
open Idealize.ShloMosaic Idealize.ShloMosaic.TcCoe

variable (m : (ℓ : Loc nD τ sig) → Buf (Elt Ideal) ℓ) (c : Dev nD)

/-! ## The kernel's own arithmetic, on any operands -/

theorem pay3_apply (w : Vec Ideal S2048x128 .bf16) (k : Fin 2048) (e : Fin 128) : (k0_pay3 w (ix2 k e) : EReal) = w (ix2 k e) := by
  pointwise [k0_pay3]
theorem pay4_apply (w : Vec Ideal S128x2048 .bf16) (e : Fin 128) (n : Fin 2048) : (k0_pay4 w (ix2 e n) : EReal) = w (ix2 e n) := by
  pointwise [k0_pay4]
theorem pay5_apply (w : Vec Ideal S128x2048 .bf16) (e : Fin 128) (n : Fin 2048) : (k0_pay5 w (ix2 e n) : EReal) = w (ix2 e n) := by
  pointwise [k0_pay5]
theorem pay6_apply (x : Vec Ideal S1x1024x2048 .bf16) (s : Fin 1024) (k : Fin 2048) : (k0_pay6 x (ix2 s k) : EReal) = x (ix3 0 s k) := by
  pointwise [k0_pay6]

theorem keys_apply (T : Msgs Ideal) (x : Vec Ideal S1x1024x2048 .bf16) (t : Fin 1024) (n : Fin 2048) :
    (keys T c x (ix2 t n) : EReal) = ∑ e, (∑ k, x (ix3 0 t k) * T.s0 c (ix2 k e)) * T.s1 c (ix2 e n)
      + ∑ e, (∑ k, x (ix3 0 t k) * T.s0 (mate c) (ix2 k e)) * T.s1 (mate c) (ix2 e n) := by
  pointwise [keys, k0_pay1, k0_pay17, k0_pay16, k0_pay6, k0_pay18, k0_pay12, k0_pay11]
theorem vals_apply (T : Msgs Ideal) (x : Vec Ideal S1x1024x2048 .bf16) (t : Fin 1024) (n : Fin 2048) :
    (vals T c x (ix2 t n) : EReal) = ∑ e, (∑ k, x (ix3 0 t k) * T.s0 c (ix2 k e)) * T.s2 c (ix2 e n)
      + ∑ e, (∑ k, x (ix3 0 t k) * T.s0 (mate c) (ix2 k e)) * T.s2 (mate c) (ix2 e n) := by
  pointwise [vals, k0_pay2, k0_pay13, k0_pay6, k0_pay16, k0_pay11]
theorem rows_apply (x : Vec Ideal S1x1024x2048 .bf16) (s : Fin 256) (k : Fin 2048) :
    (rows c x (ix2 s k) : EReal) = x (ix3 0 ⟨256 * c.val + s.val, by have : c.val < 4 := c.isLt; omega⟩ k) := by
  have h3 : isDev c 3#32 ↔ c = 3 := isDev_iff c 3
  have h2 : isDev c 2#32 ↔ c = 2 := isDev_iff c 2
  have h1 : isDev c 1#32 ↔ c = 1 := isDev_iff c 1
  unfold rows
  by_cases e3 : c = 3
  · rw [if_pos (h3.mpr e3)]; subst e3; pointwise [k0_pay10, k0_pay6]; rfl
  rw [if_neg (mt h3.mp e3)]
  by_cases e2 : c = 2
  · rw [if_pos (h2.mpr e2)]; subst e2; pointwise [k0_pay9, k0_pay6]; rfl
  rw [if_neg (mt h2.mp e2)]
  by_cases e1 : c = 1
  · rw [if_pos (h1.mpr e1)]; subst e1; pointwise [k0_pay8, k0_pay6]; rfl
  rw [if_neg (mt h1.mp e1)]
  obtain rfl : c = 0 := by clear h1 h2 h3; revert c; decide
  pointwise [k0_pay7, k0_pay6]
theorem pay14_apply (x : FVec Ideal S1024x2048 .bf16) (w : Vec Ideal S2048x128 .bf16) (t : Fin 1024) (d : Fin 128) :
    (k0_pay14 x w (ix2 t d) : EReal) = ∑ k, x (ix2 t k) * w (ix2 k d) := by
  pointwise [k0_pay14]
theorem pay15_apply (x : Vec Ideal S256x2048 .bf16) (w : Vec Ideal S2048x2048 .bf16) (s : Fin 256) (n : Fin 2048) :
    (k0_pay15 x w (ix2 s n) : EReal) = ∑ k, x (ix2 s k) * w (ix2 k n) := by
  pointwise [k0_pay15]

/-! ## On a device's own arguments -/

/-- Half of a key or value: the row through one device's half of the latent space. -/
def part (X : Fin 1024 → Fin 2048 → EReal) (D : Fin 2048 → Fin 128 → EReal) (U : Fin 128 → Fin 2048 → EReal) (t : Fin 1024) (n : Fin 2048) : EReal :=
  ∑ e, (∑ k, X t k * D k e) * U e n

/-- A key or value: this device's half of the latent space and its mate's. -/
def lifted2 (U : Dev nD → Fin 128 → Fin 2048 → EReal) (t : Fin 1024) (n : Fin 2048) : EReal :=
  part (argX m c) (argD m c) (U c) t n + part (argX m c) (argD m (mate c)) (U (mate c)) t n
/-- The device's rows of the input. -/
def mine (s : Fin 256) : Fin 1024 := ⟨256 * c.val + s.val, by have : c.val < 4 := c.isLt; omega⟩

theorem key_apply (t : Fin 1024) (n : Fin 2048) : (W5 m c main_v5_0 (ix2 t n) : EReal) = lifted2 m c (argK m) t n := by
  rw [W5_v5_0, keys_apply]
  show ∑ e, (∑ k, x0 (V4 m) c (ix3 0 t k) * k0_pay3 (x1 (V4 m) c) (ix2 k e)) * k0_pay4 (x2 (V4 m) c) (ix2 e n)
      + ∑ e, (∑ k, x0 (V4 m) c (ix3 0 t k) * k0_pay3 (x1 (V4 m) (mate c)) (ix2 k e)) * k0_pay4 (x2 (V4 m) (mate c)) (ix2 e n) = _
  simp only [pay3_apply, pay4_apply, x0_apply, x1_apply, x2_apply]
  rfl
theorem value_apply (t : Fin 1024) (n : Fin 2048) : (W5 m c main_v5_1 (ix2 t n) : EReal) = lifted2 m c (argV m) t n := by
  rw [W5_v5_1, vals_apply]
  show ∑ e, (∑ k, x0 (V4 m) c (ix3 0 t k) * k0_pay3 (x1 (V4 m) c) (ix2 k e)) * k0_pay5 (x3 (V4 m) c) (ix2 e n)
      + ∑ e, (∑ k, x0 (V4 m) c (ix3 0 t k) * k0_pay3 (x1 (V4 m) (mate c)) (ix2 k e)) * k0_pay5 (x3 (V4 m) (mate c)) (ix2 e n) = _
  simp only [pay3_apply, pay5_apply, x0_apply, x1_apply, x3_apply]
  rfl
/-- The rotary keys: 32 columns, then zeros. -/
theorem rotaryKey_apply (t : Fin 1024) (d : Fin 128) : (W5 m c main_v5_2 (ix2 t d) : EReal)
    = if h : d.val < 32 then ∑ k, argX m c t k * argKr m c k ⟨d.val, h⟩ else 0 := by
  rw [W5_v5_2, pay14_apply]
  simp only [pay6_apply, x0_apply, x4_apply]
  by_cases h : d.val < 32
  · simp only [h, dif_pos]
  · simp only [h, dif_neg, not_false_iff, mul_zero, Finset.sum_const_zero]
theorem mine_apply (s : Fin 256) (k : Fin 2048) : (W5 m c main_v5_3 (ix2 s k) : EReal) = argX m c (mine c s) k := by
  rw [W5_v5_3, rows_apply]
  exact x0_apply m c _ k
/-- The rotary queries of the device's rows: of every head's 128 columns the first 32, then zeros. -/
theorem rotaryQuery_apply (s : Fin 256) (n : Fin 2048) : (W5 m c main_v5_4 (ix2 s n) : EReal)
    = if h : n.val % 128 < 32 then ∑ k, argX m c (mine c s) k * argQr m c k ⟨n.val / 128 * 32 + n.val % 128, by omega⟩ else 0 := by
  rw [W5_v5_4, pay15_apply]
  simp only [rows_apply, x0_apply, x5_apply]
  by_cases h : n.val % 128 < 32
  · simp only [h, dif_pos]; rfl
  · simp only [h, dif_neg, not_false_iff, mul_zero, Finset.sum_const_zero]

end Cert.KernelIdeal.Talk
end
-- ==== Proof.KernelIdeal.Queries.lean ====
/-
  The second kernel's array over the extended reals: the queries of a device's rows.
-/
module

public import proofs.«01_k».proof.Proof.KernelIdeal.Latent

@[expose] public section

set_option maxRecDepth 16384

noncomputable section

namespace Cert.KernelIdeal.Talk

open Cert.KernelIdeal Cert.KernelIdeal.Gen Cert.Mla
open Idealize.ShloMosaic Idealize.ShloMosaic.TcCoe Idealize.ShloMosaic.Pipeline

variable (m : (ℓ : Loc nD τ sig) → Buf (Elt Ideal) ℓ) (c : Dev nD)

theorem idx1 : ∀ t : Fin cfg1.N, win1_0.index t = ![0, 0] ∧ win1_1.index t = ![0, t.val] ∧ win1_2.index t = ![0, t.val] := (by decide +kernel : ∀ t : Fin grid1.N, _)

/-- The product of two arrays. -/
def product (x : Vec Ideal S256x2048 .bf16) (w : Vec Ideal S2048x2048 .bf16) : Vec Ideal S256x2048 .bf16 :=
  fun i => ∑ k : Fin 2048, (x (ix2 (i 0) k) * w (ix2 k (i 1)) : EReal)

theorem product_apply (x : Vec Ideal S256x2048 .bf16) (w : Vec Ideal S2048x2048 .bf16) (s : Fin 256) (n : Fin 2048) :
    (product x w (ix2 s n) : EReal) = ∑ k, x (ix2 s k) * w (ix2 k n) := rfl

/-- The array the second kernel leaves: the device's rows times the query weights. -/
theorem query_array : W6 m c main_v6 = product (W5 m c main_v5_3) (W5 m c main_arg4) := by
  rw [W6_v6]
  refine Dat.arrAt_eq_of_covers (dat1 (W5 m) c) 2 _ (by decide +kernel) fun t hf y => ?_
  generalize W5 m = W
  blk_simp
  show k1_pay1 (in1 W c 0 t) (in1 W c 1 t) y = _
  pointwise [k1_pay1, product]
  blk_point [in1, idx1 t]

theorem W5_arg4 : W5 m c main_arg4 = m ((c : Thread nD τ).loc main_arg4) :=
  (W5_of m c main_arg4 (by decide)).trans <| (V4_of m c main_arg4 (by decide)).trans <| (V3_of m c main_arg4 (by decide)).trans <|
    (V2_of m c main_arg4 (by decide)).trans (V1_of m c main_arg4 (by decide))

theorem query_apply (s : Fin 256) (n : Fin 2048) : (W6 m c main_v6 (ix2 s n) : EReal) = ∑ k, argX m c (mine c s) k * argQ m c k n := by
  refine (congrFun (query_array m c) (ix2 s n)).trans <| (product_apply _ _ s n).trans <| Finset.sum_congr rfl fun k _ => ?_
  exact congrArg₂ (fun a b : EReal => a * b) (mine_apply m c s k) (congrFun (W5_arg4 m c) (ix2 k n))

end Cert.KernelIdeal.Talk
end
-- ==== Proof.KernelIdeal.Heads.lean ====
/-
  The third kernel's array over the extended reals: a device's rows of the attention, through the output weights.
-/
module

public import proofs.«01_k».proof.Proof.KernelIdeal.Queries

@[expose] public section

set_option maxRecDepth 16384

noncomputable section

namespace Cert.KernelIdeal.Talk

open Cert.KernelIdeal Cert.KernelIdeal.Gen Cert.Mla
open Idealize.ShloMosaic Idealize.ShloMosaic.TcCoe Idealize.ShloMosaic.Pipeline

variable (m : (ℓ : Loc nD τ sig) → Buf (Elt Ideal) ℓ) (c : Dev nD)

theorem idx2 : ∀ t : Fin cfg2.N, win2_0.index t = ![0, t.val] ∧ win2_1.index t = ![0, t.val] ∧ win2_2.index t = ![0, t.val] ∧ win2_3.index t = ![0, 0]
    ∧ win2_4.index t = ![0, t.val] ∧ win2_5.index t = ![t.val, 0] := (by decide +kernel : ∀ t : Fin grid2.N, _)

/-- A row's scores against all positions: two products of 128 columns, scaled. -/
def scores (q p : Fin 128 → EReal) (K R : Fin 1024 → Fin 128 → EReal) (t : Fin 1024) : EReal :=
  (∑ d, q d * K t d + ∑ d, p d * R t d) * scale

/-- The kernel's scale, by its name. -/
theorem scale_eq : Named.named (F := Ideal) (φ := .f32) κ "scale" 0x3DA1E89B#32 = scale := IdealRules.named_const.ideal_named_scalar _ _ _ _ rfl

/-- One head's arithmetic, on any blocks. -/
theorem head_apply (q p : Vec Ideal S256x128 .bf16) (K R V : Vec Ideal S1024x128 .bf16) (O : Vec Ideal S128x2048 .bf16) (s : Fin 256) (e : Fin 2048) :
    (head q p K R V O (ix2 s e) : EReal)
      = ∑ d, (∑ t, weight (scores (fun d => q (ix2 s d)) (fun d => p (ix2 s d)) (fun t d => K (ix2 t d)) (fun t d => R (ix2 t d))) t * V (ix2 t d)) * O (ix2 d e) := by
  pointwise [head, k2_pay2, scale_eq]
  rfl

/-- The head a point of the third kernel's grid works on. -/
abbrev headNo (i : Fin cfg2.N) : Fin 16 := ⟨i.val, i.isLt⟩

variable (W : Vals Ideal)

theorem block2_0 (i : Fin cfg2.N) (s : Fin 256) (d : Fin 128) : in2 W c 0 i (ix2 s d) = W c main_v6 (ix2 s (col (headNo i) d)) := by blk_ext! [in2, idx2 i, headNo, col]
theorem block2_1 (i : Fin cfg2.N) (s : Fin 256) (d : Fin 128) : in2 W c 1 i (ix2 s d) = W c main_v5_4 (ix2 s (col (headNo i) d)) := by blk_ext! [in2, idx2 i, headNo, col]
theorem block2_2 (i : Fin cfg2.N) (t : Fin 1024) (d : Fin 128) : in2 W c 2 i (ix2 t d) = W c main_v5_0 (ix2 t (col (headNo i) d)) := by blk_ext! [in2, idx2 i, headNo, col]
theorem block2_3 (i : Fin cfg2.N) (t : Fin 1024) (d : Fin 128) : in2 W c 3 i (ix2 t d) = W c main_v5_2 (ix2 t d) := by blk_ext! [in2, idx2 i, headNo, col]
theorem block2_4 (i : Fin cfg2.N) (t : Fin 1024) (d : Fin 128) : in2 W c 4 i (ix2 t d) = W c main_v5_1 (ix2 t (col (headNo i) d)) := by blk_ext! [in2, idx2 i, headNo, col]
theorem block2_5 (i : Fin cfg2.N) (d : Fin 128) (e : Fin 2048) : in2 W c 5 i (ix2 d e) = W c main_arg7 (ix2 (col (headNo i) d) e) := by blk_ext! [in2, idx2 i, headNo, col]

/-- The accumulator after head `n` is the sum of the heads so far. -/
theorem accum_apply (n : ℕ) (h : n < cfg2.N) (s : Fin 256) (e : Fin 2048) :
    (accum W c n h (ix2 s e) : EReal) = ∑ i : Fin (n + 1), (headAt W c ⟨i.val, Nat.lt_of_lt_of_le i.isLt h⟩ (ix2 s e) : EReal) := by
  induction n with
  | zero => rw [Fin.sum_univ_one]; rfl
  | succ n ih =>
    rw [Fin.sum_univ_castSucc]
    refine (show (k2_pay1 (headAt W c ⟨n + 1, h⟩) (accum W c n (Nat.lt_of_succ_lt h)) (ix2 s e) : EReal)
      = accum W c n (Nat.lt_of_succ_lt h) (ix2 s e) + headAt W c ⟨n + 1, h⟩ (ix2 s e) by pointwise [k2_pay1]).trans ?_
    exact congrArg (fun a : EReal => a + headAt W c ⟨n + 1, h⟩ (ix2 s e)) (ih _)

/-- The array the third kernel leaves: the accumulator after the last head. -/
theorem attention_array : W7 m c main_v7 = accum (W6 m) c 15 (by decide +kernel) := by
  rw [W7_v7]
  exact Dat.arrAt_eq_of_after_last (dat2 (W6 m) c) 6 t2_15 (by decide +kernel) _ fun j => by blk_simp; rfl

theorem attention_apply (s : Fin 256) (e : Fin 2048) :
    (W7 m c main_v7 (ix2 s e) : EReal) = ∑ h : Fin 16, (headAt (W6 m) c ⟨h.val, h.isLt⟩ (ix2 s e) : EReal) :=
  (congrFun (attention_array m c) (ix2 s e)).trans (accum_apply c (W6 m) 15 _ s e)

theorem W6_arg7 : W6 m c main_arg7 = m ((c : Thread nD τ).loc main_arg7) :=
  (W6_of m c main_arg7 (by decide)).trans <| (W5_of m c main_arg7 (by decide)).trans <| (V4_of m c main_arg7 (by decide)).trans <|
    (V3_of m c main_arg7 (by decide)).trans <| (V2_of m c main_arg7 (by decide)).trans (V1_of m c main_arg7 (by decide))

end Cert.KernelIdeal.Talk
end
-- ==== Proof.KernelIdeal.Result.lean ====
/-
  The kernel's result over the extended reals: latent attention of the whole arrays, on every device.
-/
module

public import proofs.«01_k».proof.Proof.KernelIdeal.Heads

@[expose] public section

set_option maxRecDepth 16384

noncomputable section

namespace Cert.KernelIdeal.Talk

open Cert.KernelIdeal Cert.KernelIdeal.Gen Cert.Mla
open Idealize.ShloMosaic Idealize.ShloMosaic.TcCoe Idealize.ShloMosaic.Pipeline

variable (m : (ℓ : Loc nD τ sig) → Buf (Elt Ideal) ℓ)
  (X : Fin 1024 → Fin 2048 → EReal) (D : Fin 2048 → Fin 256 → EReal) (K V : Fin 256 → Fin 2048 → EReal)
  (Q : Fin 2048 → Fin 2048 → EReal) (Qr : Fin 2048 → Fin 512 → EReal) (Kr : Fin 2048 → Fin 32 → EReal) (O : Fin 2048 → Fin 2048 → EReal)

/-! ## The latent space in two halves -/

/-- Where a device's half of the latent space begins: the first half on the devices 0 and 1, the second on 2 and 3. -/
def half256 (c : Dev nD) (e : Fin 128) : Fin 256 := ⟨c.val / 2 * 128 + e.val, by have : c.val < 4 := c.isLt; omega⟩

/-- Every device holds the whole arrays, of the three latent weights its half. -/
structure Holds : Prop where
  x : ∀ c, argX m c = X
  d : ∀ c k e, argD m c k e = D k (half256 c e)
  k : ∀ c e n, argK m c e n = K (half256 c e) n
  v : ∀ c e n, argV m c e n = V (half256 c e) n
  q : ∀ c, argQ m c = Q
  qr : ∀ c, argQr m c = Qr
  kr : ∀ c, argKr m c = Kr
  o : ∀ c, argO m c = O

/-- A sum over the latent space is a device's half and its mate's. -/
theorem sum_halves (c : Dev nD) (f : Fin 256 → EReal) : ∑ e, f (half256 c e) + ∑ e, f (half256 (mate c) e) = ∑ e, f e := by
  rw [Fin.sum_univ_add (a := 128) (b := 128) f]
  by_cases h : c.val < 2
  · refine congrArg₂ (· + ·) (Finset.sum_congr rfl fun e _ => congrArg f (Fin.ext ?_)) (Finset.sum_congr rfl fun e _ => congrArg f (Fin.ext ?_))
    · show c.val / 2 * 128 + e.val = e.val
      omega
    · show (c.val + 2) % 4 / 2 * 128 + e.val = 128 + e.val
      omega
  · have h4 : c.val < 4 := c.isLt
    rw [add_comm]
    refine congrArg₂ (· + ·) (Finset.sum_congr rfl fun e _ => congrArg f (Fin.ext ?_)) (Finset.sum_congr rfl fun e _ => congrArg f (Fin.ext ?_))
    · show (c.val + 2) % 4 / 2 * 128 + e.val = e.val
      omega
    · show c.val / 2 * 128 + e.val = 128 + e.val
      omega

/-- The keys, or the values, of the two halves together. -/
theorem lifted2_eq (c : Dev nD) (u : Dev nD → Fin 128 → Fin 2048 → EReal) (U : Fin 256 → Fin 2048 → EReal) (hx : ∀ c, argX m c = X)
    (hd : ∀ c k e, argD m c k e = D k (half256 c e)) (hu : ∀ c e n, u c e n = U (half256 c e) n) (t : Fin 1024) (n : Fin 2048) :
    lifted2 m c u t n = lift X D U t n := by
  unfold lifted2 part lift
  simp only [hx, hd, hu]
  exact sum_halves c fun e => (∑ k, X t k * D k e) * U e n

/-! ## Zero columns -/

/-- A sum over columns of which all but the first 32 are zero. -/
theorem sum_padded (f : Fin 32 → EReal) : ∑ d : Fin 128, (if h : d.val < 32 then f ⟨d.val, h⟩ else 0) = ∑ d, f d := by
  rw [Fin.sum_univ_add (a := 32) (b := 96)]
  refine (congrArg₂ (· + ·) (Finset.sum_congr rfl fun d _ => dif_pos d.isLt) (Finset.sum_eq_zero fun d _ => dif_neg ?_)).trans (add_zero _)
  show ¬ 32 + d.val < 32
  omega

/-- A sum over all columns, head by head. -/
theorem sum_heads (f : Fin 2048 → EReal) : ∑ h : Fin 16, ∑ d : Fin 128, f (col h d) = ∑ n, f n := by
  rw [← Fintype.sum_prod_type']
  refine Fintype.sum_equiv (finProdFinEquiv (m := 16) (n := 128)) _ _ fun x => congrArg f (Fin.ext ?_)
  show x.1.val * 128 + x.2.val = x.2.val + 128 * x.1.val
  omega

/-! ## A device's rows -/

section Rows
variable {X D K V Q Qr Kr O} (H : Holds m X D K V Q Qr Kr O) (c : Dev nD)
include H

omit H in
/-- A rotary score's summand. -/
def rotaryTerm (h : Fin 16) (s : Fin 256) (t : Fin 1024) (d : Fin 128) : EReal :=
  (fun q k : EReal => q * k) (W5 m c main_v5_4 (ix2 s (col h d))) (W5 m c main_v5_2 (ix2 t d))

/-- The rotary part of a score: of 128 columns 32 count. -/
theorem rotary_sum (h : Fin 16) (s : Fin 256) (t : Fin 1024) :
    ∑ d, rotaryTerm m c h s t d = ∑ d, (∑ k, X (mine c s) k * Qr k (rot h d)) * (∑ k, X t k * Kr k d) := by
  refine (Finset.sum_congr rfl fun d _ => ?_).trans (sum_padded _)
  have hm : (col h d).val % 128 = d.val := by show (h.val * 128 + d.val) % 128 = d.val; omega
  have hd : (col h d).val / 128 = h.val := by show (h.val * 128 + d.val) / 128 = h.val; omega
  unfold rotaryTerm
  rw [rotaryQuery_apply, rotaryKey_apply, H.x, H.qr, H.kr]
  beta_reduce
  by_cases e : d.val < 32
  · rw [dif_pos (hm.symm ▸ e), dif_pos e, dif_pos e]
    refine congrArg (· * _) (Finset.sum_congr rfl fun k _ => congrArg (fun n => X (mine c s) k * Qr k n) (Fin.ext ?_))
    show (col h d).val / 128 * 32 + (col h d).val % 128 = h.val * 32 + d.val
    rw [hm, hd]
  · rw [dif_neg (hm.symm ▸ e), dif_neg e, zero_mul, dif_neg e]

/-- A row's scores. -/
theorem scores_eq (i : Fin cfg2.N) (s : Fin 256) (t : Fin 1024) :
    scores (fun d => in2 (W6 m) c 0 i (ix2 s d)) (fun d => in2 (W6 m) c 1 i (ix2 s d)) (fun t d => in2 (W6 m) c 2 i (ix2 t d)) (fun t d => in2 (W6 m) c 3 i (ix2 t d)) t
      = score X D K Q Qr Kr (headNo i) (mine c s) t := by
  unfold scores score
  refine congrArg (· * scale) (congrArg₂ (· + ·) (Finset.sum_congr rfl fun d _ => congrArg₂ (· * ·) ?_ ?_) ?_)
  · beta_reduce; rw [block2_0, query_apply, H.x, H.q]
  · beta_reduce; rw [block2_2, W6_of m c main_v5_0 (by decide), key_apply]
    exact lifted2_eq m X D c (argK m) K H.x H.d H.k t _
  · refine (Finset.sum_congr rfl fun d _ => ?_).trans (rotary_sum m H c (headNo i) s t)
    beta_reduce
    rw [block2_1, block2_3, W6_of m c main_v5_4 (by decide), W6_of m c main_v5_2 (by decide)]
    rfl

/-- What head `i` adds to a row. -/
theorem headAt_apply (i : Fin cfg2.N) (s : Fin 256) (e : Fin 2048) :
    (headAt (W6 m) c i (ix2 s e) : EReal) = ∑ d, mixed X D K V Q Qr Kr (mine c s) (col (headNo i) d) * O (col (headNo i) d) e := by
  unfold headAt
  rw [head_apply]
  refine Finset.sum_congr rfl fun d _ => congrArg₂ (· * ·) (Finset.sum_congr rfl fun t _ => ?_) ?_
  · rw [mul_comm]
    refine congrArg₂ (· * ·) ?_ (congrArg (fun S => weight S t) (funext fun t => ?_))
    · rw [block2_4, W6_of m c main_v5_1 (by decide), value_apply]
      exact lifted2_eq m X D c (argV m) V H.x H.d H.v t _
    · rw [scores_eq m H c i s t]
      refine congrArg (fun h => score X D K Q Qr Kr h (mine c s) t) (Fin.ext ?_)
      show i.val = (i.val * 128 + d.val) / 128
      omega
  · rw [block2_5, W6_arg7, ← H.o c]
    rfl

/-- The device's rows of the result. -/
theorem device_apply (s : Fin 256) (e : Fin 2048) : (W7 m c main_v7 (ix2 s e) : EReal) = out X D K V Q Qr Kr O (mine c s) e :=
  (attention_apply m c s e).trans <| (Finset.sum_congr rfl fun h _ => headAt_apply m H c _ s e).trans
    (sum_heads fun n => mixed X D K V Q Qr Kr (mine c s) n * O n e)

end Rows

/-! ## All rows -/

theorem idx3 : win3_0.index t3_0 = ![0, 0] := by decide +kernel

theorem oq_apply (W : Vals Ideal) (c : Dev nD) (s : Fin 256) (e : Fin 2048) : oq W c (ix2 s e) = W c main_v7 (ix2 s e) := by
  blk_ext! [oq, in3, idx3]

theorem sent_apply (x : Vec Ideal S256x2048 .f32) (s : Fin 256) (e : Fin 2048) : (k3_pay9 (k3_pay7 x) (ix3 0 s e) : EReal) = x (ix2 s e) := by
  pointwise [k3_pay9, k3_pay7]
theorem kept_apply (x : Vec Ideal S256x2048 .f32) (s : Fin 256) (e : Fin 2048) : (k3_pay8 x (ix3 0 s e) : EReal) = x (ix2 s e) := by
  pointwise [k3_pay8]

/-- The place of a row in its block of 256. -/
def within (s : Fin 1024) : Fin 256 := ⟨s.val - 256 * (s.val / 256), by omega⟩
theorem below_ix3 (s : Fin 1024) (e : Fin 2048) : below (ix3 0 s e) = ix3 0 (within s) e := by
  funext a
  fin_cases a <;> rfl

/-- Every device's result is the attention of the whole arrays. -/
theorem result_apply (H : Holds m X D K V Q Qr Kr O) (c : Dev nD) (s : Fin 1024) (e : Fin 2048) :
    (W8 m c main_v8 (ix3 0 s e) : EReal) = out X D K V Q Qr Kr O s e := by
  have hs : mine (blk (ix3 0 s e)) (within s) = s := Fin.ext (by show 256 * (s.val / 256) + (s.val - 256 * (s.val / 256)) = s.val; omega)
  rw [W8_v8]
  unfold gathered
  rw [below_ix3]
  refine Eq.trans ?_ ((device_apply m H (blk (ix3 0 s e)) (within s) e).trans (by rw [hs]))
  by_cases h : blk (ix3 0 s e) = c
  · rw [if_pos h, kept_apply, oq_apply, h]
  · rw [if_neg h]
    show k3_pay9 (k3_pay7 (oq (W7 m) (blk (ix3 0 s e)))) (ix3 0 (within s) e) = _
    rw [sent_apply, oq_apply]

end Cert.KernelIdeal.Talk
end
-- ==== Proof.Equation.lean ====
/-
  The equation: from arguments that agree, device by device, the kernel's result is the reference's.
-/
module

public import proofs.«01_k».proof.Proof.Reference
public import proofs.«01_k».proof.Proof.KernelIdeal.Result
public import Idealize.ShloMosaic.Lib.LayoutAt

@[expose] public section

set_option maxRecDepth 16384

noncomputable section

namespace Cert.Mla

open Idealize.ShloMosaic Idealize.ShloMosaic.TcCoe
open Cert.KernelIdeal.Talk (half256 Holds)

/-! ## A device's half of a whole array -/

theorem half_columns (c : Dev Cert.KernelIdeal.nD) (Y : (⟨2, ![2048, 256]⟩ : Shape).Idx → EReal) :
    Layout.blockN ⟨2, ![2048, 128]⟩ ⟨2, ![2048, 256]⟩ (Layout.meshBlock [2, 2] ![[], [0]] c) Y = fun i => Y (ix2 (i 0) (half256 c (i 1))) := by
  have h : ((Layout.meshBlock [2, 2] ![[], [0]] c) 0).val = 0 ∧ ((Layout.meshBlock [2, 2] ![[], [0]] c) 1).val = c.val / 2 := by revert c; decide
  obtain ⟨h0, h1⟩ := h
  funext i
  unfold half256
  shard_ext
theorem half_rows (c : Dev Cert.KernelIdeal.nD) (Y : (⟨2, ![256, 2048]⟩ : Shape).Idx → EReal) :
    Layout.blockN ⟨2, ![128, 2048]⟩ ⟨2, ![256, 2048]⟩ (Layout.meshBlock [2, 2] ![[0], []] c) Y = fun i => Y (ix2 (half256 c (i 0)) (i 1)) := by
  have h : ((Layout.meshBlock [2, 2] ![[0], []] c) 0).val = c.val / 2 ∧ ((Layout.meshBlock [2, 2] ![[0], []] c) 1).val = 0 := by revert c; decide
  obtain ⟨h0, h1⟩ := h
  funext i
  unfold half256
  shard_ext

/-! ## The two programs -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Every device's result is the reference's. -/
theorem result_eq (H : Holds m (Cert.ReferenceIdeal.argX m' 0) (Cert.ReferenceIdeal.argD m' 0) (Cert.ReferenceIdeal.argK m' 0) (Cert.ReferenceIdeal.argV m' 0)
    (Cert.ReferenceIdeal.argQ m' 0) (Cert.ReferenceIdeal.argQr m' 0) (Cert.ReferenceIdeal.argKr m' 0) (Cert.ReferenceIdeal.argO m' 0)) (c : Dev Cert.KernelIdeal.nD) :
    Cert.KernelIdeal.Talk.W8 m c Cert.KernelIdeal.main_v8 = Cert.ReferenceIdeal.Value.res_main_v38 m' 0 := by
  funext i
  obtain ⟨z, s, e, rfl⟩ : ∃ (z : Fin 1) (s : Fin 1024) (e : Fin 2048), i = ix3 z s e := ⟨i 0, i 1, i 2, by funext a; fin_cases a <;> rfl⟩
  obtain rfl : z = 0 := Subsingleton.elim _ _
  exact (Cert.KernelIdeal.Talk.result_apply m _ _ _ _ _ _ _ _ H c s e).trans (Cert.ReferenceIdeal.result_apply m' 0 s e).symm

/-- Arguments that agree, device by device, are the whole arrays' parts. -/
theorem holds (h : ∀ c : Dev Cert.KernelIdeal.nD,
    m ((c : Thread Cert.KernelIdeal.nD Cert.KernelIdeal.τ).loc Cert.KernelIdeal.main_arg0) = m' (((0 : Dev Cert.ReferenceIdeal.nD) : Thread Cert.ReferenceIdeal.nD Cert.ReferenceIdeal.τ).loc Cert.ReferenceIdeal.main_arg0)
    ∧ m ((c : Thread Cert.KernelIdeal.nD Cert.KernelIdeal.τ).loc Cert.KernelIdeal.main_arg1) = Layout.blockN ⟨2, ![2048, 128]⟩ ⟨2, ![2048, 256]⟩ (Layout.meshBlock [2, 2] ![[], [0]] c) (m' (((0 : Dev Cert.ReferenceIdeal.nD) : Thread Cert.ReferenceIdeal.nD Cert.ReferenceIdeal.τ).loc Cert.ReferenceIdeal.main_arg1))
    ∧ m ((c : Thread Cert.KernelIdeal.nD Cert.KernelIdeal.τ).loc Cert.KernelIdeal.main_arg2) = Layout.blockN ⟨2, ![128, 2048]⟩ ⟨2, ![256, 2048]⟩ (Layout.meshBlock [2, 2] ![[0], []] c) (m' (((0 : Dev Cert.ReferenceIdeal.nD) : Thread Cert.ReferenceIdeal.nD Cert.ReferenceIdeal.τ).loc Cert.ReferenceIdeal.main_arg2))
    ∧ m ((c : Thread Cert.KernelIdeal.nD Cert.KernelIdeal.τ).loc Cert.KernelIdeal.main_arg3) = Layout.blockN ⟨2, ![128, 2048]⟩ ⟨2, ![256, 2048]⟩ (Layout.meshBlock [2, 2] ![[0], []] c) (m' (((0 : Dev Cert.ReferenceIdeal.nD) : Thread Cert.ReferenceIdeal.nD Cert.ReferenceIdeal.τ).loc Cert.ReferenceIdeal.main_arg3))
    ∧ m ((c : Thread Cert.KernelIdeal.nD Cert.KernelIdeal.τ).loc Cert.KernelIdeal.main_arg4) = m' (((0 : Dev Cert.ReferenceIdeal.nD) : Thread Cert.ReferenceIdeal.nD Cert.ReferenceIdeal.τ).loc Cert.ReferenceIdeal.main_arg4)
    ∧ m ((c : Thread Cert.KernelIdeal.nD Cert.KernelIdeal.τ).loc Cert.KernelIdeal.main_arg5) = m' (((0 : Dev Cert.ReferenceIdeal.nD) : Thread Cert.ReferenceIdeal.nD Cert.ReferenceIdeal.τ).loc Cert.ReferenceIdeal.main_arg5)
    ∧ m ((c : Thread Cert.KernelIdeal.nD Cert.KernelIdeal.τ).loc Cert.KernelIdeal.main_arg6) = m' (((0 : Dev Cert.ReferenceIdeal.nD) : Thread Cert.ReferenceIdeal.nD Cert.ReferenceIdeal.τ).loc Cert.ReferenceIdeal.main_arg6)
    ∧ m ((c : Thread Cert.KernelIdeal.nD Cert.KernelIdeal.τ).loc Cert.KernelIdeal.main_arg7) = m' (((0 : Dev Cert.ReferenceIdeal.nD) : Thread Cert.ReferenceIdeal.nD Cert.ReferenceIdeal.τ).loc Cert.ReferenceIdeal.main_arg7)) :
    Holds m (Cert.ReferenceIdeal.argX m' 0) (Cert.ReferenceIdeal.argD m' 0) (Cert.ReferenceIdeal.argK m' 0) (Cert.ReferenceIdeal.argV m' 0)
      (Cert.ReferenceIdeal.argQ m' 0) (Cert.ReferenceIdeal.argQr m' 0) (Cert.ReferenceIdeal.argKr m' 0) (Cert.ReferenceIdeal.argO m' 0) where
  x c := funext fun s => funext fun k => congrFun (h c).1 (ix3 0 s k)
  d c k e := (congrFun (h c).2.1 (ix2 k e)).trans (congrFun (half_columns c _) (ix2 k e))
  k c e n := (congrFun (h c).2.2.1 (ix2 e n)).trans (congrFun (half_rows c _) (ix2 e n))
  v c e n := (congrFun (h c).2.2.2.1 (ix2 e n)).trans (congrFun (half_rows c _) (ix2 e n))
  q c := funext fun k => funext fun n => congrFun (h c).2.2.2.2.1 (ix2 k n)
  qr c := funext fun k => funext fun n => congrFun (h c).2.2.2.2.2.1 (ix2 k n)
  kr c := funext fun k => funext fun d => congrFun (h c).2.2.2.2.2.2.1 (ix2 k d)
  o c := funext fun n => funext fun e => congrFun (h c).2.2.2.2.2.2.2 (ix2 n e)

end

end Cert.Mla
end
-- ==== Proof.lean ====
/-
  The certificate of latent attention over a 2 × 2 mesh. The run of the kernel is proved once for any float values
  (Proof/KernelIdeal/ and, but for the named constant, word for word Proof/Kernel/); the reference's run is the generated one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.Equation
public import Idealize.ShloMosaic.Lib.Quiescent

@[expose] public section

noncomputable section

namespace Cert.Proof

open Idealize.ShloMosaic Idealize.SL.Sem

/-- The kernel, in the machine's floats, terminates without a fault, keeps its arguments and leaves every semaphore at zero. -/
theorem frame_kernel : Cert.quiescent_Kernel := fun m ρ _ =>
  (θ_run Cert.Kernel.defs _ _).mono (fun _ h => ⟨fun c => (h.1 c).2, h.2⟩) (Cert.Kernel.Talk.ends (F := Bits) m ρ)

/-- The same over the extended reals. -/
theorem frame_kernelIdeal : Cert.quiescent_KernelIdeal := fun m ρ _ =>
  (θ_run Cert.KernelIdeal.defs _ _).mono (fun _ h => ⟨fun c => (h.1 c).2, h.2⟩) (Cert.KernelIdeal.Talk.ends (F := Ideal) m ρ)

/-- The reference terminates and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's reading over the extended reals differs in one constant: the score scale is read as one over the root of 160. -/
theorem preserves_kernel : Cert.preserves_Kernel_KernelIdeal :=
  IdealRules.named_const.statement Cert.KernelIdeal.κ "scale" .f32 0x3DA1E89B#32 (((Real.sqrt 160)⁻¹ : ℝ) : EReal) rfl

/-- From arguments that agree, device by device, every device's result is the reference's, over the extended reals. -/
theorem algebraic_kernel : Cert.algebraic_KernelIdeal_ReferenceIdeal := fun m g m' g' _ h =>
  ⟨Cert.ReferenceIdeal.Value.res_main_v38 m' 0,
    (θ_run Cert.KernelIdeal.defs _ _).mono (fun _ r c => ⟨(r.1 c).1.trans (Cert.Mla.result_eq m m' (Cert.Mla.holds m m' h) c), (r.1 c).2⟩)
      (Cert.KernelIdeal.Talk.ends (F := Ideal) m g),
    (θ_run Cert.ReferenceIdeal.defs _ _).mono (fun _ r => r 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_reference, preserves_kernel, algebraic_kernel⟩

end Cert.Proof

end
